-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v139_0)) (v1 : (c : Dev Cert.KernelIdeal.nD) → Buf (Elt Ideal) ((c.tc : Thread Cert.KernelIdeal.nD Cert.KernelIdeal.τ).loc Cert.KernelIdeal.main_v139_1)) (v2 : (c : Dev Cert.KernelIdeal.nD) → Buf (Elt Ideal) ((c.tc : Thread Cert.KernelIdeal.nD Cert.KernelIdeal.τ).loc Cert.KernelIdeal.main_v139_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139_0) = v0 c
          ∧ r.2.mem ((c.tc : Thread Cert.KernelIdeal.nD Cert.KernelIdeal.τ).loc Cert.KernelIdeal.main_v139_1) = v1 c
          ∧ r.2.mem ((c.tc : Thread Cert.KernelIdeal.nD Cert.KernelIdeal.τ).loc Cert.KernelIdeal.main_v139_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)) (v4 : (c : Dev Cert.Kernel6Ideal.nD) → Buf (Elt Ideal) ((c.tc : Thread Cert.Kernel6Ideal.nD Cert.Kernel6Ideal.τ).loc Cert.Kernel6Ideal.main_v3_4)) (v5 : (c : Dev Cert.Kernel6Ideal.nD) → Buf (Elt Ideal) ((c.tc : Thread Cert.Kernel6Ideal.nD Cert.Kernel6Ideal.τ).loc Cert.Kernel6Ideal.main_v3_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_v3_4) = v4 c
          ∧ r.2.mem ((c.tc : Thread Cert.Kernel6Ideal.nD Cert.Kernel6Ideal.τ).loc Cert.Kernel6Ideal.main_v3_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_v14) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_v19) = v4 c
          ∧ r.2.mem ((c.tc : Thread Cert.Reference6Ideal.nD Cert.Reference6Ideal.τ).loc Cert.Reference6Ideal.main_v17) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2048x512 : Shape := ⟨2, ![2048, 512]⟩
abbrev S2048 : Shape := ⟨1, ![2048]⟩
abbrev S2048x8 : Shape := ⟨2, ![2048, 8]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg5 : FVec F S2048x8 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x8 .f32 := Host.absf main_arg5
  let main_cst_6 : FVec F S_ .f32 := constant S_ .f32 0x7F800000#32
  let main_v20 : FVec F S2048x8 .f32 := broadcastInDim S2048x8 ![] bcast_S_S2048x8 main_cst_6
  let main_v21 : IVec S2048x8 1 := cmpf .olt main_v19 main_v20
  let main_c_7 : IVec S_ 1 := constantI S_ 1 1#1
  let main_v22 : IVec S_ 1 := (fun x v => Host.reduce IntOp.andi x v reducesTo_S2048x8_S_d0_1 h_S_) main_v21 main_c_7
  let main_v23 : IVec S_ 1 := andi main_v18 main_v22
  main_v23

def fn {F : FTy → Type} [FloatOps F] (main_arg0 : FVec F S2048x512 .f32) (main_arg1 : FVec F S2048x512 .f32) (main_arg2 : FVec F S2048x512 .f32) (main_arg3 : IVec S2048 32) (main_arg4 : FVec F S2048x512 .f32) (main_arg5 : FVec F S2048x8 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg5 main_v13 main_v16
-- ==== Kernel.lean ====
abbrev S2048x512 : Shape := ⟨2, ![2048, 512]⟩
abbrev S2048 : Shape := ⟨1, ![2048]⟩
abbrev S2048x8 : Shape := ⟨2, ![2048, 8]⟩
abbrev S8 : Shape := ⟨1, ![8]⟩
abbrev S_ : Shape := ⟨0, ![]⟩
abbrev S8x1 : Shape := ⟨2, ![8, 1]⟩
abbrev S1x2048 : Shape := ⟨2, ![1, 2048]⟩
abbrev S8x2048 : Shape := ⟨2, ![8, 2048]⟩
abbrev S128 : Shape := ⟨1, ![128]⟩
abbrev S1x2048x1x8 : Shape := ⟨4, ![1, 2048, 1, 8]⟩
abbrev S1x2048x16x8 : Shape := ⟨4, ![1, 2048, 16, 8]⟩
abbrev S2048x128 : Shape := ⟨2, ![2048, 128]⟩
abbrev S2048x8x64 : Shape := ⟨3, ![2048, 8, 64]⟩
abbrev S2048x1x8 : Shape := ⟨3, ![2048, 1, 8]⟩
abbrev S2048x8x8 : Shape := ⟨3, ![2048, 8, 8]⟩
abbrev S2048x8x16 : Shape := ⟨3, ![2048, 8, 16]⟩
abbrev S2048x8x48 : Shape := ⟨3, ![2048, 8, 48]⟩
abbrev S128x16x8x64 : Shape := ⟨4, ![128, 16, 8, 64]⟩
abbrev S16x8x128x128 : Shape := ⟨4, ![16, 8, 128, 128]⟩
abbrev S128x1 : Shape := ⟨2, ![128, 1]⟩
abbrev S1x128 : Shape := ⟨2, ![1, 128]⟩
abbrev S128x128 : Shape := ⟨2, ![128, 128]⟩
abbrev S1x1x128x128 : Shape := ⟨4, ![1, 1, 128, 128]⟩
abbrev S16x8x128 : Shape := ⟨3, ![16, 8, 128]⟩
abbrev S16x8x128x1 : Shape := ⟨4, ![16, 8, 128, 1]⟩
abbrev S16x8x64x128 : Shape := ⟨4, ![16, 8, 64, 128]⟩
abbrev S128x16x8 : Shape := ⟨3, ![128, 16, 8]⟩
abbrev S8x128 : Shape := ⟨2, ![8, 128]⟩
abbrev S128x8192 : Shape := ⟨2, ![128, 8192]⟩
abbrev S2048x8x1 : Shape := ⟨3, ![2048, 8, 1]⟩
abbrev S128x2048 : Shape := ⟨2, ![128, 2048]⟩
abbrev S128x1024 : Shape := ⟨2, ![128, 1024]⟩
abbrev S128x256 : Shape := ⟨2, ![128, 256]⟩
abbrev S128x512 : Shape := ⟨2, ![128, 512]⟩

abbrev nBuf : Space → Nat
  | .hbm => 199
  | .vmem => 27
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048, .i32⟩
  | 4 => ⟨S2048x512, .f32⟩
  | 5 => ⟨S2048x8, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8x1, .f32⟩
  | 15 => ⟨S2048, .f32⟩
  | 16 => ⟨S1x2048, .f32⟩
  | 17 => ⟨S8x2048, .f32⟩
  | 18 => ⟨S8x2048, .f32⟩
  | 19 => ⟨S8x2048, .f32⟩
  | 20 => ⟨S8x2048, .f32⟩
  | 21 => ⟨S8x2048, .f32⟩
  | 22 => ⟨S128, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S128, .i32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i1⟩
  | 37 => ⟨S_, .i32⟩
  | 38 => ⟨S_, .i1⟩
  | 39 => ⟨S128, .i1⟩
  | 40 => ⟨S128, .i1⟩
  | 41 => ⟨S128, .i1⟩
  | 42 => ⟨S128, .i32⟩
  | 43 => ⟨S128, .i32⟩
  | 44 => ⟨S128, .i32⟩
  | 45 => ⟨S2048x8, .f32⟩
  | 46 => ⟨S1x2048x1x8, .f32⟩
  | 47 => ⟨S1x2048x16x8, .f32⟩
  | 48 => ⟨S2048x128, .f32⟩
  | 49 => ⟨S2048x8, .f32⟩
  | 50 => ⟨S1x2048x1x8, .f32⟩
  | 51 => ⟨S1x2048x16x8, .f32⟩
  | 52 => ⟨S2048x128, .f32⟩
  | 53 => ⟨S_, .i32⟩
  | 54 => ⟨S128, .i32⟩
  | 55 => ⟨S128, .i1⟩
  | 56 => ⟨S_, .f32⟩
  | 57 => ⟨S_, .f32⟩
  | 58 => ⟨S2048x128, .i1⟩
  | 59 => ⟨S2048x128, .f32⟩
  | 60 => ⟨S2048x128, .f32⟩
  | 61 => ⟨S_, .i32⟩
  | 62 => ⟨S128, .i32⟩
  | 63 => ⟨S128, .i1⟩
  | 64 => ⟨S2048x128, .f32⟩
  | 65 => ⟨S_, .f32⟩
  | 66 => ⟨S_, .f32⟩
  | 67 => ⟨S2048x128, .i1⟩
  | 68 => ⟨S2048x128, .f32⟩
  | 69 => ⟨S2048x128, .f32⟩
  | 70 => ⟨S_, .i32⟩
  | 71 => ⟨S128, .i32⟩
  | 72 => ⟨S128, .i1⟩
  | 73 => ⟨S_, .i32⟩
  | 74 => ⟨S128, .i32⟩
  | 75 => ⟨S128, .i1⟩
  | 76 => ⟨S128, .i1⟩
  | 77 => ⟨S_, .f32⟩
  | 78 => ⟨S_, .f32⟩
  | 79 => ⟨S2048x128, .i1⟩
  | 80 => ⟨S2048x128, .f32⟩
  | 81 => ⟨S2048x128, .f32⟩
  | 82 => ⟨S2048x8x64, .f32⟩
  | 83 => ⟨S2048x8, .f32⟩
  | 84 => ⟨S2048x8, .f32⟩
  | 85 => ⟨S2048x1x8, .f32⟩
  | 86 => ⟨S2048x1x8, .f32⟩
  | 87 => ⟨S2048x8x8, .f32⟩
  | 88 => ⟨S2048x8x8, .f32⟩
  | 89 => ⟨S2048x8x8, .f32⟩
  | 90 => ⟨S2048x8x8, .f32⟩
  | 91 => ⟨S2048x8x8, .f32⟩
  | 92 => ⟨S2048x8x8, .f32⟩
  | 93 => ⟨S2048x8x8, .f32⟩
  | 94 => ⟨S2048x8x8, .f32⟩
  | 95 => ⟨S2048x8x8, .f32⟩
  | 96 => ⟨S2048x8x8, .f32⟩
  | 97 => ⟨S2048x8x8, .f32⟩
  | 98 => ⟨S2048x8x8, .f32⟩
  | 99 => ⟨S2048x8x16, .f32⟩
  | 100 => ⟨S2048x8x48, .f32⟩
  | 101 => ⟨S2048x8x64, .f32⟩
  | 102 => ⟨S2048x8x64, .f32⟩
  | 103 => ⟨S2048x8, .f32⟩
  | 104 => ⟨S2048x8, .f32⟩
  | 105 => ⟨S2048x1x8, .f32⟩
  | 106 => ⟨S2048x1x8, .f32⟩
  | 107 => ⟨S2048x8x8, .f32⟩
  | 108 => ⟨S2048x8x8, .f32⟩
  | 109 => ⟨S2048x8x8, .f32⟩
  | 110 => ⟨S2048x8x8, .f32⟩
  | 111 => ⟨S2048x8x8, .f32⟩
  | 112 => ⟨S2048x8x8, .f32⟩
  | 113 => ⟨S2048x8x8, .f32⟩
  | 114 => ⟨S2048x8x8, .f32⟩
  | 115 => ⟨S2048x8x8, .f32⟩
  | 116 => ⟨S2048x8x8, .f32⟩
  | 117 => ⟨S2048x8x8, .f32⟩
  | 118 => ⟨S2048x8x8, .f32⟩
  | 119 => ⟨S2048x8x16, .f32⟩
  | 120 => ⟨S2048x8x48, .f32⟩
  | 121 => ⟨S2048x8x64, .f32⟩
  | 122 => ⟨S2048x8x64, .f32⟩
  | 123 => ⟨S128x16x8x64, .f32⟩
  | 124 => ⟨S128x16x8x64, .f32⟩
  | 125 => ⟨S128x16x8x64, .f32⟩
  | 126 => ⟨S16x8x128x128, .f32⟩
  | 127 => ⟨S_, .f32⟩
  | _ => ⟨S2048x512, .f32⟩

abbrev hbmTy0_1 (i : Nat) : BufTy := match i % 128 with
  | 0 => ⟨S16x8x128x128, .f32⟩
  | 1 => ⟨S16x8x128x128, .f32⟩
  | 2 => ⟨S128, .i32⟩
  | 3 => ⟨S128x1, .i32⟩
  | 4 => ⟨S128, .i32⟩
  | 5 => ⟨S1x128, .i32⟩
  | 6 => ⟨S128x128, .i32⟩
  | 7 => ⟨S128x128, .i32⟩
  | 8 => ⟨S128x128, .i32⟩
  | 9 => ⟨S_, .i32⟩
  | 10 => ⟨S128x128, .i32⟩
  | 11 => ⟨S128x128, .i1⟩
  | 12 => ⟨S_, .i32⟩
  | 13 => ⟨S128x128, .i32⟩
  | 14 => ⟨S128x128, .i1⟩
  | 15 => ⟨S128x128, .i1⟩
  | 16 => ⟨S1x1x128x128, .i1⟩
  | 17 => ⟨S_, .f32⟩
  | 18 => ⟨S_, .f32⟩
  | 19 => ⟨S16x8x128x128, .i1⟩
  | 20 => ⟨S16x8x128x128, .f32⟩
  | 21 => ⟨S16x8x128x128, .f32⟩
  | 22 => ⟨S_, .f32⟩
  | 23 => ⟨S16x8x128, .f32⟩
  | 24 => ⟨S16x8x128x1, .f32⟩
  | 25 => ⟨S16x8x128x128, .f32⟩
  | 26 => ⟨S16x8x128x128, .f32⟩
  | 27 => ⟨S16x8x128x128, .f32⟩
  | 28 => ⟨S_, .f32⟩
  | 29 => ⟨S16x8x128, .f32⟩
  | 30 => ⟨S16x8x128, .f32⟩
  | 31 => ⟨S16x8x128, .f32⟩
  | 32 => ⟨S16x8x128x1, .f32⟩
  | 33 => ⟨S16x8x128x128, .f32⟩
  | 34 => ⟨S16x8x128x128, .f32⟩
  | 35 => ⟨S16x8x128x128, .f32⟩
  | 36 => ⟨S16x8x64x128, .f32⟩
  | 37 => ⟨S128x16x8x64, .f32⟩
  | 38 => ⟨S2048x8x64, .f32⟩
  | 39 => ⟨S128x16x8, .f32⟩
  | 40 => ⟨S2048x8, .f32⟩
  | 41 => ⟨S2048x8x64, .f32⟩
  | 42 => ⟨S2048x8x64, .f32⟩
  | 43 => ⟨S_, .f32⟩
  | 44 => ⟨S2048x8, .f32⟩
  | 45 => ⟨S2048x8, .f32⟩
  | 46 => ⟨S_, .f32⟩
  | 47 => ⟨S8x128, .f32⟩
  | 48 => ⟨S_, .f32⟩
  | 49 => ⟨S2048x8x64, .f32⟩
  | 50 => ⟨S2048x8x64, .f32⟩
  | 51 => ⟨S128x8192, .f32⟩
  | 52 => ⟨S128x8192, .bf16⟩
  | 53 => ⟨S128x8192, .f32⟩
  | 54 => ⟨S128x8192, .bf16⟩
  | 55 => ⟨S128x8192, .f32⟩
  | 56 => ⟨S128x8192, .bf16⟩
  | 57 => ⟨S2048x8x1, .f32⟩
  | 58 => ⟨S2048x8x64, .f32⟩
  | 59 => ⟨S128x8192, .f32⟩
  | 60 => ⟨S128x8192, .f32⟩
  | 61 => ⟨S128x8192, .bf16⟩
  | 62 => ⟨S2048x8x1, .f32⟩
  | 63 => ⟨S2048x8x64, .f32⟩
  | 64 => ⟨S128x8192, .f32⟩
  | 65 => ⟨S128x2048, .f32⟩
  | 66 => ⟨S128x2048, .f32⟩
  | 67 => ⟨S128x2048, .f32⟩
  | 68 => ⟨S128x8192, .bf16⟩
  | 69 => ⟨S128x8192, .bf16⟩
  | 70 => ⟨S128x8192, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_1 : Ref sig .tc := ⟨.hbm, 53, rfl⟩
abbrev main_v24 : Ref sig .tc := ⟨.hbm, 54, rfl⟩
abbrev main_v25 : Ref sig .tc := ⟨.hbm, 55, rfl⟩
abbrev main_cst_2 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v26 : Ref sig .tc := ⟨.hbm, 60, rfl⟩
abbrev main_c_3 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v30 : Ref sig .tc := ⟨.hbm, 69, rfl⟩
abbrev main_c_5 : Ref sig .tc := ⟨.hbm, 70, rfl⟩
abbrev main_v31 : Ref sig .tc := ⟨.hbm, 71, rfl⟩
abbrev main_v32 : Ref sig .tc := ⟨.hbm, 72, rfl⟩
abbrev main_c_6 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_8 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_9 : Ref sig .tc := ⟨.hbm, 137, rfl⟩
abbrev main_v91 : Ref sig .tc := ⟨.hbm, 138, rfl⟩
abbrev main_v92 : Ref sig .tc := ⟨.hbm, 139, rfl⟩
abbrev main_c_10 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_11 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_v97 : Ref sig .tc := ⟨.hbm, 149, rfl⟩
abbrev main_cst_12 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_13 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_cst_14 : Ref sig .tc := ⟨.hbm, 171, rfl⟩
abbrev main_v117 : Ref sig .tc := ⟨.hbm, 172, rfl⟩
abbrev main_v118 : Ref sig .tc := ⟨.hbm, 173, rfl⟩
abbrev main_cst_15 : Ref sig .tc := ⟨.hbm, 174, rfl⟩
abbrev main_v119 : Ref sig .tc := ⟨.hbm, 175, rfl⟩
abbrev main_cst_16 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139_0 : Ref sig .tc := ⟨.hbm, 196, rfl⟩
abbrev main_v139_1 : Ref sig .tc := ⟨.hbm, 197, rfl⟩
abbrev main_v139_2 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S2048 : Shape := ⟨1, ![2048]⟩
abbrev S2048x8 : Shape := ⟨2, ![2048, 8]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8x64 : Shape := ⟨3, ![2048, 8, 64]⟩
abbrev S2048x1x8 : Shape := ⟨3, ![2048, 1, 8]⟩
abbrev S2048x8x8 : Shape := ⟨3, ![2048, 8, 8]⟩
abbrev S2048x8x16 : Shape := ⟨3, ![2048, 8, 16]⟩
abbrev S2048x8x48 : Shape := ⟨3, ![2048, 8, 48]⟩
abbrev S128x16x8x64 : Shape := ⟨4, ![128, 16, 8, 64]⟩
abbrev S16x8x128x128 : Shape := ⟨4, ![16, 8, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x128x128 : Shape := ⟨4, ![1, 1, 128, 128]⟩
abbrev S16x8x128 : Shape := ⟨3, ![16, 8, 128]⟩
abbrev S16x8x128x1 : Shape := ⟨4, ![16, 8, 128, 1]⟩
abbrev S16x8x64x128 : Shape := ⟨4, ![16, 8, 64, 128]⟩
abbrev S128x16x8 : Shape := ⟨3, ![128, 16, 8]⟩
abbrev S16x8x128x64 : Shape := ⟨4, ![16, 8, 128, 64]⟩
abbrev S128x8192 : Shape := ⟨2, ![128, 8192]⟩

abbrev nBuf : Space → Nat
  | .hbm => 201
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048, .i32⟩
  | 4 => ⟨S2048x512, .f32⟩
  | 5 => ⟨S2048x8, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S2048, .f32⟩
  | 15 => ⟨S2048x1, .f32⟩
  | 16 => ⟨S1x8, .f32⟩
  | 17 => ⟨S2048x8, .f32⟩
  | 18 => ⟨S2048x8, .f32⟩
  | 19 => ⟨S2048x8, .f32⟩
  | 20 => ⟨S2048x8, .f32⟩
  | 21 => ⟨S2048x8, .f32⟩
  | 22 => ⟨S2048x8x64, .f32⟩
  | 23 => ⟨S2048x8x64, .f32⟩
  | 24 => ⟨S2048x8x64, .f32⟩
  | 25 => ⟨S2048x1x8, .f32⟩
  | 26 => ⟨S2048x1x8, .f32⟩
  | 27 => ⟨S2048x8x8, .f32⟩
  | 28 => ⟨S2048x8x8, .f32⟩
  | 29 => ⟨S2048x8x8, .f32⟩
  | 30 => ⟨S2048x8x8, .f32⟩
  | 31 => ⟨S2048x8x8, .f32⟩
  | 32 => ⟨S2048x8x8, .f32⟩
  | 33 => ⟨S2048x8x8, .f32⟩
  | 34 => ⟨S2048x8x8, .f32⟩
  | 35 => ⟨S2048x8x8, .f32⟩
  | 36 => ⟨S2048x8x8, .f32⟩
  | 37 => ⟨S2048x8x8, .f32⟩
  | 38 => ⟨S2048x8x8, .f32⟩
  | 39 => ⟨S2048x8x16, .f32⟩
  | 40 => ⟨S2048x8x48, .f32⟩
  | 41 => ⟨S2048x8x64, .f32⟩
  | 42 => ⟨S2048x1x8, .f32⟩
  | 43 => ⟨S2048x1x8, .f32⟩
  | 44 => ⟨S2048x8x8, .f32⟩
  | 45 => ⟨S2048x8x8, .f32⟩
  | 46 => ⟨S2048x8x8, .f32⟩
  | 47 => ⟨S2048x8x8, .f32⟩
  | 48 => ⟨S2048x8x8, .f32⟩
  | 49 => ⟨S2048x8x8, .f32⟩
  | 50 => ⟨S2048x8x8, .f32⟩
  | 51 => ⟨S2048x8x8, .f32⟩
  | 52 => ⟨S2048x8x8, .f32⟩
  | 53 => ⟨S2048x8x8, .f32⟩
  | 54 => ⟨S2048x8x8, .f32⟩
  | 55 => ⟨S2048x8x8, .f32⟩
  | 56 => ⟨S2048x8x16, .f32⟩
  | 57 => ⟨S2048x8x48, .f32⟩
  | 58 => ⟨S2048x8x64, .f32⟩
  | 59 => ⟨S128x16x8x64, .f32⟩
  | 60 => ⟨S128x16x8x64, .f32⟩
  | 61 => ⟨S128x16x8x64, .f32⟩
  | 62 => ⟨S16x8x128x128, .f32⟩
  | 63 => ⟨S_, .f32⟩
  | 64 => ⟨S16x8x128x128, .f32⟩
  | 65 => ⟨S16x8x128x128, .f32⟩
  | 66 => ⟨S128, .i32⟩
  | 67 => ⟨S128x1, .i32⟩
  | 68 => ⟨S128, .i32⟩
  | 69 => ⟨S1x128, .i32⟩
  | 70 => ⟨S128x128, .i32⟩
  | 71 => ⟨S128x128, .i32⟩
  | 72 => ⟨S128x128, .i32⟩
  | 73 => ⟨S_, .i32⟩
  | 74 => ⟨S128x128, .i32⟩
  | 75 => ⟨S128x128, .i1⟩
  | 76 => ⟨S_, .i32⟩
  | 77 => ⟨S128x128, .i32⟩
  | 78 => ⟨S128x128, .i1⟩
  | 79 => ⟨S128x128, .i1⟩
  | 80 => ⟨S1x1x128x128, .i1⟩
  | 81 => ⟨S_, .f32⟩
  | 82 => ⟨S_, .f32⟩
  | 83 => ⟨S16x8x128x128, .i1⟩
  | 84 => ⟨S16x8x128x128, .f32⟩
  | 85 => ⟨S16x8x128x128, .f32⟩
  | 86 => ⟨S_, .f32⟩
  | 87 => ⟨S16x8x128x128, .f32⟩
  | 88 => ⟨S_, .f32⟩
  | 89 => ⟨S16x8x128, .f32⟩
  | 90 => ⟨S16x8x128x1, .f32⟩
  | 91 => ⟨S16x8x128x128, .f32⟩
  | 92 => ⟨S16x8x128x128, .i1⟩
  | 93 => ⟨S16x8x128x128, .f32⟩
  | 94 => ⟨S_, .f32⟩
  | 95 => ⟨S16x8x128, .f32⟩
  | 96 => ⟨S16x8x128x1, .f32⟩
  | 97 => ⟨S16x8x128x128, .f32⟩
  | 98 => ⟨S16x8x128x128, .f32⟩
  | 99 => ⟨S16x8x128x128, .f32⟩
  | 100 => ⟨S_, .f32⟩
  | 101 => ⟨S16x8x128, .f32⟩
  | 102 => ⟨S16x8x128, .f32⟩
  | 103 => ⟨S16x8x128, .f32⟩
  | 104 => ⟨S16x8x128x1, .f32⟩
  | 105 => ⟨S16x8x128x128, .f32⟩
  | 106 => ⟨S16x8x128x128, .f32⟩
  | 107 => ⟨S16x8x128x128, .f32⟩
  | 108 => ⟨S16x8x64x128, .f32⟩
  | 109 => ⟨S128x16x8x64, .f32⟩
  | 110 => ⟨S2048x8x64, .f32⟩
  | 111 => ⟨S128x16x8, .f32⟩
  | 112 => ⟨S2048x8, .f32⟩
  | 113 => ⟨S2048x8x64, .f32⟩
  | 114 => ⟨S128x16x8, .f32⟩
  | 115 => ⟨S16x8x128, .f32⟩
  | 116 => ⟨S128x16x8x64, .f32⟩
  | 117 => ⟨S16x8x64x128, .f32⟩
  | 118 => ⟨S16x8x128x128, .f32⟩
  | 119 => ⟨S16x8x64x128, .f32⟩
  | 120 => ⟨S128x16x8x64, .f32⟩
  | 121 => ⟨S16x8x128x128, .f32⟩
  | 122 => ⟨S16x8x128x128, .f32⟩
  | 123 => ⟨S_, .f32⟩
  | 124 => ⟨S16x8x128, .f32⟩
  | 125 => ⟨S16x8x128x1, .f32⟩
  | 126 => ⟨S_, .f32⟩
  | 127 => ⟨S16x8x128, .f32⟩
  | _ => ⟨S2048x512, .f32⟩

abbrev hbmTy0_1 (i : Nat) : BufTy := match i % 128 with
  | 0 => ⟨S16x8x128, .f32⟩
  | 1 => ⟨S16x8x128, .f32⟩
  | 2 => ⟨S16x8x128x128, .f32⟩
  | 3 => ⟨S16x8x128x128, .f32⟩
  | 4 => ⟨S16x8x128x128, .f32⟩
  | 5 => ⟨S_, .f32⟩
  | 6 => ⟨S16x8x128x128, .f32⟩
  | 7 => ⟨S16x8x128x128, .f32⟩
  | 8 => ⟨S_, .f32⟩
  | 9 => ⟨S16x8x128x128, .f32⟩
  | 10 => ⟨S16x8x128x128, .f32⟩
  | 11 => ⟨S16x8x128x64, .f32⟩
  | 12 => ⟨S128x16x8x64, .f32⟩
  | 13 => ⟨S16x8x128x64, .f32⟩
  | 14 => ⟨S128x16x8x64, .f32⟩
  | 15 => ⟨S2048x8x64, .f32⟩
  | 16 => ⟨S2048x8x64, .f32⟩
  | 17 => ⟨S2048x8x64, .f32⟩
  | 18 => ⟨S2048x8x16, .f32⟩
  | 19 => ⟨S2048x8x48, .f32⟩
  | 20 => ⟨S_, .f32⟩
  | 21 => ⟨S2048x8x64, .f32⟩
  | 22 => ⟨S2048x8x8, .f32⟩
  | 23 => ⟨S2048x8x8, .f32⟩
  | 24 => ⟨S2048x8x8, .f32⟩
  | 25 => ⟨S2048x8x8, .f32⟩
  | 26 => ⟨S2048x8x8, .f32⟩
  | 27 => ⟨S2048x8x8, .f32⟩
  | 28 => ⟨S2048x8x8, .f32⟩
  | 29 => ⟨S2048x8x8, .f32⟩
  | 30 => ⟨S2048x8x8, .f32⟩
  | 31 => ⟨S2048x8x8, .f32⟩
  | 32 => ⟨S2048x8x8, .f32⟩
  | 33 => ⟨S2048x8x8, .f32⟩
  | 34 => ⟨S2048x8x8, .f32⟩
  | 35 => ⟨S_, .f32⟩
  | 36 => ⟨S2048x8x64, .f32⟩
  | 37 => ⟨S2048x8x64, .f32⟩
  | 38 => ⟨S_, .f32⟩
  | 39 => ⟨S2048x8x64, .f32⟩
  | 40 => ⟨S2048x8x64, .f32⟩
  | 41 => ⟨S2048x8x16, .f32⟩
  | 42 => ⟨S2048x8x48, .f32⟩
  | 43 => ⟨S_, .f32⟩
  | 44 => ⟨S2048x8x64, .f32⟩
  | 45 => ⟨S2048x8x8, .f32⟩
  | 46 => ⟨S2048x8x8, .f32⟩
  | 47 => ⟨S2048x8x8, .f32⟩
  | 48 => ⟨S2048x8x8, .f32⟩
  | 49 => ⟨S2048x8x8, .f32⟩
  | 50 => ⟨S2048x8x8, .f32⟩
  | 51 => ⟨S2048x8x8, .f32⟩
  | 52 => ⟨S2048x8x8, .f32⟩
  | 53 => ⟨S2048x8x8, .f32⟩
  | 54 => ⟨S2048x8x8, .f32⟩
  | 55 => ⟨S2048x8x8, .f32⟩
  | 56 => ⟨S2048x8x8, .f32⟩
  | 57 => ⟨S2048x8x8, .f32⟩
  | 58 => ⟨S_, .f32⟩
  | 59 => ⟨S2048x8x64, .f32⟩
  | 60 => ⟨S2048x8x64, .f32⟩
  | 61 => ⟨S_, .f32⟩
  | 62 => ⟨S2048x8x64, .f32⟩
  | 63 => ⟨S2048x8x64, .f32⟩
  | 64 => ⟨S2048x512, .f32⟩
  | 65 => ⟨S2048x512, .f32⟩
  | 66 => ⟨S2048x512, .f32⟩
  | 67 => ⟨S128x8192, .f32⟩
  | 68 => ⟨S128x8192, .bf16⟩
  | 69 => ⟨S128x8192, .f32⟩
  | 70 => ⟨S128x8192, .bf16⟩
  | 71 => ⟨S128x8192, .f32⟩
  | 72 => ⟨S128x8192, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_1 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_c : Ref sig .tc := ⟨.hbm, 73, rfl⟩
abbrev main_v64 : Ref sig .tc := ⟨.hbm, 74, rfl⟩
abbrev main_v65 : Ref sig .tc := ⟨.hbm, 75, rfl⟩
abbrev main_c_2 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_3 : Ref sig .tc := ⟨.hbm, 81, rfl⟩
abbrev main_call0_v0 : Ref sig .tc := ⟨.hbm, 82, rfl⟩
abbrev main_v70_1 : Ref sig .tc := ⟨.hbm, 83, rfl⟩
abbrev main_call0_v2 : Ref sig .tc := ⟨.hbm, 84, rfl⟩
abbrev main_v70_0 : Ref sig .tc := ⟨.hbm, 85, rfl⟩
abbrev main_call0_cst : Ref sig .tc := ⟨.hbm, 86, rfl⟩
abbrev main_v70_2 : Ref sig .tc := ⟨.hbm, 87, rfl⟩
abbrev main_cst_4 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_5 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_6 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_cst_7 : Ref sig .tc := ⟨.hbm, 123, rfl⟩
abbrev main_v103 : Ref sig .tc := ⟨.hbm, 124, rfl⟩
abbrev main_v104 : Ref sig .tc := ⟨.hbm, 125, rfl⟩
abbrev main_cst_8 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_call1_cst : Ref sig .tc := ⟨.hbm, 133, rfl⟩
abbrev main_call1_v0 : Ref sig .tc := ⟨.hbm, 134, rfl⟩
abbrev main_v111 : Ref sig .tc := ⟨.hbm, 135, rfl⟩
abbrev main_cst_9 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_10 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_cst_11 : Ref sig .tc := ⟨.hbm, 163, rfl⟩
abbrev main_v137 : Ref sig .tc := ⟨.hbm, 164, rfl⟩
abbrev main_v138 : Ref sig .tc := ⟨.hbm, 165, rfl⟩
abbrev main_cst_12 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_13 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_cst_14 : Ref sig .tc := ⟨.hbm, 186, rfl⟩
abbrev main_v157 : Ref sig .tc := ⟨.hbm, 187, rfl⟩
abbrev main_v158 : Ref sig .tc := ⟨.hbm, 188, rfl⟩
abbrev main_cst_15 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x5632 : Shape := ⟨2, ![1024, 5632]⟩
abbrev S2048x5632 : Shape := ⟨2, ![2048, 5632]⟩
abbrev S5632x2048 : Shape := ⟨2, ![5632, 2048]⟩
abbrev S_ : Shape := ⟨0, ![]⟩
abbrev S2048 : Shape := ⟨1, ![2048]⟩
abbrev S2048x1 : Shape := ⟨2, ![2048, 1]⟩
abbrev S8x704x1024 : Shape := ⟨3, ![8, 704, 1024]⟩
abbrev S1408x2048 : Shape := ⟨2, ![1408, 2048]⟩
abbrev S2x704x1024 : Shape := ⟨3, ![2, 704, 1024]⟩
abbrev S1408x1024 : Shape := ⟨2, ![1408, 1024]⟩

abbrev nBuf : Space → Nat
  | .hbm => 23
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2048x5632, .f32⟩
  | .hbm, ⟨4, _⟩ => ⟨S5632x2048, .f32⟩
  | .hbm, ⟨5, _⟩ => ⟨S5632x2048, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S8x704x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2x704x1024, .bf16⟩
  | .local _ .vmem, ⟨4, _⟩ => ⟨S2x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x1024 : Shape := ⟨2, ![2048, 1024]⟩
abbrev S1x1024 : Shape := ⟨2, ![1, 1024]⟩
abbrev S1024x5632 : Shape := ⟨2, ![1024, 5632]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S5632x1024 : Shape := ⟨2, ![5632, 1024]⟩
abbrev S8x704x1024 : Shape := ⟨3, ![8, 704, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2048x5632, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x5632, .f32⟩
  | .hbm, ⟨20, _⟩ => ⟨S5632x1024, .f32⟩
  | .hbm, ⟨21, _⟩ => ⟨S1024x5632, .f32⟩
  | .hbm, ⟨22, _⟩ => ⟨S5632x1024, .f32⟩
  | .hbm, ⟨23, _⟩ => ⟨S8x704x1024, .f32⟩
  | .hbm, ⟨24, _⟩ => ⟨S8x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S1024x4608 : Shape := ⟨2, ![1024, 4608]⟩
abbrev S2048x4608 : Shape := ⟨2, ![2048, 4608]⟩
abbrev S4608x2048 : Shape := ⟨2, ![4608, 2048]⟩
abbrev S_ : Shape := ⟨0, ![]⟩
abbrev S2048 : Shape := ⟨1, ![2048]⟩
abbrev S2048x1 : Shape := ⟨2, ![2048, 1]⟩
abbrev S8x576x1024 : Shape := ⟨3, ![8, 576, 1024]⟩
abbrev S1152x2048 : Shape := ⟨2, ![1152, 2048]⟩
abbrev S2x576x1024 : Shape := ⟨3, ![2, 576, 1024]⟩
abbrev S1152x1024 : Shape := ⟨2, ![1152, 1024]⟩

abbrev nBuf : Space → Nat
  | .hbm => 23
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4608, .f32⟩
  | .hbm, ⟨3, _⟩ => ⟨S2048x4608, .f32⟩
  | .hbm, ⟨4, _⟩ => ⟨S4608x2048, .f32⟩
  | .hbm, ⟨5, _⟩ => ⟨S4608x2048, .bf16⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S8x576x1024, .bf16⟩
  | .local _ .vmem, ⟨0, _⟩ => ⟨S1152x2048, .bf16⟩
  | .local _ .vmem, ⟨1, _⟩ => ⟨S1152x2048, .bf16⟩
  | .local _ .vmem, ⟨2, _⟩ => ⟨S2048x1024, .bf16⟩
  | .local _ .vmem, ⟨3, _⟩ => ⟨S2x576x1024, .bf16⟩
  | .local _ .vmem, ⟨4, _⟩ => ⟨S2x576x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x576x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2048x1024 : Shape := ⟨2, ![2048, 1024]⟩
abbrev S1x1024 : Shape := ⟨2, ![1, 1024]⟩
abbrev S1024x4608 : Shape := ⟨2, ![1024, 4608]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S4608x1024 : Shape := ⟨2, ![4608, 1024]⟩
abbrev S8x576x1024 : Shape := ⟨3, ![8, 576, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4608, .f32⟩
  | .hbm, ⟨3, _⟩ => ⟨S2048x4608, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x4608, .f32⟩
  | .hbm, ⟨20, _⟩ => ⟨S4608x1024, .f32⟩
  | .hbm, ⟨21, _⟩ => ⟨S1024x4608, .f32⟩
  | .hbm, ⟨22, _⟩ => ⟨S4608x1024, .f32⟩
  | .hbm, ⟨23, _⟩ => ⟨S8x576x1024, .f32⟩
  | .hbm, ⟨24, _⟩ => ⟨S8x576x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x4608 : Shape := ⟨2, ![1024, 4608]⟩
abbrev S2048x4608 : Shape := ⟨2, ![2048, 4608]⟩
abbrev S2048x256 : Shape := ⟨2, ![2048, 256]⟩
abbrev S2048x1280 : Shape := ⟨2, ![2048, 1280]⟩
abbrev S1024x8x576 : Shape := ⟨3, ![1024, 8, 576]⟩
abbrev S8x1024x576 : Shape := ⟨3, ![8, 1024, 576]⟩
abbrev S_ : Shape := ⟨0, ![]⟩
abbrev S8x128 : Shape := ⟨2, ![8, 128]⟩
abbrev S4608x2048 : Shape := ⟨2, ![4608, 2048]⟩
abbrev S256x1024 : Shape := ⟨2, ![256, 1024]⟩
abbrev S256x256 : Shape := ⟨2, ![256, 256]⟩
abbrev S256x1280 : Shape := ⟨2, ![256, 1280]⟩
abbrev S4608x256 : Shape := ⟨2, ![4608, 256]⟩
abbrev S256x4608 : Shape := ⟨2, ![256, 4608]⟩
abbrev S4x256x128 : Shape := ⟨3, ![4, 256, 128]⟩
abbrev S1x1024x576 : Shape := ⟨3, ![1, 1024, 576]⟩
abbrev S1024x576 : Shape := ⟨2, ![1024, 576]⟩
abbrev S256 : Shape := ⟨1, ![256]⟩
abbrev S256x1 : Shape := ⟨2, ![256, 1]⟩
abbrev S1024 : Shape := ⟨1, ![1024]⟩

abbrev nBuf : Space → Nat
  | .hbm => 24
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4608, .f32⟩
  | .hbm, ⟨3, _⟩ => ⟨S2048x1024, .f32⟩
  | .hbm, ⟨4, _⟩ => ⟨S2048x4608, .f32⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x256, .f32⟩
  | .hbm, ⟨12, _⟩ => ⟨S2048x256, .bf16⟩
  | .hbm, ⟨13, _⟩ => ⟨S2048x1280, .f32⟩
  | .hbm, ⟨14, _⟩ => ⟨S2048x1280, .bf16⟩
  | .hbm, ⟨15, _⟩ => ⟨S1024x8x576, .f32⟩
  | .hbm, ⟨16, _⟩ => ⟨S8x1024x576, .f32⟩
  | .hbm, ⟨17, _⟩ => ⟨S8x1024x576, .bf16⟩
  | .hbm, ⟨18, _⟩ => ⟨S_, .f32⟩
  | .hbm, ⟨19, _⟩ => ⟨S8x128, .f32⟩
  | .hbm, ⟨20, _⟩ => ⟨S2048x1024, .f32⟩
  | .hbm, ⟨21, _⟩ => ⟨S1x1024, .f32⟩
  | .hbm, ⟨22, _⟩ => ⟨S2048x1024, .bf16⟩
  | .hbm, ⟨23, _⟩ => ⟨S4608x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x256, .bf16⟩
  | .local _ .vmem, ⟨7, _⟩ => ⟨S256x256, .bf16⟩
  | .local _ .vmem, ⟨8, _⟩ => ⟨S256x1280, .bf16⟩
  | .local _ .vmem, ⟨9, _⟩ => ⟨S256x1280, .bf16⟩
  | .local _ .vmem, ⟨10, _⟩ => ⟨S8x1024x576, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S4608x256, .bf16⟩
  | .local _ .vmem, ⟨22, _⟩ => ⟨S4608x256, .bf16⟩
  | .local _ .vmem, ⟨23, _⟩ => ⟨S256x4608, .bf16⟩
  | .local _ .vmem, ⟨24, _⟩ => ⟨S4x256x128, .f32⟩
  | .local _ .vmem, ⟨25, _⟩ => ⟨S1024x4608, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x576 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4608x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S2048x1024 : Shape := ⟨2, ![2048, 1024]⟩
abbrev S1x1024 : Shape := ⟨2, ![1, 1024]⟩
abbrev S1024x4608 : Shape := ⟨2, ![1024, 4608]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S1024 : Shape := ⟨1, ![1024]⟩
abbrev S4608x2048 : Shape := ⟨2, ![4608, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4608, .f32⟩
  | .hbm, ⟨3, _⟩ => ⟨S2048x1024, .f32⟩
  | .hbm, ⟨4, _⟩ => ⟨S2048x4608, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x4608, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .bf16⟩
  | .hbm, ⟨51, _⟩ => ⟨S4608x2048, .f32⟩
  | .hbm, ⟨52, _⟩ => ⟨S4608x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x5632 : Shape := ⟨2, ![1024, 5632]⟩
abbrev S2048x5632 : Shape := ⟨2, ![2048, 5632]⟩
abbrev S2048x512 : Shape := ⟨2, ![2048, 512]⟩
abbrev S512x2048 : Shape := ⟨2, ![512, 2048]⟩
abbrev S128x8192 : Shape := ⟨2, ![128, 8192]⟩
abbrev S2048x256 : Shape := ⟨2, ![2048, 256]⟩
abbrev S2048x768 : Shape := ⟨2, ![2048, 768]⟩
abbrev S1024x8x704 : Shape := ⟨3, ![1024, 8, 704]⟩
abbrev S8x1024x704 : Shape := ⟨3, ![8, 1024, 704]⟩
abbrev S_ : Shape := ⟨0, ![]⟩
abbrev S8x128 : Shape := ⟨2, ![8, 128]⟩
abbrev S256x512 : Shape := ⟨2, ![256, 512]⟩
abbrev S64x2048 : Shape := ⟨2, ![64, 2048]⟩
abbrev S16x8192 : Shape := ⟨2, ![16, 8192]⟩
abbrev S256x256 : Shape := ⟨2, ![256, 256]⟩
abbrev S256x768 : Shape := ⟨2, ![256, 768]⟩
abbrev S256x1024 : Shape := ⟨2, ![256, 1024]⟩
abbrev S256x5632 : Shape := ⟨2, ![256, 5632]⟩
abbrev S4x256x128 : Shape := ⟨3, ![4, 256, 128]⟩
abbrev S1x1024x704 : Shape := ⟨3, ![1, 1024, 704]⟩
abbrev S1024x704 : Shape := ⟨2, ![1024, 704]⟩
abbrev S64x128 : Shape := ⟨2, ![64, 128]⟩
abbrev S1x64x128 : Shape := ⟨3, ![1, 64, 128]⟩
abbrev S1x256x128 : Shape := ⟨3, ![1, 256, 128]⟩
abbrev S256x128 : Shape := ⟨2, ![256, 128]⟩
abbrev S16x128 : Shape := ⟨2, ![16, 128]⟩
abbrev S1x16x128 : Shape := ⟨3, ![1, 16, 128]⟩
abbrev S256 : Shape := ⟨1, ![256]⟩
abbrev S256x1 : Shape := ⟨2, ![256, 1]⟩
abbrev S1024 : Shape := ⟨1, ![1024]⟩

abbrev nBuf : Space → Nat
  | .hbm => 30
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2048x1024, .f32⟩
  | .hbm, ⟨4, _⟩ => ⟨S2048x5632, .f32⟩
  | .hbm, ⟨5, _⟩ => ⟨S2048x5632, .bf16⟩
  | .hbm, ⟨6, _⟩ => ⟨S2048x512, .bf16⟩
  | .hbm, ⟨7, _⟩ => ⟨S2048x512, .bf16⟩
  | .hbm, ⟨8, _⟩ => ⟨S512x2048, .bf16⟩
  | .hbm, ⟨9, _⟩ => ⟨S2048x512, .bf16⟩
  | .hbm, ⟨10, _⟩ => ⟨S128x8192, .bf16⟩
  | .hbm, ⟨11, _⟩ => ⟨S2048x512, .bf16⟩
  | .hbm, ⟨12, _⟩ => ⟨S2048x512, .bf16⟩
  | .hbm, ⟨13, _⟩ => ⟨S512x2048, .bf16⟩
  | .hbm, ⟨14, _⟩ => ⟨S2048x512, .bf16⟩
  | .hbm, ⟨15, _⟩ => ⟨S128x8192, .bf16⟩
  | .hbm, ⟨16, _⟩ => ⟨S2048x512, .bf16⟩
  | .hbm, ⟨17, _⟩ => ⟨S2048x512, .bf16⟩
  | .hbm, ⟨18, _⟩ => ⟨S512x2048, .bf16⟩
  | .hbm, ⟨19, _⟩ => ⟨S2048x512, .bf16⟩
  | .hbm, ⟨20, _⟩ => ⟨S128x8192, .bf16⟩
  | .hbm, ⟨21, _⟩ => ⟨S2048x256, .bf16⟩
  | .hbm, ⟨22, _⟩ => ⟨S2048x768, .bf16⟩
  | .hbm, ⟨23, _⟩ => ⟨S1024x8x704, .f32⟩
  | .hbm, ⟨24, _⟩ => ⟨S8x1024x704, .f32⟩
  | .hbm, ⟨25, _⟩ => ⟨S8x1024x704, .bf16⟩
  | .hbm, ⟨26, _⟩ => ⟨S_, .f32⟩
  | .hbm, ⟨27, _⟩ => ⟨S8x128, .f32⟩
  | .hbm, ⟨28, _⟩ => ⟨S2048x1024, .f32⟩
  | .hbm, ⟨29, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S64x2048, .bf16⟩
  | .local _ .vmem, ⟨3, _⟩ => ⟨S64x2048, .bf16⟩
  | .local _ .vmem, ⟨4, _⟩ => ⟨S16x8192, .bf16⟩
  | .local _ .vmem, ⟨5, _⟩ => ⟨S16x8192, .bf16⟩
  | .local _ .vmem, ⟨6, _⟩ => ⟨S256x512, .bf16⟩
  | .local _ .vmem, ⟨7, _⟩ => ⟨S256x512, .bf16⟩
  | .local _ .vmem, ⟨8, _⟩ => ⟨S64x2048, .bf16⟩
  | .local _ .vmem, ⟨9, _⟩ => ⟨S64x2048, .bf16⟩
  | .local _ .vmem, ⟨10, _⟩ => ⟨S16x8192, .bf16⟩
  | .local _ .vmem, ⟨11, _⟩ => ⟨S16x8192, .bf16⟩
  | .local _ .vmem, ⟨12, _⟩ => ⟨S256x512, .bf16⟩
  | .local _ .vmem, ⟨13, _⟩ => ⟨S256x512, .bf16⟩
  | .local _ .vmem, ⟨14, _⟩ => ⟨S64x2048, .bf16⟩
  | .local _ .vmem, ⟨15, _⟩ => ⟨S64x2048, .bf16⟩
  | .local _ .vmem, ⟨16, _⟩ => ⟨S16x8192, .bf16⟩
  | .local _ .vmem, ⟨17, _⟩ => ⟨S16x8192, .bf16⟩
  | .local _ .vmem, ⟨18, _⟩ => ⟨S256x256, .bf16⟩
  | .local _ .vmem, ⟨19, _⟩ => ⟨S256x256, .bf16⟩
  | .local _ .vmem, ⟨20, _⟩ => ⟨S256x768, .bf16⟩
  | .local _ .vmem, ⟨21, _⟩ => ⟨S256x768, .bf16⟩
  | .local _ .vmem, ⟨22, _⟩ => ⟨S8x1024x704, .bf16⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x1024, .f32⟩
  | .local _ .vmem, ⟨31, _⟩ => ⟨S256x5632, .bf16⟩
  | .local _ .vmem, ⟨32, _⟩ => ⟨S4x256x128, .f32⟩
  | .local _ .vmem, ⟨33, _⟩ => ⟨S1024x5632, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024x704 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S2048x1024 : Shape := ⟨2, ![2048, 1024]⟩
abbrev S1x1024 : Shape := ⟨2, ![1, 1024]⟩
abbrev S1024x5632 : Shape := ⟨2, ![1024, 5632]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2048x1024, .f32⟩
  | .hbm, ⟨4, _⟩ => ⟨S2048x5632, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x5632, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S1024x4608 : Shape := ⟨2, ![1024, 4608]⟩
abbrev S1024x8x576 : Shape := ⟨3, ![1024, 8, 576]⟩
abbrev S8x1024x576 : Shape := ⟨3, ![8, 1024, 576]⟩
abbrev S2048x256 : Shape := ⟨2, ![2048, 256]⟩
abbrev S2048x1280 : Shape := ⟨2, ![2048, 1280]⟩
abbrev S256x1024 : Shape := ⟨2, ![256, 1024]⟩
abbrev S256x256 : Shape := ⟨2, ![256, 256]⟩
abbrev S256x1280 : Shape := ⟨2, ![256, 1280]⟩
abbrev S1x1024x576 : Shape := ⟨3, ![1, 1024, 576]⟩
abbrev S1024x576 : Shape := ⟨2, ![1024, 576]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩
abbrev S1024x1280 : Shape := ⟨2, ![1024, 1280]⟩

abbrev nBuf : Space → Nat
  | .hbm => 12
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4608, .f32⟩
  | .hbm, ⟨3, _⟩ => ⟨S1024x8x576, .f32⟩
  | .hbm, ⟨4, _⟩ => ⟨S8x1024x576, .f32⟩
  | .hbm, ⟨5, _⟩ => ⟨S8x1024x576, .bf16⟩
  | .hbm, ⟨6, _⟩ => ⟨S2048x1024, .bf16⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x256, .bf16⟩
  | .hbm, ⟨11, _⟩ => ⟨S2048x1280, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x576, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x256, .bf16⟩
  | .local _ .vmem, ⟨13, _⟩ => ⟨S256x256, .bf16⟩
  | .local _ .vmem, ⟨14, _⟩ => ⟨S256x1280, .f32⟩
  | .local _ .vmem, ⟨15, _⟩ => ⟨S256x1280, .f32⟩
  | .local _ .vmem, ⟨16, _⟩ => ⟨S1024x4608, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2048x1024 : Shape := ⟨2, ![2048, 1024]⟩
abbrev S1x1024 : Shape := ⟨2, ![1, 1024]⟩
abbrev S1024x4608 : Shape := ⟨2, ![1024, 4608]⟩
abbrev S_ : Shape := ⟨0, ![]⟩
abbrev S2048 : Shape := ⟨1, ![2048]⟩
abbrev S2048x1 : Shape := ⟨2, ![2048, 1]⟩
abbrev S2048x4608 : Shape := ⟨2, ![2048, 4608]⟩
abbrev S2048x256 : Shape := ⟨2, ![2048, 256]⟩
abbrev S2048x1280 : Shape := ⟨2, ![2048, 1280]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4608, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x4608, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x256, .f32⟩
  | .hbm, ⟨23, _⟩ => ⟨S2048x1280, .f32⟩
  | .hbm, ⟨24, _⟩ => ⟨S2048x1024, .bf16⟩
  | .hbm, ⟨25, _⟩ => ⟨S2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel7.lean ====
abbrev S2048x1280 : Shape := ⟨2, ![2048, 1280]⟩
abbrev S1280x1024 : Shape := ⟨2, ![1280, 1024]⟩
abbrev S2048x1024 : Shape := ⟨2, ![2048, 1024]⟩
abbrev S1280x2048 : Shape := ⟨2, ![1280, 2048]⟩
abbrev S8x160x1024 : Shape := ⟨3, ![8, 160, 1024]⟩
abbrev S640x2048 : Shape := ⟨2, ![640, 2048]⟩
abbrev S4x160x1024 : Shape := ⟨3, ![4, 160, 1024]⟩
abbrev S640x1024 : Shape := ⟨2, ![640, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x1280, .f32⟩
  | .hbm, ⟨1, _⟩ => ⟨S1280x1024, .f32⟩
  | .hbm, ⟨2, _⟩ => ⟨S2048x1024, .f32⟩
  | .hbm, ⟨3, _⟩ => ⟨S1280x2048, .f32⟩
  | .hbm, ⟨4, _⟩ => ⟨S1280x2048, .bf16⟩
  | .hbm, ⟨5, _⟩ => ⟨S2048x1024, .bf16⟩
  | .hbm, ⟨6, _⟩ => ⟨S8x160x1024, .bf16⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S4x160x1024, .bf16⟩
  | .local _ .vmem, ⟨4, _⟩ => ⟨S4x160x1024, .bf16⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x160x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x1280 : Shape := ⟨2, ![2048, 1280]⟩
abbrev S1280x1024 : Shape := ⟨2, ![1280, 1024]⟩
abbrev S2048x1024 : Shape := ⟨2, ![2048, 1024]⟩
abbrev S1024x1280 : Shape := ⟨2, ![1024, 1280]⟩
abbrev S8x160x1024 : Shape := ⟨3, ![8, 160, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S1280x1024, .f32⟩
  | .hbm, ⟨2, _⟩ => ⟨S2048x1024, .f32⟩
  | .hbm, ⟨3, _⟩ => ⟨S2048x1024, .f32⟩
  | .hbm, ⟨4, _⟩ => ⟨S1024x1280, .f32⟩
  | .hbm, ⟨5, _⟩ => ⟨S1280x1024, .f32⟩
  | .hbm, ⟨6, _⟩ => ⟨S8x160x1024, .f32⟩
  | .hbm, ⟨7, _⟩ => ⟨S8x160x1024, .bf16⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x768 : Shape := ⟨2, ![2048, 768]⟩
abbrev S768x1024 : Shape := ⟨2, ![768, 1024]⟩
abbrev S2048x1024 : Shape := ⟨2, ![2048, 1024]⟩
abbrev S768x2048 : Shape := ⟨2, ![768, 2048]⟩
abbrev S8x768x128 : Shape := ⟨3, ![8, 768, 128]⟩
abbrev S2048x512 : Shape := ⟨2, ![2048, 512]⟩
abbrev S4x768x128 : Shape := ⟨3, ![4, 768, 128]⟩
abbrev S768x512 : Shape := ⟨2, ![768, 512]⟩
abbrev S768x128 : Shape := ⟨2, ![768, 128]⟩
abbrev S1x768x128 : Shape := ⟨3, ![1, 768, 128]⟩

abbrev nBuf : Space → Nat
  | .hbm => 7
  | .vmem => 5
  | .smem => 0
  | _ => 0

abbrev bufTy : (tb : Table) → Fin (tcTables nBuf tb) → BufTy
  | .hbm, ⟨0, _⟩ => ⟨S2048x768, .f32⟩
  | .hbm, ⟨1, _⟩ => ⟨S768x1024, .f32⟩
  | .hbm, ⟨2, _⟩ => ⟨S2048x1024, .f32⟩
  | .hbm, ⟨3, _⟩ => ⟨S768x2048, .f32⟩
  | .hbm, ⟨4, _⟩ => ⟨S768x2048, .bf16⟩
  | .hbm, ⟨5, _⟩ => ⟨S2048x1024, .bf16⟩
  | .hbm, ⟨6, _⟩ => ⟨S8x768x128, .bf16⟩
  | .local _ .vmem, ⟨0, _⟩ => ⟨S768x2048, .bf16⟩
  | .local _ .vmem, ⟨1, _⟩ => ⟨S2048x512, .bf16⟩
  | .local _ .vmem, ⟨2, _⟩ => ⟨S2048x512, .bf16⟩
  | .local _ .vmem, ⟨3, _⟩ => ⟨S4x768x128, .bf16⟩
  | .local _ .vmem, ⟨4, _⟩ => ⟨S4x768x128, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S2048x768 : Shape := ⟨2, ![2048, 768]⟩
abbrev S768x1024 : Shape := ⟨2, ![768, 1024]⟩
abbrev S2048x1024 : Shape := ⟨2, ![2048, 1024]⟩
abbrev S1024x768 : Shape := ⟨2, ![1024, 768]⟩
abbrev S768x8x128 : Shape := ⟨3, ![768, 8, 128]⟩
abbrev S8x768x128 : Shape := ⟨3, ![8, 768, 128]⟩

abbrev nBuf : Space → Nat
  | .hbm => 9
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x1024, .f32⟩
  | .hbm, ⟨2, _⟩ => ⟨S2048x1024, .f32⟩
  | .hbm, ⟨3, _⟩ => ⟨S2048x1024, .f32⟩
  | .hbm, ⟨4, _⟩ => ⟨S1024x768, .f32⟩
  | .hbm, ⟨5, _⟩ => ⟨S768x1024, .f32⟩
  | .hbm, ⟨6, _⟩ => ⟨S768x8x128, .f32⟩
  | .hbm, ⟨7, _⟩ => ⟨S8x768x128, .f32⟩
  | .hbm, ⟨8, _⟩ => ⟨S8x768x128, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.WordCmp
public import Idealize.ShloMosaic.Lib.Pointwise

@[expose] public section

set_option maxRecDepth 16384

noncomputable section

namespace Cert.AttnBwd

open Cert.KernelIdeal Cert.KernelIdeal.Gen Idealize.ShloMosaic

/-- Lane `d` of the low (`b = 0`) or high (`b = 1`) head of a pair of heads laid side by side in 128 lanes. -/
abbrev lane (b : Fin 2) (d : Fin 64) : Fin 128 := ⟨64 * b.val + d.val, by omega⟩

/-- The head of the pair that lane `l` belongs to. -/
abbrev half (l : Fin 128) : Fin 2 := ⟨l.val / 64, by omega⟩

/-- The mask of the low head's lanes is set on the lanes below 64. -/
theorem low_apply (r : Fin 1) (l : Fin 128) : k0_pay7 (ix2 r l) = if l.val < 64 then 1#1 else 0#1 := by
  pointwise [k0_pay7]
  rw [Idealize.ShloMosaic.WordCmp.cmpi_slt_ofNat (by omega) (by omega)]
  by_cases h : l.val < 64 <;> simp [h]

/-- The causal mask is set where the key does not come after the query. -/
theorem causal_apply (x y : Fin 128) : k0_pay6 (ix2 x y) = if y ≤ x then 1#1 else 0#1 := by
  pointwise [k0_pay6]
  rw [Idealize.ShloMosaic.WordCmp.cmpi_sle_ofNat (by omega) (by omega)]
  by_cases h : y ≤ x
  · rw [if_pos h, decide_eq_true (show y.val ≤ x.val from h)]; rfl
  · rw [if_neg h, decide_eq_false (show ¬ y.val ≤ x.val from h)]; rfl

/-- The low head's lanes of a tile, the others zeroed. -/
theorem low_part (q : FVec Ideal S128x128 .bf16) (x l : Fin 128) :
    k0_pay10 q (ix2 x l) = if l.val < 64 then q (ix2 x l) else 0 := by
  pointwise [k0_pay10, k0_pay8, k0_pay9]
  rw [low_apply]; split <;> rfl

/-- The high head's lanes of a tile, the others zeroed. -/
theorem high_part (q : FVec Ideal S128x128 .bf16) (x l : Fin 128) :
    k0_pay11 q (ix2 x l) = if l.val < 64 then 0 else q (ix2 x l) := by
  pointwise [k0_pay11, k0_pay8, k0_pay9]
  rw [low_apply]; split <;> rfl

/-- A tile with one head's lanes kept and the other's zeroed. -/
def part (b : Fin 2) (q : FVec Ideal S128x128 .bf16) : FVec Ideal S128x128 .bf16 :=
  if b = 0 then k0_pay10 q else k0_pay11 q

/-- A kept lane of the kept head is the tile's own; a lane of the other head is zero. -/
theorem part_apply (b : Fin 2) (q : FVec Ideal S128x128 .bf16) (x l : Fin 128) :
    part b q (ix2 x l) = if half l = b then q (ix2 x l) else 0 := by
  have hb : b = 0 ∨ b = 1 := by omega
  rcases hb with rfl | rfl
  · rw [part, if_pos rfl, low_part]
    by_cases h : l.val < 64
    · rw [if_pos h, if_pos (Fin.ext (show l.val / 64 = 0 by omega))]
    · rw [if_neg h, if_neg (fun e => h (by have := congrArg Fin.val e; simp at this; omega))]
  · rw [part, if_neg (by decide), high_part]
    by_cases h : l.val < 64
    · rw [if_pos h, if_neg (fun e => by have := congrArg Fin.val e; simp at this; omega)]
    · rw [if_neg h, if_pos (Fin.ext (show l.val / 64 = 1 by omega))]

/-- A sum over the pair's lanes of terms that vanish off one head is the sum over that head's lanes. -/
theorem sum_head (b : Fin 2) (f : Fin 128 → EReal) :
    (∑ l : Fin 128, if half l = b then f l else 0) = ∑ d : Fin 64, f (lane b d) := by
  rw [← Finset.sum_filter]
  symm
  refine Finset.sum_bij (fun d _ => lane b d) ?_ ?_ ?_ ?_
  · intro d _; simp only [Finset.mem_filter, Finset.mem_univ, true_and]; apply Fin.ext; simp; omega
  · intro d _ d' _ h; have := congrArg Fin.val h; simp at this; omega
  · intro l hl
    simp only [Finset.mem_filter, Finset.mem_univ, true_and] at hl
    refine ⟨⟨l.val % 64, by omega⟩, Finset.mem_univ _, ?_⟩
    have := congrArg Fin.val hl; apply Fin.ext; simp at this ⊢; omega
  · intro d _; rfl

/-- The product over a head's lanes of a row of one tile with a row of another. -/
def headDot (b : Fin 2) (q k : FVec Ideal S128x128 .bf16) (x y : Fin 128) : EReal :=
  ∑ d : Fin 64, q (ix2 x (lane b d)) * k (ix2 y (lane b d))

theorem sum_part (b : Fin 2) (q k : FVec Ideal S128x128 .bf16) (x y : Fin 128) :
    (∑ l : Fin 128, part b q (ix2 x l) * k (ix2 y l)) = headDot b q k x y := by
  rw [headDot, ← sum_head b fun l => q (ix2 x l) * k (ix2 y l)]
  refine Finset.sum_congr rfl fun l _ => ?_
  rw [part_apply]; split
  · rfl
  · exact zero_mul _

/-- The probability of key `y` under query `x`: the exponential of the masked score less the row's log-sum. -/
def prob (b : Fin 2) (q k : FVec Ideal S128x128 .bf16) (s : FVec Ideal S128x1 .f32) (x y : Fin 128) : EReal :=
  Ideal.exp ((if y ≤ x then headDot b q k x y else ⊥) - s (ix2 x 0))

/-- The gradient of the masked score. -/
def dscore (b : Fin 2) (q k v g : FVec Ideal S128x128 .bf16) (s e : FVec Ideal S128x1 .f32) (x y : Fin 128) : EReal :=
  prob b q k s x y * (headDot b g v x y - e (ix2 x 0))

/-- The tile of masked scores of one head. -/
def scoreT (b : Fin 2) (q k : FVec Ideal S128x128 .bf16) : FVec Ideal S128x128 .f32 :=
  k0_pay63 k0_pay6 (part b q) k (constant S128x128 .f32 0x00000000#32)

/-- The tile of probabilities of one head. -/
def probT (b : Fin 2) (q k : FVec Ideal S128x128 .bf16) (s : FVec Ideal S128x1 .f32) : FVec Ideal S128x128 .f32 :=
  k0_pay72 (scoreT b q k) s

/-- The tile of score gradients of one head. -/
def dscoreT (b : Fin 2) (q k v g : FVec Ideal S128x128 .bf16) (s e : FVec Ideal S128x1 .f32) : FVec Ideal S128x128 .bf16 :=
  k0_pay81 (k0_pay64 (part b g) v) (probT b q k s) e

/-- The value named for the mask's finite constant is minus infinity. -/
theorem mask_value : (Named.named (F := Ideal) κ "mask" (φ := .f32) 0xF149F2CA#32 : EReal) = ⊥ :=
  IdealRules.named_const.ideal_named_scalar _ _ _ _ rfl

/-- The kernel's head-width scale is one eighth. -/
theorem scale_value : Ideal.ofBits .f32 0x3E000000#32 = ((1 / 8 : ℝ) : EReal) := by
  simp [Ideal.ofBits, Ideal.ieee, -EReal.coe_mul]; norm_num

theorem probT_apply (b : Fin 2) (q k : FVec Ideal S128x128 .bf16) (s : FVec Ideal S128x1 .f32) (x y : Fin 128) :
    probT b q k s (ix2 x y) = prob b q k s x y := by
  pointwise [probT, scoreT, k0_pay72, k0_pay63]
  rw [mask_value, sum_part, causal_apply, prob]
  by_cases h : y ≤ x
  · rw [if_pos h, if_pos h]; rfl
  · rw [if_neg h, if_neg h]; rfl

theorem dscoreT_apply (b : Fin 2) (q k v g : FVec Ideal S128x128 .bf16) (s e : FVec Ideal S128x1 .f32) (x y : Fin 128) :
    dscoreT b q k v g s e (ix2 x y) = dscore b q k v g s e x y := by
  pointwise [dscoreT, k0_pay81, k0_pay64]
  rw [probT_apply, sum_part, dscore]

/-- The query gradient's tile: each lane's head's score gradients on the keys, scaled. -/
theorem dqT_apply (k d0 d1 : FVec Ideal S128x128 .bf16) (x l : Fin 128) :
    k0_pay98 k0_pay7 k k d0 d1 (ix2 x l)
      = (∑ y, (if l.val < 64 then d0 else d1) (ix2 x y) * k (ix2 y l)) * ((1 / 8 : ℝ) : EReal) := by
  pointwise [k0_pay98]
  rw [low_apply, scale_value]
  by_cases h : l.val < 64
  · rw [if_pos h, if_pos h]; rfl
  · rw [if_neg h, if_neg h]; rfl

/-- A key's (or a value's) gradient tile: the transposed score gradients (probabilities) on the queries (output
gradients), each lane its own head's, added to what the tile held. -/
theorem accT_apply (q d0 d1 : FVec Ideal S128x128 .bf16) (z : FVec Ideal S128x128 .f32) (y l : Fin 128) :
    k0_pay99 (k0_pay10 q) (k0_pay11 q) d0 d1 z (ix2 y l)
      = z (ix2 y l) + ∑ x, (if l.val < 64 then d0 else d1) (ix2 x y) * q (ix2 x l) := by
  pointwise [k0_pay99]
  simp only [low_part, high_part]
  by_cases h : l.val < 64
  · simp only [if_pos h, mul_zero, Finset.sum_const_zero, add_zero]
  · simp only [if_neg h, mul_zero, Finset.sum_const_zero, zero_add]

end Cert.AttnBwd
end
-- ==== Proof.Pair.lean ====
module

public import proofs.«01_k».proof.Proof.Tile

@[expose] public section

set_option maxRecDepth 16384

noncomputable section

namespace Cert.AttnBwd

open Cert.KernelIdeal Cert.KernelIdeal.Gen Idealize.ShloMosaic

/-- A block of 128 positions of 16 heads of 64 lanes. -/
abbrev Blk := Fin 128 → Fin 1024 → EReal

/-- Lane `d` of head `a` of a block. -/
abbrev col (a : Fin 16) (d : Fin 64) : Fin 1024 := ⟨64 * a.val + d.val, by omega⟩

/-- The head a lane of a block belongs to. -/
abbrev headOf (c : Fin 1024) : Fin 16 := ⟨c.val / 64, by omega⟩

/-- The product over a head's lanes of two rows of two blocks. -/
def bDot (Q K : Blk) (a : Fin 16) (x y : Fin 128) : EReal := ∑ d, Q x (col a d) * K y (col a d)

/-- The exponential of a head's masked score less the row's constant, which the head's lanes all hold. -/
def bProb (Q K S : Blk) (a : Fin 16) (x y : Fin 128) : EReal :=
  Ideal.exp ((if y ≤ x then bDot Q K a x y else ⊥) - S x (col a 0))

/-- The gradient of a head's masked score. -/
def bDs (Q K V G S E : Blk) (a : Fin 16) (x y : Fin 128) : EReal := bProb Q K S a x y * (bDot G V a x y - E x (col a 0))

/-- The gradient of the rotated queries over a block. -/
def bDq (Q K V G S E : Blk) : Blk := fun x c => (∑ y, bDs Q K V G S E (headOf c) x y * K y c) * ((1 / 8 : ℝ) : EReal)

/-- The gradient of the rotated keys over a block. -/
def bDk (Q K V G S E : Blk) : Blk := fun y c => ∑ x, bDs Q K V G S E (headOf c) x y * Q x c

/-- The gradient of the values over a block. -/
def bDv (Q K G S : Blk) : Blk := fun y c => ∑ x, bProb Q K S (headOf c) x y * G x c

/-- `T` is tile `p` of the block `B`: its 128 lanes from lane `128 p`. -/
def IsTile (p : ℕ) (hp : p < 8) (B : Blk) (T : FVec Ideal S128x128 .bf16) : Prop :=
  ∀ x l : Fin 128, T (ix2 x l) = B x ⟨128 * p + l.val, by omega⟩

/-- `s` is column `o` of the block `B`. -/
def IsCol (o : ℕ) (ho : o < 1024) (B : Blk) (s : FVec Ideal S128x1 .f32) : Prop := ∀ x : Fin 128, s (ix2 x 0) = B x ⟨o, ho⟩

variable {p : ℕ} (hp : p < 8) {QB KB VB GB SB EB : Blk}
variable {Q K V G : FVec Ideal S128x128 .bf16} {s0 s1 e0 e1 : FVec Ideal S128x1 .f32} {z : FVec Ideal S128x128 .f32}

theorem headDot_block (hQ : IsTile p hp QB Q) (hK : IsTile p hp KB K) (b : Fin 2) (x y : Fin 128) :
    headDot b Q K x y = bDot QB KB ⟨2 * p + b.val, by omega⟩ x y := by
  refine Finset.sum_congr rfl fun d _ => ?_
  rw [hQ, hK]
  congr 2 <;> exact Fin.ext (by simp; omega)

theorem prob_block (hQ : IsTile p hp QB Q) (hK : IsTile p hp KB K) (b : Fin 2) {s : FVec Ideal S128x1 .f32}
    (hs : IsCol (128 * p + 64 * b.val) (by omega) SB s) (x y : Fin 128) :
    prob b Q K s x y = bProb QB KB SB ⟨2 * p + b.val, by omega⟩ x y := by
  rw [prob, bProb, headDot_block hp hQ hK, hs]
  congr 3; exact Fin.ext (by simp; omega)

theorem dscore_block (hQ : IsTile p hp QB Q) (hK : IsTile p hp KB K) (hV : IsTile p hp VB V) (hG : IsTile p hp GB G) (b : Fin 2)
    {s e : FVec Ideal S128x1 .f32} (hs : IsCol (128 * p + 64 * b.val) (by omega) SB s)
    (he : IsCol (128 * p + 64 * b.val) (by omega) EB e) (x y : Fin 128) :
    dscore b Q K V G s e x y = bDs QB KB VB GB SB EB ⟨2 * p + b.val, by omega⟩ x y := by
  rw [dscore, bDs, prob_block hp hQ hK b hs, headDot_block hp hG hV, he]
  congr 3; exact Fin.ext (by simp; omega)

/-- A pair's query gradient tile is the block's. -/
theorem dq_block (hQ : IsTile p hp QB Q) (hK : IsTile p hp KB K) (hV : IsTile p hp VB V) (hG : IsTile p hp GB G)
    (h0 : IsCol (128 * p) (by omega) SB s0) (h1 : IsCol (128 * p + 64) (by omega) SB s1)
    (k0 : IsCol (128 * p) (by omega) EB e0) (k1 : IsCol (128 * p + 64) (by omega) EB e1) (x l : Fin 128) :
    k0_pay98 k0_pay7 K K (dscoreT 0 Q K V G s0 e0) (dscoreT 1 Q K V G s1 e1) (ix2 x l)
      = bDq QB KB VB GB SB EB x ⟨128 * p + l.val, by omega⟩ := by
  rw [dqT_apply, bDq]
  congr 1
  refine Finset.sum_congr rfl fun y _ => ?_
  rw [hK]
  by_cases h : l.val < 64
  · rw [if_pos h, dscoreT_apply, dscore_block hp hQ hK hV hG 0 h0 k0]
    congr 2; exact Fin.ext (by simp; omega)
  · rw [if_neg h, dscoreT_apply, dscore_block hp hQ hK hV hG 1 h1 k1]
    congr 2; exact Fin.ext (by simp; omega)

/-- A pair's key gradient tile is the block's. -/
theorem dk_block (hQ : IsTile p hp QB Q) (hK : IsTile p hp KB K) (hV : IsTile p hp VB V) (hG : IsTile p hp GB G)
    (h0 : IsCol (128 * p) (by omega) SB s0) (h1 : IsCol (128 * p + 64) (by omega) SB s1)
    (k0 : IsCol (128 * p) (by omega) EB e0) (k1 : IsCol (128 * p + 64) (by omega) EB e1) (hz : ∀ y l : Fin 128, z (ix2 y l) = 0)
    (y l : Fin 128) :
    k0_pay99 (k0_pay10 Q) (k0_pay11 Q) (dscoreT 0 Q K V G s0 e0) (dscoreT 1 Q K V G s1 e1) z (ix2 y l)
      = bDk QB KB VB GB SB EB y ⟨128 * p + l.val, by omega⟩ := by
  rw [accT_apply, hz, zero_add, bDk]
  refine Finset.sum_congr rfl fun x _ => ?_
  rw [hQ]
  by_cases h : l.val < 64
  · rw [if_pos h, dscoreT_apply, dscore_block hp hQ hK hV hG 0 h0 k0]
    congr 2; exact Fin.ext (by simp; omega)
  · rw [if_neg h, dscoreT_apply, dscore_block hp hQ hK hV hG 1 h1 k1]
    congr 2; exact Fin.ext (by simp; omega)

/-- A pair's value gradient tile is the block's. -/
theorem dv_block (hQ : IsTile p hp QB Q) (hK : IsTile p hp KB K) (hG : IsTile p hp GB G)
    (h0 : IsCol (128 * p) (by omega) SB s0) (h1 : IsCol (128 * p + 64) (by omega) SB s1) (hz : ∀ y l : Fin 128, z (ix2 y l) = 0)
    (y l : Fin 128) :
    k0_pay99 (k0_pay10 G) (k0_pay11 G) (k0_pay90 (probT 0 Q K s0)) (k0_pay90 (probT 1 Q K s1)) z (ix2 y l)
      = bDv QB KB GB SB y ⟨128 * p + l.val, by omega⟩ := by
  rw [accT_apply, hz, zero_add, bDv]
  refine Finset.sum_congr rfl fun x _ => ?_
  rw [hG]
  by_cases h : l.val < 64
  · rw [if_pos h, show k0_pay90 (probT 0 Q K s0) = probT 0 Q K s0 from rfl, probT_apply, prob_block hp hQ hK 0 h0]
    congr 2; exact Fin.ext (by simp; omega)
  · rw [if_neg h, show k0_pay90 (probT 1 Q K s1) = probT 1 Q K s1 from rfl, probT_apply, prob_block hp hQ hK 1 h1]
    congr 2; exact Fin.ext (by simp; omega)

end Cert.AttnBwd
end
-- ==== Proof.RopeT.lean ====
module

public import proofs.«01_k».proof.Proof.Pair

@[expose] public section

set_option maxRecDepth 16384

noncomputable section

namespace Cert.AttnBwd

open Cert.KernelIdeal Cert.KernelIdeal.Gen Idealize.ShloMosaic

/-- A table of two streams of 128 lanes each, read at a lane of the block: each stream's 128 lanes serve its four pairs of heads. -/
def tabAt (T : Fin 128 → Fin 256 → EReal) (x : Fin 128) (c : Fin 1024) : EReal := T x ⟨128 * (c.val / 512) + c.val % 128, by omega⟩

/-- The lane eight before, going round. -/
abbrev back (c : Fin 1024) : Fin 1024 := ⟨(c.val + 1024 - 8) % 1024, by omega⟩

/-- The lane eight after, going round. -/
abbrev forth (c : Fin 1024) : Fin 1024 := ⟨(c.val + 1024 - 1016) % 1024, by omega⟩

/-- The transposed rotation of a block, as three tables apply it. -/
def bRope (C A B : Fin 128 → Fin 256 → EReal) (Z : Blk) : Blk := fun x c =>
  Z x c * tabAt C x c + Z x (back c) * tabAt A x (back c) + Z x (forth c) * tabAt B x (forth c)

variable {T A B : Fin 128 → Fin 256 → EReal} {a b a' b' : FVec Ideal S128x128 .f32}

/-- The two streams' tables laid over the block's lanes. -/
theorem table_apply (ha : ∀ x l : Fin 128, a (ix2 x l) = T x ⟨l.val, by omega⟩) (hb : ∀ x l : Fin 128, b (ix2 x l) = T x ⟨128 + l.val, by omega⟩)
    (x : Fin 128) (c : Fin 1024) : (k0_pay217 (F := Ideal) a b (ix2 x c) : EReal) = tabAt T x c := by
  pointwise [k0_pay217]
  simp only [ha, hb, tabAt]
  split_ifs <;> congr 1 <;> exact Fin.ext (by simp; omega)

/-- The query gradient's transposed rotation. -/
theorem rope_block {Z : Blk} {W : FVec Ideal S128x1024 .f32} {V : FVec Ideal S128x1024 .f32}
    (hW : ∀ x c, W (ix2 x c) = tabAt T x c)
    (ha : ∀ x l : Fin 128, a (ix2 x l) = A x ⟨l.val, by omega⟩) (hb : ∀ x l : Fin 128, b (ix2 x l) = A x ⟨128 + l.val, by omega⟩)
    (ha' : ∀ x l : Fin 128, a' (ix2 x l) = B x ⟨l.val, by omega⟩) (hb' : ∀ x l : Fin 128, b' (ix2 x l) = B x ⟨128 + l.val, by omega⟩)
    (hV : ∀ x c, V (ix2 x c) = Z x c) (x : Fin 128) (c : Fin 1024) :
    k0_pay220 W a b a' b' V (ix2 x c) = bRope T A B Z x c := by
  pointwise [k0_pay220]
  rw [hV, hV, hV, hW]
  show Z x c * tabAt T x c + Z x (back c) * k0_pay217 (F := Ideal) a b (ix2 x (back c))
    + Z x (forth c) * k0_pay217 (F := Ideal) a' b' (ix2 x (forth c)) = _
  rw [table_apply ha hb, table_apply ha' hb', bRope]

end Cert.AttnBwd
end
-- ==== Proof.ScratchRead.lean ====
module

public import proofs.«01_k».proof.Proof.RopeT
public import proofs.«01_k».proof.Proof.Gen.KernelIdeal.Value
public import Idealize.ShloMosaic.Lib.Pipeline.ValueKit
public import Idealize.ShloMosaic.Lib.Pipeline.ReadBack
public import Idealize.ShloMosaic.Lib.Pipeline.FrameBody

@[expose] public section

set_option maxRecDepth 16384

noncomputable section

namespace Cert.AttnBwd

open Cert.KernelIdeal Cert.KernelIdeal.Gen Idealize.ShloMosaic

/-- A block array as a function of position and lane. -/
abbrev asBlk {n : ℕ} (X : Shape.Idx ⟨2, ![128, n]⟩ → EReal) : Fin 128 → Fin n → EReal := fun x c => X (ix2 x c)

/-- The piece that stores tile `w` at lane `o` of a scratch. -/
abbrev tileAt (o : ℕ) (inb : ∀ a, (![0, o] : Fin 2 → ℕ) a + (![128, 128] : Fin 2 → ℕ) a ≤ S128x1024.size a)
    (w : S128x128.Idx → EReal) : View.Piece (Elt Ideal) S128x1024 .f32 := ⟨Rect.unit ![0, o] ![128, 128] inb, w⟩

/-- A scratch that eight stores filled tile by tile reads back as the block whose tiles were stored. -/
theorem scratch_read {κ : Kind} {sp : Space} (v : View sig κ sp S128x1024 .f32) (B : Blk)
    (w0 w1 w2 w3 w4 w5 w6 w7 : S128x128.Idx → EReal) (L : List (View.Piece (Elt Ideal) S128x1024 .f32))
    (h0 : ∀ x l : Fin 128, w0 (ix2 x l) = B x ⟨0 + l.val, by omega⟩)
    (h1 : ∀ x l : Fin 128, w1 (ix2 x l) = B x ⟨128 + l.val, by omega⟩)
    (h2 : ∀ x l : Fin 128, w2 (ix2 x l) = B x ⟨256 + l.val, by omega⟩)
    (h3 : ∀ x l : Fin 128, w3 (ix2 x l) = B x ⟨384 + l.val, by omega⟩)
    (h4 : ∀ x l : Fin 128, w4 (ix2 x l) = B x ⟨512 + l.val, by omega⟩)
    (h5 : ∀ x l : Fin 128, w5 (ix2 x l) = B x ⟨640 + l.val, by omega⟩)
    (h6 : ∀ x l : Fin 128, w6 (ix2 x l) = B x ⟨768 + l.val, by omega⟩)
    (h7 : ∀ x l : Fin 128, w7 (ix2 x l) = B x ⟨896 + l.val, by omega⟩)
    :
    v.readCov (tileAt 896 inb_S128x1024_S128x128_0_896 w7 :: tileAt 768 inb_S128x1024_S128x128_0_768 w6 :: tileAt 640 inb_S128x1024_S128x128_0_640 w5 :: tileAt 512 inb_S128x1024_S128x128_0_512 w4 :: tileAt 384 inb_S128x1024_S128x128_0_384 w3 :: tileAt 256 inb_S128x1024_S128x128_0_256 w2 :: tileAt 128 inb_S128x1024_S128x128_0_128 w1 :: tileAt 0 inb_S128x1024_S128x128_0_0 w0 :: L)
      (Rect.unit ![0, 0] ![128, 1024] inb_S128x1024_S128x1024_0_0).toLoadRect = (fun i : S128x1024.Idx => B (i 0) (i 1)) := by
  have hc : ∀ i : S128x1024.Idx, ∃ p ∈ [tileAt 896 inb_S128x1024_S128x128_0_896 w7, tileAt 768 inb_S128x1024_S128x128_0_768 w6, tileAt 640 inb_S128x1024_S128x128_0_640 w5, tileAt 512 inb_S128x1024_S128x128_0_512 w4, tileAt 384 inb_S128x1024_S128x128_0_384 w3, tileAt 256 inb_S128x1024_S128x128_0_256 w2, tileAt 128 inb_S128x1024_S128x128_0_128 w1, tileAt 0 inb_S128x1024_S128x128_0_0 w0], i ∈ p.1.set := by
    intro i
    have h1 : (i 1).val < 1024 := (i 1).isLt
    have h0 : (i 0).val < 128 := (i 0).isLt
    have key : ∀ o inb w, o ≤ (i 1).val → (i 1).val < o + 128 → i ∈ (tileAt o inb w).1.set := by
      intro o inb w ha hb
      rw [Rect.mem_set_unit]
      intro a
      match a with
      | ⟨0, _⟩ => exact ⟨Nat.zero_le _, by simpa using h0⟩
      | ⟨1, _⟩ => exact ⟨ha, hb⟩
    have : (i 1).val / 128 < 8 := by omega
    obtain h | h | h | h | h | h | h | h : (i 1).val / 128 = 0 ∨ (i 1).val / 128 = 1 ∨ (i 1).val / 128 = 2 ∨ (i 1).val / 128 = 3
        ∨ (i 1).val / 128 = 4 ∨ (i 1).val / 128 = 5 ∨ (i 1).val / 128 = 6 ∨ (i 1).val / 128 = 7 := by omega
    · exact ⟨tileAt 0 inb_S128x1024_S128x128_0_0 w0, .tail _ (.tail _ (.tail _ (.tail _ (.tail _ (.tail _ (.tail _ (.head _))))))), key _ _ _ (by omega) (by omega)⟩
    · exact ⟨tileAt 128 inb_S128x1024_S128x128_0_128 w1, .tail _ (.tail _ (.tail _ (.tail _ (.tail _ (.tail _ (.head _)))))), key _ _ _ (by omega) (by omega)⟩
    · exact ⟨tileAt 256 inb_S128x1024_S128x128_0_256 w2, .tail _ (.tail _ (.tail _ (.tail _ (.tail _ (.head _))))), key _ _ _ (by omega) (by omega)⟩
    · exact ⟨tileAt 384 inb_S128x1024_S128x128_0_384 w3, .tail _ (.tail _ (.tail _ (.tail _ (.head _)))), key _ _ _ (by omega) (by omega)⟩
    · exact ⟨tileAt 512 inb_S128x1024_S128x128_0_512 w4, .tail _ (.tail _ (.tail _ (.head _))), key _ _ _ (by omega) (by omega)⟩
    · exact ⟨tileAt 640 inb_S128x1024_S128x128_0_640 w5, .tail _ (.tail _ (.head _)), key _ _ _ (by omega) (by omega)⟩
    · exact ⟨tileAt 768 inb_S128x1024_S128x128_0_768 w6, .tail _ (.head _), key _ _ _ (by omega) (by omega)⟩
    · exact ⟨tileAt 896 inb_S128x1024_S128x128_0_896 w7, .head _, key _ _ _ (by omega) (by omega)⟩
  rw [View.readCov_eq_canon_ld]
  · rw [View.ld_unit_zero (by funext a; match a with | ⟨0, _⟩ => rfl | ⟨1, _⟩ => rfl)]
    funext i
    refine View.canon_append_of_piecesOf (fun i => B (i 0) (i 1)) L [tileAt 896 inb_S128x1024_S128x128_0_896 w7, tileAt 768 inb_S128x1024_S128x128_0_768 w6, tileAt 640 inb_S128x1024_S128x128_0_640 w5, tileAt 512 inb_S128x1024_S128x128_0_512 w4, tileAt 384 inb_S128x1024_S128x128_0_384 w3, tileAt 256 inb_S128x1024_S128x128_0_256 w2, tileAt 128 inb_S128x1024_S128x128_0_128 w1, tileAt 0 inb_S128x1024_S128x128_0_0 w0] ?_ i (hc i)
    refine ⟨?_, ?_, ?_, ?_, ?_, ?_, ?_, ?_, trivial⟩ <;> intro x
    · exact (congrArg w7 (eq_ix2 x)).trans ((h7 (x 0) (x 1)).trans (by congr 1 <;> exact Fin.ext (by show _ = _ + _ ; simp)))
    · exact (congrArg w6 (eq_ix2 x)).trans ((h6 (x 0) (x 1)).trans (by congr 1 <;> exact Fin.ext (by show _ = _ + _ ; simp)))
    · exact (congrArg w5 (eq_ix2 x)).trans ((h5 (x 0) (x 1)).trans (by congr 1 <;> exact Fin.ext (by show _ = _ + _ ; simp)))
    · exact (congrArg w4 (eq_ix2 x)).trans ((h4 (x 0) (x 1)).trans (by congr 1 <;> exact Fin.ext (by show _ = _ + _ ; simp)))
    · exact (congrArg w3 (eq_ix2 x)).trans ((h3 (x 0) (x 1)).trans (by congr 1 <;> exact Fin.ext (by show _ = _ + _ ; simp)))
    · exact (congrArg w2 (eq_ix2 x)).trans ((h2 (x 0) (x 1)).trans (by congr 1 <;> exact Fin.ext (by show _ = _ + _ ; simp)))
    · exact (congrArg w1 (eq_ix2 x)).trans ((h1 (x 0) (x 1)).trans (by congr 1 <;> exact Fin.ext (by show _ = _ + _ ; simp)))
    · exact (congrArg w0 (eq_ix2 x)).trans ((h0 (x 0) (x 1)).trans (by congr 1 <;> exact Fin.ext (by show _ = _ + _ ; simp)))
  · intro i
    obtain ⟨p, hp, hi⟩ := hc i
    exact ⟨p, List.mem_append_left L hp, hi⟩

end Cert.AttnBwd
end
-- ==== Proof.BlockDv.lean ====
module

public import proofs.«01_k».proof.Proof.ScratchRead

@[expose] public section

set_option maxRecDepth 16384
set_option maxHeartbeats 1600000

noncomputable section

namespace Cert.AttnBwd

open Cert.KernelIdeal Cert.KernelIdeal.Gen Idealize.ShloMosaic

variable (m : (ℓ : Loc nD τ sig) → Buf (Elt Ideal) ℓ) (c : Dev nD) (t : Fin cfg0.N)

/-- A block of window `w` at grid point `t`, as a function of position and lane. -/
abbrev blkQ : Blk := asBlk (iblk m c 0 t)
abbrev blkK : Blk := asBlk (iblk m c 1 t)
abbrev blkV : Blk := asBlk (iblk m c 2 t)
abbrev blkS : Blk := asBlk (iblk m c 3 t)
abbrev blkG : Blk := asBlk (iblk m c 4 t)
abbrev blkE : Blk := asBlk (iblk m c 5 t)
abbrev tabC : Fin 128 → Fin 256 → EReal := asBlk (iblk m c 6 t)
abbrev tabA : Fin 128 → Fin 256 → EReal := asBlk (iblk m c 7 t)
abbrev tabB : Fin 128 → Fin 256 → EReal := asBlk (iblk m c 8 t)

/-- What a grid point leaves of the values' gradient. -/
theorem dv_out : (outsAt0 m c t).2.2 = fun i : S128x1024.Idx => (bDv (blkQ m c t) (blkK m c t) (blkG m c t) (blkS m c t)) (i 0) (i 1) := by
  frame_open
  simp (disch := decide) only [↓ View.readCov_skip, ↓ View.readCov_cons_toLoadRect, ↓ View.readCov_fill]
  frame_out
  refine (congrArg k0_pay1 (scratch_read _ (bDv (blkQ m c t) (blkK m c t) (blkG m c t) (blkS m c t)) _ _ _ _ _ _ _ _ _ ?_ ?_ ?_ ?_ ?_ ?_ ?_ ?_)).trans ?_
  · exact dv_block (p := 0) (QB := blkQ m c t) (KB := blkK m c t) (GB := blkG m c t) (SB := blkS m c t) (by omega) (Q := View.ld (iblk m c 0 t) (Rect.unit ![0, 0] ![128, 128] inb_S128x1024_S128x128_0_0))
      (K := k0_pay40 (k0_pay4 (View.ld (iblk m c 1 t) (Rect.unit ![0, 0] ![128, 512] inb_S128x1024_S128x512_0_0))))
      (G := View.ld (iblk m c 4 t) (Rect.unit ![0, 0] ![128, 128] inb_S128x1024_S128x128_0_0))
      (s0 := View.ld (iblk m c 3 t) (Rect.unit ![0, 0] ![128, 1] inb_S128x1024_S128x1_0_0)) (s1 := View.ld (iblk m c 3 t) (Rect.unit ![0, 64] ![128, 1] inb_S128x1024_S128x1_0_64))
      (by intro x l; pointwise) (by intro x l; pointwise [k0_pay40, k0_pay4]) (by intro x l; pointwise) (by intro x; pointwise) (by intro x; pointwise) (by intro y l; pointwise [k0_pay3])
  · exact dv_block (p := 1) (QB := blkQ m c t) (KB := blkK m c t) (GB := blkG m c t) (SB := blkS m c t) (by omega) (Q := View.ld (iblk m c 0 t) (Rect.unit ![0, 128] ![128, 128] inb_S128x1024_S128x128_0_128))
      (K := k0_pay42 (k0_pay4 (View.ld (iblk m c 1 t) (Rect.unit ![0, 0] ![128, 512] inb_S128x1024_S128x512_0_0))))
      (G := View.ld (iblk m c 4 t) (Rect.unit ![0, 128] ![128, 128] inb_S128x1024_S128x128_0_128))
      (s0 := View.ld (iblk m c 3 t) (Rect.unit ![0, 128] ![128, 1] inb_S128x1024_S128x1_0_128)) (s1 := View.ld (iblk m c 3 t) (Rect.unit ![0, 192] ![128, 1] inb_S128x1024_S128x1_0_192))
      (by intro x l; pointwise) (by intro x l; pointwise [k0_pay42, k0_pay4]) (by intro x l; pointwise) (by intro x; pointwise) (by intro x; pointwise) (by intro y l; pointwise [k0_pay3])
  · exact dv_block (p := 2) (QB := blkQ m c t) (KB := blkK m c t) (GB := blkG m c t) (SB := blkS m c t) (by omega) (Q := View.ld (iblk m c 0 t) (Rect.unit ![0, 256] ![128, 128] inb_S128x1024_S128x128_0_256))
      (K := k0_pay44 (k0_pay4 (View.ld (iblk m c 1 t) (Rect.unit ![0, 0] ![128, 512] inb_S128x1024_S128x512_0_0))))
      (G := View.ld (iblk m c 4 t) (Rect.unit ![0, 256] ![128, 128] inb_S128x1024_S128x128_0_256))
      (s0 := View.ld (iblk m c 3 t) (Rect.unit ![0, 256] ![128, 1] inb_S128x1024_S128x1_0_256)) (s1 := View.ld (iblk m c 3 t) (Rect.unit ![0, 320] ![128, 1] inb_S128x1024_S128x1_0_320))
      (by intro x l; pointwise) (by intro x l; pointwise [k0_pay44, k0_pay4]) (by intro x l; pointwise) (by intro x; pointwise) (by intro x; pointwise) (by intro y l; pointwise [k0_pay3])
  · exact dv_block (p := 3) (QB := blkQ m c t) (KB := blkK m c t) (GB := blkG m c t) (SB := blkS m c t) (by omega) (Q := View.ld (iblk m c 0 t) (Rect.unit ![0, 384] ![128, 128] inb_S128x1024_S128x128_0_384))
      (K := k0_pay46 (k0_pay4 (View.ld (iblk m c 1 t) (Rect.unit ![0, 0] ![128, 512] inb_S128x1024_S128x512_0_0))))
      (G := View.ld (iblk m c 4 t) (Rect.unit ![0, 384] ![128, 128] inb_S128x1024_S128x128_0_384))
      (s0 := View.ld (iblk m c 3 t) (Rect.unit ![0, 384] ![128, 1] inb_S128x1024_S128x1_0_384)) (s1 := View.ld (iblk m c 3 t) (Rect.unit ![0, 448] ![128, 1] inb_S128x1024_S128x1_0_448))
      (by intro x l; pointwise) (by intro x l; pointwise [k0_pay46, k0_pay4]) (by intro x l; pointwise) (by intro x; pointwise) (by intro x; pointwise) (by intro y l; pointwise [k0_pay3])
  · exact dv_block (p := 4) (QB := blkQ m c t) (KB := blkK m c t) (GB := blkG m c t) (SB := blkS m c t) (by omega) (Q := View.ld (iblk m c 0 t) (Rect.unit ![0, 512] ![128, 128] inb_S128x1024_S128x128_0_512))
      (K := k0_pay147 (k0_pay111 (View.ld (iblk m c 1 t) (Rect.unit ![0, 512] ![128, 512] inb_S128x1024_S128x512_0_512))))
      (G := View.ld (iblk m c 4 t) (Rect.unit ![0, 512] ![128, 128] inb_S128x1024_S128x128_0_512))
      (s0 := View.ld (iblk m c 3 t) (Rect.unit ![0, 512] ![128, 1] inb_S128x1024_S128x1_0_512)) (s1 := View.ld (iblk m c 3 t) (Rect.unit ![0, 576] ![128, 1] inb_S128x1024_S128x1_0_576))
      (by intro x l; pointwise) (by intro x l; pointwise [k0_pay147, k0_pay111]) (by intro x l; pointwise) (by intro x; pointwise) (by intro x; pointwise) (by intro y l; pointwise [k0_pay3])
  · exact dv_block (p := 5) (QB := blkQ m c t) (KB := blkK m c t) (GB := blkG m c t) (SB := blkS m c t) (by omega) (Q := View.ld (iblk m c 0 t) (Rect.unit ![0, 640] ![128, 128] inb_S128x1024_S128x128_0_640))
      (K := k0_pay149 (k0_pay111 (View.ld (iblk m c 1 t) (Rect.unit ![0, 512] ![128, 512] inb_S128x1024_S128x512_0_512))))
      (G := View.ld (iblk m c 4 t) (Rect.unit ![0, 640] ![128, 128] inb_S128x1024_S128x128_0_640))
      (s0 := View.ld (iblk m c 3 t) (Rect.unit ![0, 640] ![128, 1] inb_S128x1024_S128x1_0_640)) (s1 := View.ld (iblk m c 3 t) (Rect.unit ![0, 704] ![128, 1] inb_S128x1024_S128x1_0_704))
      (by intro x l; pointwise) (by intro x l; pointwise [k0_pay149, k0_pay111]; exact congrArg (blkK m c t x) (Fin.ext (by show 512 + (128 + l.val) = _ + _; omega))) (by intro x l; pointwise) (by intro x; pointwise) (by intro x; pointwise) (by intro y l; pointwise [k0_pay3])
  · exact dv_block (p := 6) (QB := blkQ m c t) (KB := blkK m c t) (GB := blkG m c t) (SB := blkS m c t) (by omega) (Q := View.ld (iblk m c 0 t) (Rect.unit ![0, 768] ![128, 128] inb_S128x1024_S128x128_0_768))
      (K := k0_pay151 (k0_pay111 (View.ld (iblk m c 1 t) (Rect.unit ![0, 512] ![128, 512] inb_S128x1024_S128x512_0_512))))
      (G := View.ld (iblk m c 4 t) (Rect.unit ![0, 768] ![128, 128] inb_S128x1024_S128x128_0_768))
      (s0 := View.ld (iblk m c 3 t) (Rect.unit ![0, 768] ![128, 1] inb_S128x1024_S128x1_0_768)) (s1 := View.ld (iblk m c 3 t) (Rect.unit ![0, 832] ![128, 1] inb_S128x1024_S128x1_0_832))
      (by intro x l; pointwise) (by intro x l; pointwise [k0_pay151, k0_pay111]; exact congrArg (blkK m c t x) (Fin.ext (by show 512 + (256 + l.val) = _ + _; omega))) (by intro x l; pointwise) (by intro x; pointwise) (by intro x; pointwise) (by intro y l; pointwise [k0_pay3])
  · exact dv_block (p := 7) (QB := blkQ m c t) (KB := blkK m c t) (GB := blkG m c t) (SB := blkS m c t) (by omega) (Q := View.ld (iblk m c 0 t) (Rect.unit ![0, 896] ![128, 128] inb_S128x1024_S128x128_0_896))
      (K := k0_pay153 (k0_pay111 (View.ld (iblk m c 1 t) (Rect.unit ![0, 512] ![128, 512] inb_S128x1024_S128x512_0_512))))
      (G := View.ld (iblk m c 4 t) (Rect.unit ![0, 896] ![128, 128] inb_S128x1024_S128x128_0_896))
      (s0 := View.ld (iblk m c 3 t) (Rect.unit ![0, 896] ![128, 1] inb_S128x1024_S128x1_0_896)) (s1 := View.ld (iblk m c 3 t) (Rect.unit ![0, 960] ![128, 1] inb_S128x1024_S128x1_0_960))
      (by intro x l; pointwise) (by intro x l; pointwise [k0_pay153, k0_pay111]; exact congrArg (blkK m c t x) (Fin.ext (by show 512 + (384 + l.val) = _ + _; omega))) (by intro x l; pointwise) (by intro x; pointwise) (by intro x; pointwise) (by intro y l; pointwise [k0_pay3])
  · funext i
    rw [eq_ix2 i]
    pointwise [k0_pay1]

end Cert.AttnBwd
end
-- ==== Proof.BlockDq.lean ====
module

public import proofs.«01_k».proof.Proof.BlockDv

@[expose] public section

set_option maxRecDepth 16384
set_option maxHeartbeats 1600000

noncomputable section

namespace Cert.AttnBwd

open Cert.KernelIdeal Cert.KernelIdeal.Gen Idealize.ShloMosaic

variable (m : (ℓ : Loc nD τ sig) → Buf (Elt Ideal) ℓ) (c : Dev nD) (t : Fin cfg0.N)

/-- What a grid point leaves of the queries' gradient: rotated back. -/
theorem dq_out : (outsAt0 m c t).1
    = fun i : S128x1024.Idx => bRope (tabC m c t) (tabA m c t) (tabB m c t) (bDq (blkQ m c t) (blkK m c t) (blkV m c t) (blkG m c t) (blkS m c t) (blkE m c t)) (i 0) (i 1) := by
  frame_open
  frame_out
  refine (congrArg (k0_pay220 (k0_pay217 (View.ld (iblk m c 6 t) (Rect.unit ![0, 0] ![128, 128] inb_S128x256_S128x128_0_0)) (View.ld (iblk m c 6 t) (Rect.unit ![0, 128] ![128, 128] inb_S128x256_S128x128_0_128)))
      (View.ld (iblk m c 7 t) (Rect.unit ![0, 0] ![128, 128] inb_S128x256_S128x128_0_0)) (View.ld (iblk m c 7 t) (Rect.unit ![0, 128] ![128, 128] inb_S128x256_S128x128_0_128))
      (View.ld (iblk m c 8 t) (Rect.unit ![0, 0] ![128, 128] inb_S128x256_S128x128_0_0)) (View.ld (iblk m c 8 t) (Rect.unit ![0, 128] ![128, 128] inb_S128x256_S128x128_0_128)))
    (scratch_read _ (bDq (blkQ m c t) (blkK m c t) (blkV m c t) (blkG m c t) (blkS m c t) (blkE m c t)) _ _ _ _ _ _ _ _ _ ?_ ?_ ?_ ?_ ?_ ?_ ?_ ?_)).trans ?_
  · exact dq_block (p := 0) (QB := blkQ m c t) (KB := blkK m c t) (VB := blkV m c t) (GB := blkG m c t) (SB := blkS m c t) (EB := blkE m c t) (by omega) (Q := View.ld (iblk m c 0 t) (Rect.unit ![0, 0] ![128, 128] inb_S128x1024_S128x128_0_0))
      (K := k0_pay40 (k0_pay4 (View.ld (iblk m c 1 t) (Rect.unit ![0, 0] ![128, 512] inb_S128x1024_S128x512_0_0))))
      (V := k0_pay48 (k0_pay5 (View.ld (iblk m c 2 t) (Rect.unit ![0, 0] ![128, 512] inb_S128x1024_S128x512_0_0))))
      (G := View.ld (iblk m c 4 t) (Rect.unit ![0, 0] ![128, 128] inb_S128x1024_S128x128_0_0))
      (s0 := View.ld (iblk m c 3 t) (Rect.unit ![0, 0] ![128, 1] inb_S128x1024_S128x1_0_0)) (s1 := View.ld (iblk m c 3 t) (Rect.unit ![0, 64] ![128, 1] inb_S128x1024_S128x1_0_64))
      (e0 := View.ld (iblk m c 5 t) (Rect.unit ![0, 0] ![128, 1] inb_S128x1024_S128x1_0_0)) (e1 := View.ld (iblk m c 5 t) (Rect.unit ![0, 64] ![128, 1] inb_S128x1024_S128x1_0_64))
      (by intro x l; pointwise) (by intro x l; pointwise [k0_pay40, k0_pay4]) (by intro x l; pointwise [k0_pay48, k0_pay5]) (by intro x l; pointwise) (by intro x; pointwise) (by intro x; pointwise) (by intro x; pointwise) (by intro x; pointwise)
  · exact dq_block (p := 1) (QB := blkQ m c t) (KB := blkK m c t) (VB := blkV m c t) (GB := blkG m c t) (SB := blkS m c t) (EB := blkE m c t) (by omega) (Q := View.ld (iblk m c 0 t) (Rect.unit ![0, 128] ![128, 128] inb_S128x1024_S128x128_0_128))
      (K := k0_pay42 (k0_pay4 (View.ld (iblk m c 1 t) (Rect.unit ![0, 0] ![128, 512] inb_S128x1024_S128x512_0_0))))
      (V := k0_pay50 (k0_pay5 (View.ld (iblk m c 2 t) (Rect.unit ![0, 0] ![128, 512] inb_S128x1024_S128x512_0_0))))
      (G := View.ld (iblk m c 4 t) (Rect.unit ![0, 128] ![128, 128] inb_S128x1024_S128x128_0_128))
      (s0 := View.ld (iblk m c 3 t) (Rect.unit ![0, 128] ![128, 1] inb_S128x1024_S128x1_0_128)) (s1 := View.ld (iblk m c 3 t) (Rect.unit ![0, 192] ![128, 1] inb_S128x1024_S128x1_0_192))
      (e0 := View.ld (iblk m c 5 t) (Rect.unit ![0, 128] ![128, 1] inb_S128x1024_S128x1_0_128)) (e1 := View.ld (iblk m c 5 t) (Rect.unit ![0, 192] ![128, 1] inb_S128x1024_S128x1_0_192))
      (by intro x l; pointwise) (by intro x l; pointwise [k0_pay42, k0_pay4]) (by intro x l; pointwise [k0_pay50, k0_pay5]) (by intro x l; pointwise) (by intro x; pointwise) (by intro x; pointwise) (by intro x; pointwise) (by intro x; pointwise)
  · exact dq_block (p := 2) (QB := blkQ m c t) (KB := blkK m c t) (VB := blkV m c t) (GB := blkG m c t) (SB := blkS m c t) (EB := blkE m c t) (by omega) (Q := View.ld (iblk m c 0 t) (Rect.unit ![0, 256] ![128, 128] inb_S128x1024_S128x128_0_256))
      (K := k0_pay44 (k0_pay4 (View.ld (iblk m c 1 t) (Rect.unit ![0, 0] ![128, 512] inb_S128x1024_S128x512_0_0))))
      (V := k0_pay52 (k0_pay5 (View.ld (iblk m c 2 t) (Rect.unit ![0, 0] ![128, 512] inb_S128x1024_S128x512_0_0))))
      (G := View.ld (iblk m c 4 t) (Rect.unit ![0, 256] ![128, 128] inb_S128x1024_S128x128_0_256))
      (s0 := View.ld (iblk m c 3 t) (Rect.unit ![0, 256] ![128, 1] inb_S128x1024_S128x1_0_256)) (s1 := View.ld (iblk m c 3 t) (Rect.unit ![0, 320] ![128, 1] inb_S128x1024_S128x1_0_320))
      (e0 := View.ld (iblk m c 5 t) (Rect.unit ![0, 256] ![128, 1] inb_S128x1024_S128x1_0_256)) (e1 := View.ld (iblk m c 5 t) (Rect.unit ![0, 320] ![128, 1] inb_S128x1024_S128x1_0_320))
      (by intro x l; pointwise) (by intro x l; pointwise [k0_pay44, k0_pay4]) (by intro x l; pointwise [k0_pay52, k0_pay5]) (by intro x l; pointwise) (by intro x; pointwise) (by intro x; pointwise) (by intro x; pointwise) (by intro x; pointwise)
  · exact dq_block (p := 3) (QB := blkQ m c t) (KB := blkK m c t) (VB := blkV m c t) (GB := blkG m c t) (SB := blkS m c t) (EB := blkE m c t) (by omega) (Q := View.ld (iblk m c 0 t) (Rect.unit ![0, 384] ![128, 128] inb_S128x1024_S128x128_0_384))
      (K := k0_pay46 (k0_pay4 (View.ld (iblk m c 1 t) (Rect.unit ![0, 0] ![128, 512] inb_S128x1024_S128x512_0_0))))
      (V := k0_pay54 (k0_pay5 (View.ld (iblk m c 2 t) (Rect.unit ![0, 0] ![128, 512] inb_S128x1024_S128x512_0_0))))
      (G := View.ld (iblk m c 4 t) (Rect.unit ![0, 384] ![128, 128] inb_S128x1024_S128x128_0_384))
      (s0 := View.ld (iblk m c 3 t) (Rect.unit ![0, 384] ![128, 1] inb_S128x1024_S128x1_0_384)) (s1 := View.ld (iblk m c 3 t) (Rect.unit ![0, 448] ![128, 1] inb_S128x1024_S128x1_0_448))
      (e0 := View.ld (iblk m c 5 t) (Rect.unit ![0, 384] ![128, 1] inb_S128x1024_S128x1_0_384)) (e1 := View.ld (iblk m c 5 t) (Rect.unit ![0, 448] ![128, 1] inb_S128x1024_S128x1_0_448))
      (by intro x l; pointwise) (by intro x l; pointwise [k0_pay46, k0_pay4]) (by intro x l; pointwise [k0_pay54, k0_pay5]) (by intro x l; pointwise) (by intro x; pointwise) (by intro x; pointwise) (by intro x; pointwise) (by intro x; pointwise)
  · exact dq_block (p := 4) (QB := blkQ m c t) (KB := blkK m c t) (VB := blkV m c t) (GB := blkG m c t) (SB := blkS m c t) (EB := blkE m c t) (by omega) (Q := View.ld (iblk m c 0 t) (Rect.unit ![0, 512] ![128, 128] inb_S128x1024_S128x128_0_512))
      (K := k0_pay147 (k0_pay111 (View.ld (iblk m c 1 t) (Rect.unit ![0, 512] ![128, 512] inb_S128x1024_S128x512_0_512))))
      (V := k0_pay155 (k0_pay112 (View.ld (iblk m c 2 t) (Rect.unit ![0, 512] ![128, 512] inb_S128x1024_S128x512_0_512))))
      (G := View.ld (iblk m c 4 t) (Rect.unit ![0, 512] ![128, 128] inb_S128x1024_S128x128_0_512))
      (s0 := View.ld (iblk m c 3 t) (Rect.unit ![0, 512] ![128, 1] inb_S128x1024_S128x1_0_512)) (s1 := View.ld (iblk m c 3 t) (Rect.unit ![0, 576] ![128, 1] inb_S128x1024_S128x1_0_576))
      (e0 := View.ld (iblk m c 5 t) (Rect.unit ![0, 512] ![128, 1] inb_S128x1024_S128x1_0_512)) (e1 := View.ld (iblk m c 5 t) (Rect.unit ![0, 576] ![128, 1] inb_S128x1024_S128x1_0_576))
      (by intro x l; pointwise) (by intro x l; pointwise [k0_pay147, k0_pay111]) (by intro x l; pointwise [k0_pay155, k0_pay112]) (by intro x l; pointwise) (by intro x; pointwise) (by intro x; pointwise) (by intro x; pointwise) (by intro x; pointwise)
  · exact dq_block (p := 5) (QB := blkQ m c t) (KB := blkK m c t) (VB := blkV m c t) (GB := blkG m c t) (SB := blkS m c t) (EB := blkE m c t) (by omega) (Q := View.ld (iblk m c 0 t) (Rect.unit ![0, 640] ![128, 128] inb_S128x1024_S128x128_0_640))
      (K := k0_pay149 (k0_pay111 (View.ld (iblk m c 1 t) (Rect.unit ![0, 512] ![128, 512] inb_S128x1024_S128x512_0_512))))
      (V := k0_pay157 (k0_pay112 (View.ld (iblk m c 2 t) (Rect.unit ![0, 512] ![128, 512] inb_S128x1024_S128x512_0_512))))
      (G := View.ld (iblk m c 4 t) (Rect.unit ![0, 640] ![128, 128] inb_S128x1024_S128x128_0_640))
      (s0 := View.ld (iblk m c 3 t) (Rect.unit ![0, 640] ![128, 1] inb_S128x1024_S128x1_0_640)) (s1 := View.ld (iblk m c 3 t) (Rect.unit ![0, 704] ![128, 1] inb_S128x1024_S128x1_0_704))
      (e0 := View.ld (iblk m c 5 t) (Rect.unit ![0, 640] ![128, 1] inb_S128x1024_S128x1_0_640)) (e1 := View.ld (iblk m c 5 t) (Rect.unit ![0, 704] ![128, 1] inb_S128x1024_S128x1_0_704))
      (by intro x l; pointwise) (by intro x l; pointwise [k0_pay149, k0_pay111]; exact congrArg (blkK m c t x) (Fin.ext (by show 512 + (128 + l.val) = _ + _; omega))) (by intro x l; pointwise [k0_pay157, k0_pay112]; exact congrArg (blkV m c t x) (Fin.ext (by show 512 + (128 + l.val) = _ + _; omega))) (by intro x l; pointwise) (by intro x; pointwise) (by intro x; pointwise) (by intro x; pointwise) (by intro x; pointwise)
  · exact dq_block (p := 6) (QB := blkQ m c t) (KB := blkK m c t) (VB := blkV m c t) (GB := blkG m c t) (SB := blkS m c t) (EB := blkE m c t) (by omega) (Q := View.ld (iblk m c 0 t) (Rect.unit ![0, 768] ![128, 128] inb_S128x1024_S128x128_0_768))
      (K := k0_pay151 (k0_pay111 (View.ld (iblk m c 1 t) (Rect.unit ![0, 512] ![128, 512] inb_S128x1024_S128x512_0_512))))
      (V := k0_pay159 (k0_pay112 (View.ld (iblk m c 2 t) (Rect.unit ![0, 512] ![128, 512] inb_S128x1024_S128x512_0_512))))
      (G := View.ld (iblk m c 4 t) (Rect.unit ![0, 768] ![128, 128] inb_S128x1024_S128x128_0_768))
      (s0 := View.ld (iblk m c 3 t) (Rect.unit ![0, 768] ![128, 1] inb_S128x1024_S128x1_0_768)) (s1 := View.ld (iblk m c 3 t) (Rect.unit ![0, 832] ![128, 1] inb_S128x1024_S128x1_0_832))
      (e0 := View.ld (iblk m c 5 t) (Rect.unit ![0, 768] ![128, 1] inb_S128x1024_S128x1_0_768)) (e1 := View.ld (iblk m c 5 t) (Rect.unit ![0, 832] ![128, 1] inb_S128x1024_S128x1_0_832))
      (by intro x l; pointwise) (by intro x l; pointwise [k0_pay151, k0_pay111]; exact congrArg (blkK m c t x) (Fin.ext (by show 512 + (256 + l.val) = _ + _; omega))) (by intro x l; pointwise [k0_pay159, k0_pay112]; exact congrArg (blkV m c t x) (Fin.ext (by show 512 + (256 + l.val) = _ + _; omega))) (by intro x l; pointwise) (by intro x; pointwise) (by intro x; pointwise) (by intro x; pointwise) (by intro x; pointwise)
  · exact dq_block (p := 7) (QB := blkQ m c t) (KB := blkK m c t) (VB := blkV m c t) (GB := blkG m c t) (SB := blkS m c t) (EB := blkE m c t) (by omega) (Q := View.ld (iblk m c 0 t) (Rect.unit ![0, 896] ![128, 128] inb_S128x1024_S128x128_0_896))
      (K := k0_pay153 (k0_pay111 (View.ld (iblk m c 1 t) (Rect.unit ![0, 512] ![128, 512] inb_S128x1024_S128x512_0_512))))
      (V := k0_pay161 (k0_pay112 (View.ld (iblk m c 2 t) (Rect.unit ![0, 512] ![128, 512] inb_S128x1024_S128x512_0_512))))
      (G := View.ld (iblk m c 4 t) (Rect.unit ![0, 896] ![128, 128] inb_S128x1024_S128x128_0_896))
      (s0 := View.ld (iblk m c 3 t) (Rect.unit ![0, 896] ![128, 1] inb_S128x1024_S128x1_0_896)) (s1 := View.ld (iblk m c 3 t) (Rect.unit ![0, 960] ![128, 1] inb_S128x1024_S128x1_0_960))
      (e0 := View.ld (iblk m c 5 t) (Rect.unit ![0, 896] ![128, 1] inb_S128x1024_S128x1_0_896)) (e1 := View.ld (iblk m c 5 t) (Rect.unit ![0, 960] ![128, 1] inb_S128x1024_S128x1_0_960))
      (by intro x l; pointwise) (by intro x l; pointwise [k0_pay153, k0_pay111]; exact congrArg (blkK m c t x) (Fin.ext (by show 512 + (384 + l.val) = _ + _; omega))) (by intro x l; pointwise [k0_pay161, k0_pay112]; exact congrArg (blkV m c t x) (Fin.ext (by show 512 + (384 + l.val) = _ + _; omega))) (by intro x l; pointwise) (by intro x; pointwise) (by intro x; pointwise) (by intro x; pointwise) (by intro x; pointwise)
  · funext i
    exact (congrArg _ (eq_ix2 i)).trans (rope_block (Z := (bDq (blkQ m c t) (blkK m c t) (blkV m c t) (blkG m c t) (blkS m c t) (blkE m c t))) (T := tabC m c t) (fun x c => table_apply (by intro x l; pointwise) (by intro x l; pointwise) x c)
      (by intro x l; pointwise) (by intro x l; pointwise) (by intro x l; pointwise) (by intro x l; pointwise) (fun x l => rfl) (i 0) (i 1))

end Cert.AttnBwd
end
-- ==== Proof.BlockDk.lean ====
module

public import proofs.«01_k».proof.Proof.BlockDv

@[expose] public section

set_option maxRecDepth 16384
set_option maxHeartbeats 1600000

noncomputable section

namespace Cert.AttnBwd

open Cert.KernelIdeal Cert.KernelIdeal.Gen Idealize.ShloMosaic

variable (m : (ℓ : Loc nD τ sig) → Buf (Elt Ideal) ℓ) (c : Dev nD) (t : Fin cfg0.N)

/-- What a grid point leaves of the keys' gradient: rotated back. -/
theorem dk_out : (outsAt0 m c t).2.1
    = fun i : S128x1024.Idx => bRope (tabC m c t) (tabA m c t) (tabB m c t) (bDk (blkQ m c t) (blkK m c t) (blkV m c t) (blkG m c t) (blkS m c t) (blkE m c t)) (i 0) (i 1) := by
  frame_open
  simp (disch := decide) only [↓ View.readCov_skip, ↓ View.readCov_cons_toLoadRect, ↓ View.readCov_fill]
  frame_out
  refine (congrArg (k0_pay221 (k0_pay217 (View.ld (iblk m c 6 t) (Rect.unit ![0, 0] ![128, 128] inb_S128x256_S128x128_0_0)) (View.ld (iblk m c 6 t) (Rect.unit ![0, 128] ![128, 128] inb_S128x256_S128x128_0_128)))
      (View.ld (iblk m c 7 t) (Rect.unit ![0, 0] ![128, 128] inb_S128x256_S128x128_0_0)) (View.ld (iblk m c 7 t) (Rect.unit ![0, 128] ![128, 128] inb_S128x256_S128x128_0_128))
      (View.ld (iblk m c 8 t) (Rect.unit ![0, 0] ![128, 128] inb_S128x256_S128x128_0_0)) (View.ld (iblk m c 8 t) (Rect.unit ![0, 128] ![128, 128] inb_S128x256_S128x128_0_128)))
    (scratch_read _ (bDk (blkQ m c t) (blkK m c t) (blkV m c t) (blkG m c t) (blkS m c t) (blkE m c t)) _ _ _ _ _ _ _ _ _ ?_ ?_ ?_ ?_ ?_ ?_ ?_ ?_)).trans ?_
  · exact dk_block (p := 0) (QB := blkQ m c t) (KB := blkK m c t) (VB := blkV m c t) (GB := blkG m c t) (SB := blkS m c t) (EB := blkE m c t) (by omega) (Q := View.ld (iblk m c 0 t) (Rect.unit ![0, 0] ![128, 128] inb_S128x1024_S128x128_0_0))
      (K := k0_pay40 (k0_pay4 (View.ld (iblk m c 1 t) (Rect.unit ![0, 0] ![128, 512] inb_S128x1024_S128x512_0_0))))
      (V := k0_pay48 (k0_pay5 (View.ld (iblk m c 2 t) (Rect.unit ![0, 0] ![128, 512] inb_S128x1024_S128x512_0_0))))
      (G := View.ld (iblk m c 4 t) (Rect.unit ![0, 0] ![128, 128] inb_S128x1024_S128x128_0_0))
      (s0 := View.ld (iblk m c 3 t) (Rect.unit ![0, 0] ![128, 1] inb_S128x1024_S128x1_0_0)) (s1 := View.ld (iblk m c 3 t) (Rect.unit ![0, 64] ![128, 1] inb_S128x1024_S128x1_0_64))
      (e0 := View.ld (iblk m c 5 t) (Rect.unit ![0, 0] ![128, 1] inb_S128x1024_S128x1_0_0)) (e1 := View.ld (iblk m c 5 t) (Rect.unit ![0, 64] ![128, 1] inb_S128x1024_S128x1_0_64))
      (by intro x l; pointwise) (by intro x l; pointwise [k0_pay40, k0_pay4]) (by intro x l; pointwise [k0_pay48, k0_pay5]) (by intro x l; pointwise) (by intro x; pointwise) (by intro x; pointwise) (by intro x; pointwise) (by intro x; pointwise) (by intro y l; pointwise [k0_pay2])
  · exact dk_block (p := 1) (QB := blkQ m c t) (KB := blkK m c t) (VB := blkV m c t) (GB := blkG m c t) (SB := blkS m c t) (EB := blkE m c t) (by omega) (Q := View.ld (iblk m c 0 t) (Rect.unit ![0, 128] ![128, 128] inb_S128x1024_S128x128_0_128))
      (K := k0_pay42 (k0_pay4 (View.ld (iblk m c 1 t) (Rect.unit ![0, 0] ![128, 512] inb_S128x1024_S128x512_0_0))))
      (V := k0_pay50 (k0_pay5 (View.ld (iblk m c 2 t) (Rect.unit ![0, 0] ![128, 512] inb_S128x1024_S128x512_0_0))))
      (G := View.ld (iblk m c 4 t) (Rect.unit ![0, 128] ![128, 128] inb_S128x1024_S128x128_0_128))
      (s0 := View.ld (iblk m c 3 t) (Rect.unit ![0, 128] ![128, 1] inb_S128x1024_S128x1_0_128)) (s1 := View.ld (iblk m c 3 t) (Rect.unit ![0, 192] ![128, 1] inb_S128x1024_S128x1_0_192))
      (e0 := View.ld (iblk m c 5 t) (Rect.unit ![0, 128] ![128, 1] inb_S128x1024_S128x1_0_128)) (e1 := View.ld (iblk m c 5 t) (Rect.unit ![0, 192] ![128, 1] inb_S128x1024_S128x1_0_192))
      (by intro x l; pointwise) (by intro x l; pointwise [k0_pay42, k0_pay4]) (by intro x l; pointwise [k0_pay50, k0_pay5]) (by intro x l; pointwise) (by intro x; pointwise) (by intro x; pointwise) (by intro x; pointwise) (by intro x; pointwise) (by intro y l; pointwise [k0_pay2])
  · exact dk_block (p := 2) (QB := blkQ m c t) (KB := blkK m c t) (VB := blkV m c t) (GB := blkG m c t) (SB := blkS m c t) (EB := blkE m c t) (by omega) (Q := View.ld (iblk m c 0 t) (Rect.unit ![0, 256] ![128, 128] inb_S128x1024_S128x128_0_256))
      (K := k0_pay44 (k0_pay4 (View.ld (iblk m c 1 t) (Rect.unit ![0, 0] ![128, 512] inb_S128x1024_S128x512_0_0))))
      (V := k0_pay52 (k0_pay5 (View.ld (iblk m c 2 t) (Rect.unit ![0, 0] ![128, 512] inb_S128x1024_S128x512_0_0))))
      (G := View.ld (iblk m c 4 t) (Rect.unit ![0, 256] ![128, 128] inb_S128x1024_S128x128_0_256))
      (s0 := View.ld (iblk m c 3 t) (Rect.unit ![0, 256] ![128, 1] inb_S128x1024_S128x1_0_256)) (s1 := View.ld (iblk m c 3 t) (Rect.unit ![0, 320] ![128, 1] inb_S128x1024_S128x1_0_320))
      (e0 := View.ld (iblk m c 5 t) (Rect.unit ![0, 256] ![128, 1] inb_S128x1024_S128x1_0_256)) (e1 := View.ld (iblk m c 5 t) (Rect.unit ![0, 320] ![128, 1] inb_S128x1024_S128x1_0_320))
      (by intro x l; pointwise) (by intro x l; pointwise [k0_pay44, k0_pay4]) (by intro x l; pointwise [k0_pay52, k0_pay5]) (by intro x l; pointwise) (by intro x; pointwise) (by intro x; pointwise) (by intro x; pointwise) (by intro x; pointwise) (by intro y l; pointwise [k0_pay2])
  · exact dk_block (p := 3) (QB := blkQ m c t) (KB := blkK m c t) (VB := blkV m c t) (GB := blkG m c t) (SB := blkS m c t) (EB := blkE m c t) (by omega) (Q := View.ld (iblk m c 0 t) (Rect.unit ![0, 384] ![128, 128] inb_S128x1024_S128x128_0_384))
      (K := k0_pay46 (k0_pay4 (View.ld (iblk m c 1 t) (Rect.unit ![0, 0] ![128, 512] inb_S128x1024_S128x512_0_0))))
      (V := k0_pay54 (k0_pay5 (View.ld (iblk m c 2 t) (Rect.unit ![0, 0] ![128, 512] inb_S128x1024_S128x512_0_0))))
      (G := View.ld (iblk m c 4 t) (Rect.unit ![0, 384] ![128, 128] inb_S128x1024_S128x128_0_384))
      (s0 := View.ld (iblk m c 3 t) (Rect.unit ![0, 384] ![128, 1] inb_S128x1024_S128x1_0_384)) (s1 := View.ld (iblk m c 3 t) (Rect.unit ![0, 448] ![128, 1] inb_S128x1024_S128x1_0_448))
      (e0 := View.ld (iblk m c 5 t) (Rect.unit ![0, 384] ![128, 1] inb_S128x1024_S128x1_0_384)) (e1 := View.ld (iblk m c 5 t) (Rect.unit ![0, 448] ![128, 1] inb_S128x1024_S128x1_0_448))
      (by intro x l; pointwise) (by intro x l; pointwise [k0_pay46, k0_pay4]) (by intro x l; pointwise [k0_pay54, k0_pay5]) (by intro x l; pointwise) (by intro x; pointwise) (by intro x; pointwise) (by intro x; pointwise) (by intro x; pointwise) (by intro y l; pointwise [k0_pay2])
  · exact dk_block (p := 4) (QB := blkQ m c t) (KB := blkK m c t) (VB := blkV m c t) (GB := blkG m c t) (SB := blkS m c t) (EB := blkE m c t) (by omega) (Q := View.ld (iblk m c 0 t) (Rect.unit ![0, 512] ![128, 128] inb_S128x1024_S128x128_0_512))
      (K := k0_pay147 (k0_pay111 (View.ld (iblk m c 1 t) (Rect.unit ![0, 512] ![128, 512] inb_S128x1024_S128x512_0_512))))
      (V := k0_pay155 (k0_pay112 (View.ld (iblk m c 2 t) (Rect.unit ![0, 512] ![128, 512] inb_S128x1024_S128x512_0_512))))
      (G := View.ld (iblk m c 4 t) (Rect.unit ![0, 512] ![128, 128] inb_S128x1024_S128x128_0_512))
      (s0 := View.ld (iblk m c 3 t) (Rect.unit ![0, 512] ![128, 1] inb_S128x1024_S128x1_0_512)) (s1 := View.ld (iblk m c 3 t) (Rect.unit ![0, 576] ![128, 1] inb_S128x1024_S128x1_0_576))
      (e0 := View.ld (iblk m c 5 t) (Rect.unit ![0, 512] ![128, 1] inb_S128x1024_S128x1_0_512)) (e1 := View.ld (iblk m c 5 t) (Rect.unit ![0, 576] ![128, 1] inb_S128x1024_S128x1_0_576))
      (by intro x l; pointwise) (by intro x l; pointwise [k0_pay147, k0_pay111]) (by intro x l; pointwise [k0_pay155, k0_pay112]) (by intro x l; pointwise) (by intro x; pointwise) (by intro x; pointwise) (by intro x; pointwise) (by intro x; pointwise) (by intro y l; pointwise [k0_pay2])
  · exact dk_block (p := 5) (QB := blkQ m c t) (KB := blkK m c t) (VB := blkV m c t) (GB := blkG m c t) (SB := blkS m c t) (EB := blkE m c t) (by omega) (Q := View.ld (iblk m c 0 t) (Rect.unit ![0, 640] ![128, 128] inb_S128x1024_S128x128_0_640))
      (K := k0_pay149 (k0_pay111 (View.ld (iblk m c 1 t) (Rect.unit ![0, 512] ![128, 512] inb_S128x1024_S128x512_0_512))))
      (V := k0_pay157 (k0_pay112 (View.ld (iblk m c 2 t) (Rect.unit ![0, 512] ![128, 512] inb_S128x1024_S128x512_0_512))))
      (G := View.ld (iblk m c 4 t) (Rect.unit ![0, 640] ![128, 128] inb_S128x1024_S128x128_0_640))
      (s0 := View.ld (iblk m c 3 t) (Rect.unit ![0, 640] ![128, 1] inb_S128x1024_S128x1_0_640)) (s1 := View.ld (iblk m c 3 t) (Rect.unit ![0, 704] ![128, 1] inb_S128x1024_S128x1_0_704))
      (e0 := View.ld (iblk m c 5 t) (Rect.unit ![0, 640] ![128, 1] inb_S128x1024_S128x1_0_640)) (e1 := View.ld (iblk m c 5 t) (Rect.unit ![0, 704] ![128, 1] inb_S128x1024_S128x1_0_704))
      (by intro x l; pointwise) (by intro x l; pointwise [k0_pay149, k0_pay111]; exact congrArg (blkK m c t x) (Fin.ext (by show 512 + (128 + l.val) = _ + _; omega))) (by intro x l; pointwise [k0_pay157, k0_pay112]; exact congrArg (blkV m c t x) (Fin.ext (by show 512 + (128 + l.val) = _ + _; omega))) (by intro x l; pointwise) (by intro x; pointwise) (by intro x; pointwise) (by intro x; pointwise) (by intro x; pointwise) (by intro y l; pointwise [k0_pay2])
  · exact dk_block (p := 6) (QB := blkQ m c t) (KB := blkK m c t) (VB := blkV m c t) (GB := blkG m c t) (SB := blkS m c t) (EB := blkE m c t) (by omega) (Q := View.ld (iblk m c 0 t) (Rect.unit ![0, 768] ![128, 128] inb_S128x1024_S128x128_0_768))
      (K := k0_pay151 (k0_pay111 (View.ld (iblk m c 1 t) (Rect.unit ![0, 512] ![128, 512] inb_S128x1024_S128x512_0_512))))
      (V := k0_pay159 (k0_pay112 (View.ld (iblk m c 2 t) (Rect.unit ![0, 512] ![128, 512] inb_S128x1024_S128x512_0_512))))
      (G := View.ld (iblk m c 4 t) (Rect.unit ![0, 768] ![128, 128] inb_S128x1024_S128x128_0_768))
      (s0 := View.ld (iblk m c 3 t) (Rect.unit ![0, 768] ![128, 1] inb_S128x1024_S128x1_0_768)) (s1 := View.ld (iblk m c 3 t) (Rect.unit ![0, 832] ![128, 1] inb_S128x1024_S128x1_0_832))
      (e0 := View.ld (iblk m c 5 t) (Rect.unit ![0, 768] ![128, 1] inb_S128x1024_S128x1_0_768)) (e1 := View.ld (iblk m c 5 t) (Rect.unit ![0, 832] ![128, 1] inb_S128x1024_S128x1_0_832))
      (by intro x l; pointwise) (by intro x l; pointwise [k0_pay151, k0_pay111]; exact congrArg (blkK m c t x) (Fin.ext (by show 512 + (256 + l.val) = _ + _; omega))) (by intro x l; pointwise [k0_pay159, k0_pay112]; exact congrArg (blkV m c t x) (Fin.ext (by show 512 + (256 + l.val) = _ + _; omega))) (by intro x l; pointwise) (by intro x; pointwise) (by intro x; pointwise) (by intro x; pointwise) (by intro x; pointwise) (by intro y l; pointwise [k0_pay2])
  · exact dk_block (p := 7) (QB := blkQ m c t) (KB := blkK m c t) (VB := blkV m c t) (GB := blkG m c t) (SB := blkS m c t) (EB := blkE m c t) (by omega) (Q := View.ld (iblk m c 0 t) (Rect.unit ![0, 896] ![128, 128] inb_S128x1024_S128x128_0_896))
      (K := k0_pay153 (k0_pay111 (View.ld (iblk m c 1 t) (Rect.unit ![0, 512] ![128, 512] inb_S128x1024_S128x512_0_512))))
      (V := k0_pay161 (k0_pay112 (View.ld (iblk m c 2 t) (Rect.unit ![0, 512] ![128, 512] inb_S128x1024_S128x512_0_512))))
      (G := View.ld (iblk m c 4 t) (Rect.unit ![0, 896] ![128, 128] inb_S128x1024_S128x128_0_896))
      (s0 := View.ld (iblk m c 3 t) (Rect.unit ![0, 896] ![128, 1] inb_S128x1024_S128x1_0_896)) (s1 := View.ld (iblk m c 3 t) (Rect.unit ![0, 960] ![128, 1] inb_S128x1024_S128x1_0_960))
      (e0 := View.ld (iblk m c 5 t) (Rect.unit ![0, 896] ![128, 1] inb_S128x1024_S128x1_0_896)) (e1 := View.ld (iblk m c 5 t) (Rect.unit ![0, 960] ![128, 1] inb_S128x1024_S128x1_0_960))
      (by intro x l; pointwise) (by intro x l; pointwise [k0_pay153, k0_pay111]; exact congrArg (blkK m c t x) (Fin.ext (by show 512 + (384 + l.val) = _ + _; omega))) (by intro x l; pointwise [k0_pay161, k0_pay112]; exact congrArg (blkV m c t x) (Fin.ext (by show 512 + (384 + l.val) = _ + _; omega))) (by intro x l; pointwise) (by intro x; pointwise) (by intro x; pointwise) (by intro x; pointwise) (by intro x; pointwise) (by intro y l; pointwise [k0_pay2])
  · funext i
    exact (congrArg _ (eq_ix2 i)).trans (rope_block (Z := (bDk (blkQ m c t) (blkK m c t) (blkV m c t) (blkG m c t) (blkS m c t) (blkE m c t))) (T := tabC m c t) (fun x c => table_apply (by intro x l; pointwise) (by intro x l; pointwise) x c)
      (by intro x l; pointwise) (by intro x l; pointwise) (by intro x l; pointwise) (by intro x l; pointwise) (fun x l => rfl) (i 0) (i 1))

end Cert.AttnBwd
end
-- ==== Proof.Head.lean ====
module

public import proofs.«01_k».proof.Proof.RopeT

@[expose] public section

set_option maxRecDepth 16384

noncomputable section

namespace Cert.AttnBwd

open Idealize.ShloMosaic

/-- One head's rows of one stream. -/
abbrev HeadRows := Fin 128 → Fin 64 → EReal

/-- The product of a query row and a key row. -/
def hDot (Q K : HeadRows) (x y : Fin 128) : EReal := ∑ d, Q x d * K y d

/-- The exponential of the masked score less the row's constant. -/
def hProb (Q K : HeadRows) (s : Fin 128 → EReal) (x y : Fin 128) : EReal := Ideal.exp ((if y ≤ x then hDot Q K x y else ⊥) - s x)

/-- The masked score's gradient. -/
def hDs (Q K V G : HeadRows) (s e : Fin 128 → EReal) (x y : Fin 128) : EReal := hProb Q K s x y * (hDot G V x y - e x)

/-- The rotated queries' gradient. -/
def hDq (Q K V G : HeadRows) (s e : Fin 128 → EReal) : HeadRows := fun x d => (∑ y, hDs Q K V G s e x y * K y d) * ((1 / 8 : ℝ) : EReal)

/-- The rotated keys' gradient. -/
def hDk (Q K V G : HeadRows) (s e : Fin 128 → EReal) : HeadRows := fun y d => ∑ x, hDs Q K V G s e x y * Q x d

/-- The values' gradient. -/
def hDv (Q K G : HeadRows) (s : Fin 128 → EReal) : HeadRows := fun y d => ∑ x, hProb Q K s x y * G x d

/-- The transposed rotation of a head's rows. -/
def hRope (cs sn : Fin 128 → Fin 8 → EReal) (Z : HeadRows) : HeadRows := fun x d =>
  if h : d.val < 8 then Z x d * cs x ⟨d.val, h⟩ + Z x ⟨d.val + 8, by omega⟩ * sn x ⟨d.val, h⟩
  else if h' : d.val < 16 then Z x d * cs x ⟨d.val - 8, by omega⟩ + Z x ⟨d.val - 8, by omega⟩ * -sn x ⟨d.val - 8, by omega⟩
  else Z x d

theorem headOf_col (a : Fin 16) (d : Fin 64) : headOf (col a d) = a := Fin.ext (by show (64 * a.val + d.val) / 64 = a.val; omega)

variable (Q K V G S E : Blk)

/-- Head `a` of a block. -/
abbrev headAt (B : Blk) (a : Fin 16) : HeadRows := fun x d => B x (col a d)

/-- A head's first lane, which holds a row's constant. -/
abbrev constAt (B : Blk) (a : Fin 16) : Fin 128 → EReal := fun x => B x (col a 0)

theorem bDq_head (a : Fin 16) (x : Fin 128) (d : Fin 64) : bDq Q K V G S E x (col a d)
    = hDq (headAt Q a) (headAt K a) (headAt V a) (headAt G a) (constAt S a) (constAt E a) x d := by
  simp only [bDq, headOf_col]; rfl

theorem bDk_head (a : Fin 16) (x : Fin 128) (d : Fin 64) : bDk Q K V G S E x (col a d)
    = hDk (headAt Q a) (headAt K a) (headAt V a) (headAt G a) (constAt S a) (constAt E a) x d := by
  simp only [bDk, headOf_col]; rfl

theorem bDv_head (a : Fin 16) (x : Fin 128) (d : Fin 64) : bDv Q K G S x (col a d)
    = hDv (headAt Q a) (headAt K a) (headAt G a) (constAt S a) x d := by
  simp only [bDv, headOf_col]; rfl

/-- With the tables zero off the rotated lanes, the rotation of a block turns each head by itself. -/
theorem rope_head {C A B : Fin 128 → Fin 256 → EReal} (cs sn : Fin 128 → Fin 2 → Fin 8 → EReal) (Z : Blk)
    (hC : ∀ x a d, tabAt C x (col a d) = if d.val < 16 then cs x ⟨a.val / 8, by omega⟩ ⟨d.val % 8, by omega⟩ else 1)
    (hA : ∀ x a d, tabAt A x (col a d) = if d.val < 8 then -sn x ⟨a.val / 8, by omega⟩ ⟨d.val % 8, by omega⟩ else 0)
    (hB : ∀ x a d, tabAt B x (col a d) = if 8 ≤ d.val ∧ d.val < 16 then sn x ⟨a.val / 8, by omega⟩ ⟨d.val % 8, by omega⟩ else 0)
    (a : Fin 16) (x : Fin 128) (d : Fin 64) :
    bRope C A B Z x (col a d) = hRope (fun x => cs x ⟨a.val / 8, by omega⟩) (fun x => sn x ⟨a.val / 8, by omega⟩) (headAt Z a) x d := by
  have ecol : ∀ c : Fin 1024, c = col ⟨c.val / 64, by omega⟩ ⟨c.val % 64, by omega⟩ :=
    fun c => Fin.ext (by show c.val = 64 * (c.val / 64) + c.val % 64; omega)
  have zA : ∀ c : Fin 1024, ¬ c.val % 64 < 8 → tabAt A x c = 0 := fun c h => by rw [ecol c, hA, if_neg h]
  have zB : ∀ c : Fin 1024, ¬ (8 ≤ c.val % 64 ∧ c.val % 64 < 16) → tabAt B x c = 0 := fun c h => by rw [ecol c, hB, if_neg h]
  rw [bRope, hC, hRope]
  by_cases h8 : d.val < 8
  · have ef : forth (col a d) = col a ⟨d.val + 8, by omega⟩ := Fin.ext (by show (64 * a.val + d.val + 1024 - 1016) % 1024 = 64 * a.val + (d.val + 8); omega)
    rw [dif_pos h8, if_pos (by omega), zA _ (by show ¬ (64 * a.val + d.val + 1024 - 8) % 1024 % 64 < 8; omega), mul_zero, add_zero, ef, hB,
      if_pos (by show 8 ≤ d.val + 8 ∧ d.val + 8 < 16; omega)]
    congr 3
    · exact Fin.ext (by show d.val % 8 = d.val; omega)
    · exact Fin.ext (by show (d.val + 8) % 8 = d.val; omega)
  · rw [dif_neg h8]
    by_cases h16 : d.val < 16
    · have ef : back (col a d) = col a ⟨d.val - 8, by omega⟩ := Fin.ext (by show (64 * a.val + d.val + 1024 - 8) % 1024 = 64 * a.val + (d.val - 8); omega)
      rw [dif_pos h16, if_pos h16, zB _ (by show ¬ (8 ≤ (64 * a.val + d.val + 1024 - 1016) % 1024 % 64 ∧ (64 * a.val + d.val + 1024 - 1016) % 1024 % 64 < 16); omega),
        mul_zero, add_zero, ef, hA, if_pos (by show d.val - 8 < 8; omega)]
      congr 3
      · exact Fin.ext (by show d.val % 8 = d.val - 8; omega)
      · congr 1
        exact Fin.ext (by show (d.val - 8) % 8 = d.val - 8; omega)
    · rw [dif_neg h16, if_neg h16, zA _ (by show ¬ (64 * a.val + d.val + 1024 - 8) % 1024 % 64 < 8; omega),
        zB _ (by show ¬ (8 ≤ (64 * a.val + d.val + 1024 - 1016) % 1024 % 64 ∧ (64 * a.val + d.val + 1024 - 1016) % 1024 % 64 < 16); omega),
        mul_zero, mul_zero, add_zero, add_zero, mul_one]

end Cert.AttnBwd
end
-- ==== Proof.Prel.lean ====
module

public import proofs.«01_k».proof.Proof.Gen.KernelIdeal.Value
public import proofs.«01_k».proof.Proof.Gen.ReferenceIdeal.Read
public import Idealize.ShloMosaic.Lib.StableHlo.RunRead
public import Idealize.ShloMosaic.Lib.Claim
public import Idealize.ShloMosaic.Lib.Pointwise

@[expose] public section

set_option maxRecDepth 16384

noncomputable section

namespace Cert.AttnBwd

open Cert.KernelIdeal Cert.KernelIdeal.Gen Idealize.ShloMosaic Idealize.ShloMosaic.TcCoe Idealize.SL.Sem

open Cert.ReferenceIdeal.Read

variable (m : (ℓ : Loc nD τ sig) → Buf (Elt Ideal) ℓ) (c : Dev nD)

/-- The two halves of the rotated lanes side by side. -/
abbrev catRot (a b : FVec Ideal S2048x8x8 .f32) : FVec Ideal S2048x8x16 .f32 :=
  concatenate S2048x8x16 2 [⟨S2048x8x8, a⟩, ⟨S2048x8x8, b⟩] concatenates_S2048x8x8_S2048x8x8_S2048x8x16_d2

/-- The rotated lanes before the lanes left alone. -/
abbrev catAll (a : FVec Ideal S2048x8x16 .f32) (b : FVec Ideal S2048x8x48 .f32) : FVec Ideal S2048x8x64 .f32 :=
  concatenate S2048x8x64 2 [⟨S2048x8x16, a⟩, ⟨S2048x8x48, b⟩] concatenates_S2048x8x16_S2048x8x48_S2048x8x64_d2

/-- The device's buffers before the launch, after the first `n` host operations. -/
abbrev pre (n : ℕ) (b : Ref sig .tc) : Buf (Elt Ideal) ((c : Thread nD τ).loc b) :=
  StableHlo.upto (List.flatten [hostOps0, hostOps0_1, hostOps0_2, hostOps0_3, hostOps0_4, hostOps0_5, hostOps0_6, hostOps0_7, hostOps0_8, hostOps0_9, hostOps0_10])
    (fun b => m (c, b)) n (Proc.devRef .tc b)

/-- The angles, frequencies first. -/
abbrev angT (p : S2048.Idx → BitVec 32) : FVec Ideal S8x2048 .f32 :=
  mulf (broadcastInDim S8x2048 ![0, 1] bcast_S8x1_S8x2048_0_1 (broadcastInDim S8x1 ![0] bcast_S8_S8x1_0
      (Host.powf (broadcastInDim S8 ![] bcast_S_S8 (constant S_ FTy.f32 0x48F42400#32))
        (mulf (Host.negf (sitofp FTy.f32 (iotaInDim S8 32 0))) (broadcastInDim S8 ![] bcast_S_S8 (constant S_ FTy.f32 0x3E000000#32))))))
    (broadcastInDim S8x2048 ![0, 1] bcast_S1x2048_S8x2048_0_1 (broadcastInDim S1x2048 ![1] bcast_S2048_S1x2048_1 (sitofp FTy.f32 p)))

/-- The angles' cosines, positions first. -/
theorem cos_eq (p : S2048.Idx → BitVec 32) :
    transpose S2048x8 [1, 0] (Host.cos (angT p)) transposes_S8x2048_S2048x8_1_0 = val_main_v12 (F := Ideal) p := by
  funext i
  rw [eq_ix2 i]
  unfold val_main_v12 val_main_v11 val_main_v9 val_main_v10 val_main_v8 val_main_v7 val_main_v6 val_main_v5 val_main_v4 val_main_v3 val_main_v2 val_main_v1 val_main_v0 val_main_cst val_main_cst_0
  pointwise
  rw [mul_comm]

/-- The angles' sines, positions first. -/
theorem sin_eq (p : S2048.Idx → BitVec 32) :
    transpose S2048x8 [1, 0] (Host.sin (angT p)) transposes_S8x2048_S2048x8_1_0 = val_main_v13 (F := Ideal) p := by
  funext i
  rw [eq_ix2 i]
  unfold val_main_v13 val_main_v11 val_main_v9 val_main_v10 val_main_v8 val_main_v7 val_main_v6 val_main_v5 val_main_v4 val_main_v3 val_main_v2 val_main_v1 val_main_v0 val_main_cst val_main_cst_0
  pointwise
  rw [mul_comm]

/-- The arguments. -/
abbrev aQ : S2048x512.Idx → EReal := m ((c : Thread nD τ).loc main_arg0)
abbrev aK : S2048x512.Idx → EReal := m ((c : Thread nD τ).loc main_arg1)
abbrev aV : S2048x512.Idx → EReal := m ((c : Thread nD τ).loc main_arg2)
abbrev aP : S2048.Idx → BitVec 32 := m ((c : Thread nD τ).loc main_arg3)
abbrev aG : S2048x512.Idx → EReal := m ((c : Thread nD τ).loc main_arg4)
abbrev aL : S2048x8.Idx → EReal := m ((c : Thread nD τ).loc main_arg5)

theorem mid_q : ∀ X : FVec Ideal S2048x8x16 .f32, catRot (pre m c 93 main_v48) (pre m c 93 main_v53) = X → pre m c 95 main_v54 = X := by
  intro X h
  unfold pre
  after_reads_simp
  exact h

/-- The rotated queries are the reference's. -/
theorem rot_q : catAll (pre m c 95 main_v54) (pre m c 95 main_v55)
    = val_main_v33 (F := Ideal) (aQ m c) (aP m c) := by
  rw [mid_q m c _ rfl]
  unfold pre
  after_reads_simp
  rw [cos_eq (aP m c), sin_eq (aP m c)]
  rfl

theorem mid_k : ∀ X : FVec Ideal S2048x8x16 .f32, catRot (pre m c 113 main_v68) (pre m c 113 main_v73) = X → pre m c 115 main_v74 = X := by
  intro X h
  unfold pre
  after_reads_simp
  exact h

/-- The rotated keys are the reference's. -/
theorem rot_k : catAll (pre m c 115 main_v74) (pre m c 115 main_v75)
    = val_main_v50 (F := Ideal) (aK m c) (aP m c) := by
  rw [mid_k m c _ rfl]
  unfold pre
  after_reads_simp
  rw [cos_eq (aP m c), sin_eq (aP m c)]
  rfl

/-- The queries: rotated and scaled. -/
theorem V_q : V m c main_v123 = truncf (F := Ideal) .bf16 (shapeCast S128x8192 (mulf (val_main_v33 (F := Ideal) (aQ m c) (aP m c)) (broadcastInDim S2048x8x64 ![] bcast_S_S2048x8x64 (constant (F := Ideal) S_ .f32 0x3E000000#32))) shapeCasts_S2048x8x64_S128x8192) bitsLt_bf16_f32 := by
  unfold_abbrev_sides
  after_reads_simp
  rw [show concatenate _ _ _ _ = _ from rot_q m c]
  rfl

/-- The keys: rotated. -/
theorem V_k : V m c main_v125 = truncf (F := Ideal) .bf16 (shapeCast S128x8192 ((val_main_v50 (F := Ideal) (aK m c) (aP m c))) shapeCasts_S2048x8x64_S128x8192) bitsLt_bf16_f32 := by
  unfold_abbrev_sides
  after_reads_simp
  rw [show concatenate _ _ _ _ = _ from rot_k m c]
  rfl

/-- The values. -/
theorem V_v : V m c main_v127 = truncf (F := Ideal) .bf16 (shapeCast S128x8192 (aV m c) shapeCasts_S2048x512_S128x8192) bitsLt_bf16_f32 := by
  unfold_abbrev_sides
  after_reads_simp
  rfl

/-- The cotangent. -/
theorem V_g : V m c main_v132 = truncf (F := Ideal) .bf16 (shapeCast S128x8192 (aG m c) shapeCasts_S2048x512_S128x8192) bitsLt_bf16_f32 := by
  unfold_abbrev_sides
  after_reads_simp
  rfl

end Cert.AttnBwd
end
-- ==== Proof.Prel2.lean ====
module

public import proofs.«01_k».proof.Proof.Prel
public import proofs.«01_k».proof.Proof.Gen.ReferenceIdeal.Read
public import Idealize.ShloMosaic.Lib.StableHlo.RunRead
public import Idealize.ShloMosaic.Lib.Claim
public import Idealize.ShloMosaic.Lib.Pointwise

@[expose] public section

set_option maxRecDepth 16384

noncomputable section

namespace Cert.AttnBwd

open Cert.KernelIdeal Cert.KernelIdeal.Gen Idealize.ShloMosaic Idealize.ShloMosaic.TcCoe Idealize.SL.Sem

open Cert.ReferenceIdeal.Read

variable (m : (ℓ : Loc nD τ sig) → Buf (Elt Ideal) ℓ) (c : Dev nD)

/-- The scores' log-sum-exp, over each head's lanes. -/
theorem V_s : V m c main_v130 = shapeCast S128x8192 (broadcastInDim S2048x8x64 ![0, 1, 2] bcast_S2048x8x1_S2048x8x64_0_1_2 (broadcastInDim S2048x8x1 ![0, 1] bcast_S2048x8_S2048x8x1_0_1 (val_main_v92 (F := Ideal) (aQ m c) (aK m c) (aP m c)))) shapeCasts_S2048x8x64_S128x8192 := by
  unfold_abbrev_sides
  after_reads_simp
  rw [show concatenate _ _ _ _ = _ from rot_q m c]
  rw [show concatenate _ _ _ _ = _ from rot_k m c]
  rfl

/-- The sum of the cotangent times the output less the log-sum-exp's cotangent, over each head's lanes. -/
theorem V_e : V m c main_v135 = shapeCast S128x8192 (broadcastInDim S2048x8x64 ![0, 1, 2] bcast_S2048x8x1_S2048x8x64_0_1_2 (broadcastInDim S2048x8x1 ![0, 1] bcast_S2048x8_S2048x8x1_0_1 (subf (Host.reduceAdd (mulf (shapeCast S2048x8x64 (aG m c) shapeCasts_S2048x512_S2048x8x64) (val_main_v90 (F := Ideal) (aQ m c) (aK m c) (aV m c) (aP m c))) (constant (F := Ideal) S_ .f32 0x00000000#32) reducesTo_S2048x8x64_S2048x8_d2 h_S_) (aL m c)))) shapeCasts_S2048x8x64_S128x8192 := by
  unfold_abbrev_sides
  after_reads_simp
  rw [show concatenate _ _ _ _ = _ from rot_q m c]
  rw [show concatenate _ _ _ _ = _ from rot_k m c]
  rfl

end Cert.AttnBwd
end
-- ==== Proof.Tabs.lean ====
module

public import proofs.«01_k».proof.Proof.Prel
public import proofs.«01_k».proof.Proof.Gen.ReferenceIdeal.Read
public import Idealize.ShloMosaic.Lib.StableHlo.ReadAt
public import Idealize.ShloMosaic.Lib.Claim
public import Idealize.ShloMosaic.Lib.Pointwise

@[expose] public section

set_option maxRecDepth 16384

noncomputable section

namespace Cert.AttnBwd

open Cert.KernelIdeal Cert.KernelIdeal.Gen Idealize.ShloMosaic Idealize.ShloMosaic.TcCoe Idealize.SL.Sem

open Cert.ReferenceIdeal.Read

variable (m : (ℓ : Loc nD τ sig) → Buf (Elt Ideal) ℓ) (c : Dev nD)

/-- A lane's remainder by 64, as the host words compute it. -/
abbrev laneWord (l : ℕ) : BitVec 32 :=
  let d := Scalar.select (IntOp.cmpi .eq (64#32) 0#32) (1#32) (64#32)
  let r := IntOp.remsi ArithUnit.host (BitVec.ofNat 32 l) d
  Scalar.select (IntOp.andi (IntOp.cmpi .ne (IntOp.cmpi .slt r 0#32) (IntOp.cmpi .slt d 0#32)) (IntOp.cmpi .ne r 0#32)) (IntOp.addi r d) r

/-- The lanes that rotate. -/
theorem bit_c : ∀ l : Fin 128, IntOp.cmpi .slt (laneWord l.val) 16#32 = if l.val % 64 < 16 then 1#1 else 0#1 := by decide +kernel

/-- The first half of the lanes that rotate. -/
theorem bit_a : ∀ l : Fin 128, IntOp.cmpi .slt (laneWord l.val) 8#32 = if l.val % 64 < 8 then 1#1 else 0#1 := by decide +kernel

/-- The second half of the lanes that rotate. -/
theorem bit_b : ∀ l : Fin 128, IntOp.andi (IntOp.cmpi .sge (laneWord l.val) 8#32) (IntOp.cmpi .slt (laneWord l.val) 16#32)
    = if 8 ≤ l.val % 64 ∧ l.val % 64 < 16 then 1#1 else 0#1 := by decide +kernel

theorem one_value : Ideal.ofBits .f32 0x3F800000#32 = 1 := by simp [Ideal.ofBits, Ideal.ieee, -EReal.coe_mul]; norm_num
theorem zero_value : Ideal.ofBits .f32 0x00000000#32 = 0 := by simp [Ideal.ofBits, Ideal.ieee]

/-- The table of cosines at a lane. -/
theorem V_c (x : Fin 128) (n : Fin 2048) : V m c main_v136 (ix2 x n)
    = if n.val % 64 < 16 then val_main_v12 (F := Ideal) (aP m c) (ix2 ⟨x.val * 16 + n.val / 128, by omega⟩ ⟨n.val % 8, by omega⟩) else 1 := by
  rw [← cos_eq]
  unfold_abbrev_sides
  after_reads_at
  rw [show n.val % 128 % 8 = n.val % 8 by omega]
  refine (congrArg (fun b => Scalar.select b _ _) (bit_c ⟨n.val % 128, by omega⟩)).trans ?_
  rw [show n.val % 128 % 64 = n.val % 64 by omega]
  split_ifs
  · rfl
  · exact one_value

/-- The table of the first half's sines at a lane. -/
theorem V_a (x : Fin 128) (n : Fin 2048) : V m c main_v137 (ix2 x n)
    = if n.val % 64 < 8 then -val_main_v13 (F := Ideal) (aP m c) (ix2 ⟨x.val * 16 + n.val / 128, by omega⟩ ⟨n.val % 8, by omega⟩) else 0 := by
  rw [← sin_eq]
  unfold_abbrev_sides
  after_reads_at
  rw [show n.val % 128 % 8 = n.val % 8 by omega]
  refine (congrArg (fun b => Scalar.select b _ _) (bit_a ⟨n.val % 128, by omega⟩)).trans ?_
  rw [show n.val % 128 % 64 = n.val % 64 by omega]
  split_ifs
  · rfl
  · exact zero_value

/-- The table of the second half's sines at a lane. -/
theorem V_b (x : Fin 128) (n : Fin 2048) : V m c main_v138 (ix2 x n)
    = if 8 ≤ n.val % 64 ∧ n.val % 64 < 16 then val_main_v13 (F := Ideal) (aP m c) (ix2 ⟨x.val * 16 + n.val / 128, by omega⟩ ⟨n.val % 8, by omega⟩) else 0 := by
  rw [← sin_eq]
  unfold_abbrev_sides
  after_reads_at
  rw [show n.val % 128 % 8 = n.val % 8 by omega]
  refine (congrArg (fun b => Scalar.select b _ _) (bit_b ⟨n.val % 128, by omega⟩)).trans ?_
  rw [show n.val % 128 % 64 = n.val % 64 by omega]
  split_ifs
  · rfl
  · exact zero_value

end Cert.AttnBwd
end
-- ==== Proof.Cells.lean ====
module

public import proofs.«01_k».proof.Proof.Prel2
public import proofs.«01_k».proof.Proof.Tabs
public import proofs.«01_k».proof.Proof.Gen.ReferenceIdeal.Read
public import Idealize.ShloMosaic.Lib.StableHlo.RunRead
public import Idealize.ShloMosaic.Lib.Claim
public import Idealize.ShloMosaic.Lib.Pointwise

@[expose] public section

set_option maxRecDepth 16384

noncomputable section

namespace Cert.AttnBwd

open Cert.KernelIdeal Cert.KernelIdeal.Gen Idealize.ShloMosaic Idealize.ShloMosaic.TcCoe Idealize.SL.Sem

open Cert.ReferenceIdeal.Read

variable (m : (ℓ : Loc nD τ sig) → Buf (Elt Ideal) ℓ) (c : Dev nD)

variable (x : Fin 128) (n : Fin 8192)

/-- An entry of the queries' array. -/
theorem cell_q : V m c main_v123 (ix2 x n) = val_main_v33 (F := Ideal) (aQ m c) (aP m c) (ix3 ⟨x.val * 16 + n.val / 512, by omega⟩ ⟨n.val / 64 % 8, by omega⟩ ⟨n.val % 64, by omega⟩) * Ideal.ofBits .f32 0x3E000000#32 := by
  rw [V_q]
  pointwise

/-- An entry of the keys' array. -/
theorem cell_k : V m c main_v125 (ix2 x n) = val_main_v50 (F := Ideal) (aK m c) (aP m c) (ix3 ⟨x.val * 16 + n.val / 512, by omega⟩ ⟨n.val / 64 % 8, by omega⟩ ⟨n.val % 64, by omega⟩) := by
  rw [V_k]
  pointwise

/-- An entry of the values' array. -/
theorem cell_v : V m c main_v127 (ix2 x n) = aV m c (ix2 ⟨x.val * 16 + n.val / 512, by omega⟩ ⟨n.val % 512, by omega⟩) := by
  rw [V_v]
  pointwise

/-- An entry of the log-sum-exp's array. -/
theorem cell_s : V m c main_v130 (ix2 x n) = val_main_v83 (F := Ideal) (aQ m c) (aK m c) (aP m c) (ix3 ⟨n.val / 512, by omega⟩ ⟨n.val / 64 % 8, by omega⟩ x) := by
  rw [V_s]
  unfold val_main_v92 val_main_v91
  pointwise
  rw [show (⟨(x.val * 16 + n.val / 512) % 16, by omega⟩ : Fin 16) = ⟨n.val / 512, by omega⟩ from Fin.ext (by show (x.val * 16 + n.val / 512) % 16 = n.val / 512; omega)]

/-- An entry of the cotangent's array. -/
theorem cell_g : V m c main_v132 (ix2 x n) = aG m c (ix2 ⟨x.val * 16 + n.val / 512, by omega⟩ ⟨n.val % 512, by omega⟩) := by
  rw [V_g]
  pointwise

/-- An entry of the array of what is taken from the scores' gradient. -/
theorem cell_e : V m c main_v135 (ix2 x n) = (∑ d : Fin 64, aG m c (ix2 ⟨x.val * 16 + n.val / 512, by omega⟩ ⟨n.val / 64 % 8 * 64 + d.val, by omega⟩)
    * val_main_v88 (F := Ideal) (aQ m c) (aK m c) (aV m c) (aP m c) (ix4 ⟨n.val / 512, by omega⟩ ⟨n.val / 64 % 8, by omega⟩ d x))
    - aL m c (ix2 ⟨x.val * 16 + n.val / 512, by omega⟩ ⟨n.val / 64 % 8, by omega⟩) := by
  rw [V_e]
  unfold val_main_v90 val_main_v89
  pointwise
  simp only [show (⟨(x.val * 16 + n.val / 512) % 16, by omega⟩ : Fin 16) = ⟨n.val / 512, by omega⟩ from Fin.ext (by show (x.val * 16 + n.val / 512) % 16 = n.val / 512; omega)]

end Cert.AttnBwd
end
-- ==== Proof.Arr.lean ====
module

public import proofs.«01_k».proof.Proof.BlockDq
public import proofs.«01_k».proof.Proof.BlockDk
public import proofs.«01_k».proof.Proof.Head
public import proofs.«01_k».proof.Proof.Cells

@[expose] public section

set_option maxRecDepth 16384

noncomputable section

namespace Cert.AttnBwd

open Cert.KernelIdeal Cert.KernelIdeal.Gen Cert.ReferenceIdeal.Read Idealize.ShloMosaic

variable (m : (ℓ : Loc nD τ sig) → Buf (Elt Ideal) ℓ) (c : Dev nD)

/-- Each grid point takes the next columns of every array. -/
theorem index_block : ∀ t : Fin cfg0.N, win0_0.index t = ![0, t.val] ∧ win0_6.index t = ![0, t.val] ∧ win0_9.index t = ![0, t.val] :=
  (by decide +kernel : ∀ t : Fin grid0.N, win0_0.index t = ![0, t.val] ∧ win0_6.index t = ![0, t.val] ∧ win0_9.index t = ![0, t.val])

theorem points : cfg0.N = 8 := by decide

/-- The grid point of a stream: each takes two. -/
abbrev pt (r : Fin 16) : Fin cfg0.N := ⟨r.val / 2, by rw [points]; omega⟩

/-- The head of the grid point's block that stream `r`'s head `h` is. -/
abbrev hd (r : Fin 16) (h : Fin 8) : Fin 16 := ⟨r.val % 2 * 8 + h.val, by omega⟩

/-- The column of lane `d` of head `h` of stream `r`. -/
abbrev gcol (r : Fin 16) (h : Fin 8) (d : Fin 64) : Fin 8192 := ⟨r.val * 512 + h.val * 64 + d.val, by omega⟩

/-- Position `x` of stream `r`. -/
abbrev gpos (r : Fin 16) (x : Fin 128) : Fin 2048 := ⟨x.val * 16 + r.val, by omega⟩

theorem emb0 (r : Fin 16) (h : Fin 8) (x : Fin 128) (d : Fin 64) :
    (win0_0.rect (pt r)).emb (ix2 x (col (hd r h) d)) = (ix2 x (gcol r h d) : S128x8192.Idx) := by
  funext a
  match a with
  | ⟨0, _⟩ => exact Fin.ext ((win0_0.rect_emb_val (pt r) (ix2 x (col (hd r h) d)) 0).trans (by rw [(index_block (pt r)).1]; simp))
  | ⟨1, _⟩ => exact Fin.ext ((win0_0.rect_emb_val (pt r) (ix2 x (col (hd r h) d)) 1).trans (by
      rw [(index_block (pt r)).1]; show r.val / 2 * 1024 + (64 * (r.val % 2 * 8 + h.val) + d.val) = r.val * 512 + h.val * 64 + d.val; omega))

theorem emb6 (t : Fin cfg0.N) (x : Fin 128) (l : Fin 256) :
    (win0_6.rect t).emb (ix2 x l) = (ix2 x ⟨256 * t.val + l.val, by have := t.isLt; have := points; omega⟩ : S128x2048.Idx) := by
  funext a
  match a with
  | ⟨0, _⟩ => exact Fin.ext ((win0_6.rect_emb_val t (ix2 x l) 0).trans (by rw [(index_block t).2.1]; simp))
  | ⟨1, _⟩ => exact Fin.ext ((win0_6.rect_emb_val t (ix2 x l) 1).trans (by
      rw [(index_block t).2.1]; show t.val * 256 + l.val = 256 * t.val + l.val; omega))

/-! One head of one stream: what the launch finds. -/

/-- The queries: rotated and scaled. -/
abbrev rowQ (r : Fin 16) (h : Fin 8) : HeadRows := fun x d =>
  val_main_v33 (F := Ideal) (aQ m c) (aP m c) (ix3 (gpos r x) h d) * Ideal.ofBits .f32 0x3E000000#32
/-- The keys: rotated. -/
abbrev rowK (r : Fin 16) (h : Fin 8) : HeadRows := fun x d => val_main_v50 (F := Ideal) (aK m c) (aP m c) (ix3 (gpos r x) h d)
/-- The values. -/
abbrev rowV (r : Fin 16) (h : Fin 8) : HeadRows := fun x d => aV m c (ix2 (gpos r x) ⟨h.val * 64 + d.val, by omega⟩)
/-- The cotangent. -/
abbrev rowG (r : Fin 16) (h : Fin 8) : HeadRows := fun x d => aG m c (ix2 (gpos r x) ⟨h.val * 64 + d.val, by omega⟩)
/-- The log-sum-exp of the scores. -/
abbrev rowS (r : Fin 16) (h : Fin 8) : Fin 128 → EReal := fun x => val_main_v83 (F := Ideal) (aQ m c) (aK m c) (aP m c) (ix3 r h x)
/-- What is taken from the scores' gradient. -/
abbrev rowE (r : Fin 16) (h : Fin 8) : Fin 128 → EReal := fun x =>
  (∑ d : Fin 64, rowG m c r h x d * val_main_v88 (F := Ideal) (aQ m c) (aK m c) (aV m c) (aP m c) (ix4 r h d x)) - aL m c (ix2 (gpos r x) h)

variable (r : Fin 16) (h : Fin 8) (x : Fin 128) (d : Fin 64)

theorem pos_eq : (⟨x.val * 16 + (gcol r h d).val / 512, by omega⟩ : Fin 2048) = gpos r x :=
  Fin.ext (by show x.val * 16 + (r.val * 512 + h.val * 64 + d.val) / 512 = x.val * 16 + r.val; omega)
theorem stream_eq : (⟨(gcol r h d).val / 512, by omega⟩ : Fin 16) = r :=
  Fin.ext (by show (r.val * 512 + h.val * 64 + d.val) / 512 = r.val; omega)
theorem head_eq : (⟨(gcol r h d).val / 64 % 8, by omega⟩ : Fin 8) = h :=
  Fin.ext (by show (r.val * 512 + h.val * 64 + d.val) / 64 % 8 = h.val; omega)
theorem lane_eq : (⟨(gcol r h d).val % 64, by omega⟩ : Fin 64) = d :=
  Fin.ext (by show (r.val * 512 + h.val * 64 + d.val) % 64 = d.val; omega)
theorem wide_eq : (⟨(gcol r h d).val % 512, by omega⟩ : Fin 512) = ⟨h.val * 64 + d.val, by omega⟩ :=
  Fin.ext (by show (r.val * 512 + h.val * 64 + d.val) % 512 = h.val * 64 + d.val; omega)

theorem blkQ_eq : blkQ m c (pt r) x (col (hd r h) d) = rowQ m c r h x d :=
  (congrArg (V m c main_v123) (emb0 r h x d)).trans ((cell_q m c x (gcol r h d)).trans (by rw [pos_eq, head_eq, lane_eq]))

theorem blkK_eq : blkK m c (pt r) x (col (hd r h) d) = rowK m c r h x d :=
  (congrArg (V m c main_v125) (emb0 r h x d)).trans ((cell_k m c x (gcol r h d)).trans (by rw [pos_eq, head_eq, lane_eq]))

theorem blkV_eq : blkV m c (pt r) x (col (hd r h) d) = rowV m c r h x d :=
  (congrArg (V m c main_v127) (emb0 r h x d)).trans ((cell_v m c x (gcol r h d)).trans (by rw [pos_eq, wide_eq]))

theorem blkG_eq : blkG m c (pt r) x (col (hd r h) d) = rowG m c r h x d :=
  (congrArg (V m c main_v132) (emb0 r h x d)).trans ((cell_g m c x (gcol r h d)).trans (by rw [pos_eq, wide_eq]))

theorem blkS_eq : blkS m c (pt r) x (col (hd r h) d) = rowS m c r h x :=
  (congrArg (V m c main_v130) (emb0 r h x d)).trans ((cell_s m c x (gcol r h d)).trans (by rw [stream_eq, head_eq]))

theorem blkE_eq : blkE m c (pt r) x (col (hd r h) d) = rowE m c r h x :=
  (congrArg (V m c main_v135) (emb0 r h x d)).trans ((cell_e m c x (gcol r h d)).trans (by
    rw [pos_eq, stream_eq, head_eq]
    have e : ∀ d' : Fin 64, (⟨(gcol r h d).val / 64 % 8 * 64 + d'.val, by omega⟩ : Fin 512) = ⟨h.val * 64 + d'.val, by omega⟩ :=
      fun d' => Fin.ext (by show (r.val * 512 + h.val * 64 + d.val) / 64 % 8 * 64 + d'.val = h.val * 64 + d'.val; omega)
    simp only [e]))

theorem tabC_eq (t : Fin cfg0.N) (a : Fin 16) : tabAt (tabC m c t) x (col a d)
    = if d.val < 16 then val_main_v12 (F := Ideal) (aP m c) (ix2 ⟨x.val * 16 + 2 * t.val + a.val / 8, by have := t.isLt; have := points; omega⟩ ⟨d.val % 8, by omega⟩) else 1 := by
  have ht : t.val < 8 := lt_of_lt_of_eq t.isLt points
  refine (congrArg (V m c main_v136) (emb6 t x ⟨128 * ((col a d).val / 512) + (col a d).val % 128, by omega⟩)).trans ((V_c m c x _).trans ?_)
  have e64 : (256 * t.val + (128 * ((64 * a.val + d.val) / 512) + (64 * a.val + d.val) % 128)) % 64 = d.val := by omega
  have e8 : (256 * t.val + (128 * ((64 * a.val + d.val) / 512) + (64 * a.val + d.val) % 128)) % 8 = d.val % 8 := by omega
  have ep : x.val * 16 + (256 * t.val + (128 * ((64 * a.val + d.val) / 512) + (64 * a.val + d.val) % 128)) / 128 = x.val * 16 + 2 * t.val + a.val / 8 := by omega
  simp only [e64, e8, ep]

theorem tabA_eq (t : Fin cfg0.N) (a : Fin 16) : tabAt (tabA m c t) x (col a d)
    = if d.val < 8 then -val_main_v13 (F := Ideal) (aP m c) (ix2 ⟨x.val * 16 + 2 * t.val + a.val / 8, by have := t.isLt; have := points; omega⟩ ⟨d.val % 8, by omega⟩) else 0 := by
  have ht : t.val < 8 := lt_of_lt_of_eq t.isLt points
  refine (congrArg (V m c main_v137) (emb6 t x ⟨128 * ((col a d).val / 512) + (col a d).val % 128, by omega⟩)).trans ((V_a m c x _).trans ?_)
  have e64 : (256 * t.val + (128 * ((64 * a.val + d.val) / 512) + (64 * a.val + d.val) % 128)) % 64 = d.val := by omega
  have e8 : (256 * t.val + (128 * ((64 * a.val + d.val) / 512) + (64 * a.val + d.val) % 128)) % 8 = d.val % 8 := by omega
  have ep : x.val * 16 + (256 * t.val + (128 * ((64 * a.val + d.val) / 512) + (64 * a.val + d.val) % 128)) / 128 = x.val * 16 + 2 * t.val + a.val / 8 := by omega
  simp only [e64, e8, ep]

theorem tabB_eq (t : Fin cfg0.N) (a : Fin 16) : tabAt (tabB m c t) x (col a d)
    = if 8 ≤ d.val ∧ d.val < 16 then val_main_v13 (F := Ideal) (aP m c) (ix2 ⟨x.val * 16 + 2 * t.val + a.val / 8, by have := t.isLt; have := points; omega⟩ ⟨d.val % 8, by omega⟩) else 0 := by
  have ht : t.val < 8 := lt_of_lt_of_eq t.isLt points
  refine (congrArg (V m c main_v138) (emb6 t x ⟨128 * ((col a d).val / 512) + (col a d).val % 128, by omega⟩)).trans ((V_b m c x _).trans ?_)
  have e64 : (256 * t.val + (128 * ((64 * a.val + d.val) / 512) + (64 * a.val + d.val) % 128)) % 64 = d.val := by omega
  have e8 : (256 * t.val + (128 * ((64 * a.val + d.val) / 512) + (64 * a.val + d.val) % 128)) % 8 = d.val % 8 := by omega
  have ep : x.val * 16 + (256 * t.val + (128 * ((64 * a.val + d.val) / 512) + (64 * a.val + d.val) % 128)) / 128 = x.val * 16 + 2 * t.val + a.val / 8 := by omega
  simp only [e64, e8, ep]

/-- The angles' cosines along a stream. -/
abbrev rowCos (r : Fin 16) : Fin 128 → Fin 8 → EReal := fun x j => val_main_v12 (F := Ideal) (aP m c) (ix2 (gpos r x) j)
/-- The angles' sines along a stream. -/
abbrev rowSin (r : Fin 16) : Fin 128 → Fin 8 → EReal := fun x j => val_main_v13 (F := Ideal) (aP m c) (ix2 (gpos r x) j)

theorem headQ : headAt (blkQ m c (pt r)) (hd r h) = rowQ m c r h := by
  funext x d; exact blkQ_eq m c r h x d
theorem headK : headAt (blkK m c (pt r)) (hd r h) = rowK m c r h := by
  funext x d; exact blkK_eq m c r h x d
theorem headV : headAt (blkV m c (pt r)) (hd r h) = rowV m c r h := by
  funext x d; exact blkV_eq m c r h x d
theorem headG : headAt (blkG m c (pt r)) (hd r h) = rowG m c r h := by
  funext x d; exact blkG_eq m c r h x d
theorem constS : constAt (blkS m c (pt r)) (hd r h) = rowS m c r h := by
  funext x; exact blkS_eq m c r h x 0
theorem constE : constAt (blkE m c (pt r)) (hd r h) = rowE m c r h := by
  funext x; exact blkE_eq m c r h x 0

/-- The rotation of a block turns a head of a stream by the stream's angles. -/
theorem rope_stream (Z : Blk) : bRope (tabC m c (pt r)) (tabA m c (pt r)) (tabB m c (pt r)) Z x (col (hd r h) d)
    = hRope (rowCos m c r) (rowSin m c r) (headAt Z (hd r h)) x d := by
  rw [rope_head (fun x a j => val_main_v12 (F := Ideal) (aP m c) (ix2 ⟨x.val * 16 + 2 * (pt r).val + a.val, by show x.val * 16 + 2 * (r.val / 2) + a.val < 2048; omega⟩ j))
    (fun x a j => val_main_v13 (F := Ideal) (aP m c) (ix2 ⟨x.val * 16 + 2 * (pt r).val + a.val, by show x.val * 16 + 2 * (r.val / 2) + a.val < 2048; omega⟩ j)) Z
    (fun x a d => tabC_eq m c x d (pt r) a) (fun x a d => tabA_eq m c x d (pt r) a) (fun x a d => tabB_eq m c x d (pt r) a)]
  have e : ∀ x : Fin 128, (⟨x.val * 16 + 2 * (pt r).val + (hd r h).val / 8, by show x.val * 16 + 2 * (r.val / 2) + (r.val % 2 * 8 + h.val) / 8 < 2048; omega⟩ : Fin 2048) = gpos r x :=
    fun x => Fin.ext (by show x.val * 16 + 2 * (r.val / 2) + (r.val % 2 * 8 + h.val) / 8 = x.val * 16 + r.val; omega)
  simp only [e]

/-- The queries' gradient the launch leaves. -/
theorem arr_dq : (dats m 0 c).arrAt 9 cfg0.N (ix2 x (gcol r h d) : S128x8192.Idx) = hRope (rowCos m c r) (rowSin m c r) (hDq (rowQ m c r h) (rowK m c r h) (rowV m c r h) (rowG m c r h) (rowS m c r h) (rowE m c r h)) x d := by
  have hf : (cfg0.win 9).flush (pt r) = true := (by decide +kernel : ∀ t : Fin grid0.N, win0_9.flush t = true) (pt r)
  have h1 := congrFun (Cert.KernelIdeal.Value.blocks9 m c (pt r) hf) (ix2 x (col (hd r h) d))
  rw [Cert.KernelIdeal.Value.flushed9, dq_out] at h1
  have h2 := (congrArg ((dats m 0 c).arrAt 9 cfg0.N) (emb0 r h x d)).symm.trans h1
  refine h2.trans ?_
  show bRope (tabC m c (pt r)) (tabA m c (pt r)) (tabB m c (pt r)) (bDq (blkQ m c (pt r)) (blkK m c (pt r)) (blkV m c (pt r)) (blkG m c (pt r)) (blkS m c (pt r)) (blkE m c (pt r))) x (col (hd r h) d) = _
  rw [rope_stream, show headAt (bDq (blkQ m c (pt r)) (blkK m c (pt r)) (blkV m c (pt r)) (blkG m c (pt r)) (blkS m c (pt r)) (blkE m c (pt r))) (hd r h) = hDq (rowQ m c r h) (rowK m c r h) (rowV m c r h) (rowG m c r h) (rowS m c r h) (rowE m c r h) from by
    funext x d
    rw [headAt, bDq_head, headQ m c r h, headK m c r h, headV m c r h, headG m c r h, constS m c r h, constE m c r h]]
/-- The keys' gradient the launch leaves. -/
theorem arr_dk : (dats m 0 c).arrAt 10 cfg0.N (ix2 x (gcol r h d) : S128x8192.Idx) = hRope (rowCos m c r) (rowSin m c r) (hDk (rowQ m c r h) (rowK m c r h) (rowV m c r h) (rowG m c r h) (rowS m c r h) (rowE m c r h)) x d := by
  have hf : (cfg0.win 10).flush (pt r) = true := (by decide +kernel : ∀ t : Fin grid0.N, win0_10.flush t = true) (pt r)
  have h1 := congrFun (Cert.KernelIdeal.Value.blocks10 m c (pt r) hf) (ix2 x (col (hd r h) d))
  rw [Cert.KernelIdeal.Value.flushed10, dk_out] at h1
  have h2 := (congrArg ((dats m 0 c).arrAt 10 cfg0.N) (emb0 r h x d)).symm.trans h1
  refine h2.trans ?_
  show bRope (tabC m c (pt r)) (tabA m c (pt r)) (tabB m c (pt r)) (bDk (blkQ m c (pt r)) (blkK m c (pt r)) (blkV m c (pt r)) (blkG m c (pt r)) (blkS m c (pt r)) (blkE m c (pt r))) x (col (hd r h) d) = _
  rw [rope_stream, show headAt (bDk (blkQ m c (pt r)) (blkK m c (pt r)) (blkV m c (pt r)) (blkG m c (pt r)) (blkS m c (pt r)) (blkE m c (pt r))) (hd r h) = hDk (rowQ m c r h) (rowK m c r h) (rowV m c r h) (rowG m c r h) (rowS m c r h) (rowE m c r h) from by
    funext x d
    rw [headAt, bDk_head, headQ m c r h, headK m c r h, headV m c r h, headG m c r h, constS m c r h, constE m c r h]]
/-- The values' gradient the launch leaves. -/
theorem arr_dv : (dats m 0 c).arrAt 11 cfg0.N (ix2 x (gcol r h d) : S128x8192.Idx) = hDv (rowQ m c r h) (rowK m c r h) (rowG m c r h) (rowS m c r h) x d := by
  have hf : (cfg0.win 11).flush (pt r) = true := (by decide +kernel : ∀ t : Fin grid0.N, win0_11.flush t = true) (pt r)
  have h1 := congrFun (Cert.KernelIdeal.Value.blocks11 m c (pt r) hf) (ix2 x (col (hd r h) d))
  rw [Cert.KernelIdeal.Value.flushed11, dv_out] at h1
  have h2 := (congrArg ((dats m 0 c).arrAt 11 cfg0.N) (emb0 r h x d)).symm.trans h1
  refine h2.trans ?_
  show bDv (blkQ m c (pt r)) (blkK m c (pt r)) (blkG m c (pt r)) (blkS m c (pt r)) x (col (hd r h) d) = _
  rw [bDv_head, headQ m c r h, headK m c r h, headG m c r h, constS m c r h]
end Cert.AttnBwd
end
-- ==== Proof.Core.lean ====
module

public import Mathlib.Data.EReal.Operations
public import Mathlib.Analysis.SpecialFunctions.Log.Basic
public import Idealize.ShloMosaic.PureOps.Ideal

@[expose] public section

noncomputable section

namespace Cert.AttnBwd

open Idealize.ShloMosaic

/-- A sum of reals, read as extended reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! One head of one stream: queries, keys and values are 128 rows of 64 reals. -/

abbrev Rows := Fin 128 → Fin 64 → ℝ

/-- The product of a query row with a key row. -/
def dotR (q k : Rows) (i j : Fin 128) : ℝ := ∑ d, q i d * k j d

/-- The exponential of a masked scaled score less a row constant; zero where the key comes after the query. -/
def expR (q k : Rows) (s : Fin 128 → ℝ) (i j : Fin 128) : ℝ := if j ≤ i then Real.exp (dotR q k i j * (1 / 8) - s i) else 0

/-- The log of a row's sum of exponentials, taken about the row constant `M`. -/
def lseR (q k : Rows) (M : Fin 128 → ℝ) (i : Fin 128) : ℝ := M i + Real.log (∑ j, expR q k M i j)

/-- The gradient of the masked scaled score, `e` being the row's total. -/
def dsR (q k v g : Rows) (s e : Fin 128 → ℝ) (i j : Fin 128) : ℝ := expR q k s i j * (dotR g v i j - e i)

/-- The rotated query's gradient. -/
def dqR (q k v g : Rows) (s e : Fin 128 → ℝ) (i : Fin 128) (d : Fin 64) : ℝ := (∑ j, dsR q k v g s e i j * k j d) * (1 / 8)

/-- The rotated key's gradient. -/
def dkR (q k v g : Rows) (s e : Fin 128 → ℝ) (j : Fin 128) (d : Fin 64) : ℝ := ∑ i, dsR q k v g s e i j * (q i d * (1 / 8))

/-- The value's gradient. -/
def dvR (q k g : Rows) (s : Fin 128 → ℝ) (j : Fin 128) (d : Fin 64) : ℝ := ∑ i, expR q k s i j * g i d

/-- The sum of a row's exponentials is positive: the diagonal is never masked. -/
theorem sum_expR_pos (q k : Rows) (M : Fin 128 → ℝ) (i : Fin 128) : 0 < ∑ j, expR q k M i j := by
  refine Finset.sum_pos' (fun j _ => ?_) ⟨i, Finset.mem_univ _, ?_⟩
  · rw [expR]; split
    · exact (Real.exp_pos _).le
    · exact le_refl _
  · rw [expR, if_pos le_rfl]; exact Real.exp_pos _

/-- An exponential about the row's log-sum is the exponential about the row constant over the row's sum. -/
theorem expR_lse (q k : Rows) (M : Fin 128 → ℝ) (i j : Fin 128) :
    expR q k (lseR q k M) i j = expR q k M i j / ∑ j, expR q k M i j := by
  have hp := sum_expR_pos q k M i
  rw [expR, lseR]
  by_cases h : j ≤ i
  · rw [if_pos h, ← sub_sub, Real.exp_sub, Real.exp_log hp, expR, if_pos h]
  · rw [if_neg h, expR, if_neg h, zero_div]

/-- The gradient through the softmax and through the log-sum, as the derivative of each comes out, is the
probability times the distance of the incoming gradient from the row's total. -/
theorem dsR_eq (q k v g : Rows) (M t : Fin 128 → ℝ) (i j : Fin 128) :
    dotR g v i j * expR q k (lseR q k M) i j
        + (t i + -∑ j, dotR g v i j * expR q k (lseR q k M) i j) / (∑ j, expR q k M i j) * expR q k M i j
      = dsR q k v g (lseR q k M) (fun i => (∑ j, dotR g v i j * expR q k (lseR q k M) i j) - t i) i j := by
  rw [dsR, expR_lse q k M i j]; ring

/-- The output against the incoming gradient, summed over lanes, is the row's total over keys. -/
theorem total_eq (q k v g : Rows) (s : Fin 128 → ℝ) (i : Fin 128) :
    ∑ d, g i d * ∑ j, v j d * expR q k s i j = ∑ j, dotR g v i j * expR q k s i j := by
  simp only [dotR, Finset.mul_sum, Finset.sum_mul]
  rw [Finset.sum_comm]
  exact Finset.sum_congr rfl fun j _ => Finset.sum_congr rfl fun d _ => by ring

end Cert.AttnBwd
end
-- ==== Proof.RefStage.lean ====
module

public import proofs.«01_k».proof.Proof.Core
public import proofs.«01_k».proof.Proof.Tile
public import proofs.«01_k».proof.Proof.Gen.ReferenceIdeal.Read
public import Idealize.ShloMosaic.Lib.Pointwise
public import Idealize.ShloMosaic.Lib.WordCmp

@[expose] public section

set_option maxRecDepth 16384

noncomputable section

namespace Cert.AttnBwd

open Cert.ReferenceIdeal Idealize.ShloMosaic Idealize.ShloMosaic.TcCoe

open Cert.ReferenceIdeal.Read

variable (x0 x1 x2 x4 : FVec Ideal S2048x512 .f32) (x3 : S2048.Idx → BitVec 32) (x5 : FVec Ideal S2048x8 .f32)
variable (r : Fin 16) (h : Fin 8) (i j : Fin 128) (d : Fin 64)

/-- The query rows of a stream and a head. -/
theorem st_q : val_main_v51 (F := Ideal) x0 x3 (ix4 i r h d) = (val_main_v33 (F := Ideal) x0 x3 (ix3 ⟨i.val * 16 + r.val, by omega⟩ h d) : EReal) := by
  unfold val_main_v51
  generalize val_main_v33 (F := Ideal) x0 x3 = y
  pointwise

/-- The key rows of a stream and a head. -/
theorem st_k : val_main_v52 (F := Ideal) x1 x3 (ix4 i r h d) = (val_main_v50 (F := Ideal) x1 x3 (ix3 ⟨i.val * 16 + r.val, by omega⟩ h d) : EReal) := by
  unfold val_main_v52
  generalize val_main_v50 (F := Ideal) x1 x3 = y
  pointwise

/-- The value rows of a stream and a head. -/
theorem st_v : val_main_v53 (F := Ideal) x2 (ix4 i r h d) = (x2 (ix2 ⟨i.val * 16 + r.val, by omega⟩ ⟨h.val * 64 + d.val, by omega⟩) : EReal) := by
  unfold val_main_v53 val_main_v16
  pointwise

/-- The incoming gradient's rows of a stream and a head. -/
theorem st_g : val_main_v97 (F := Ideal) x4 (ix4 r h d i) = (x4 (ix2 ⟨i.val * 16 + r.val, by omega⟩ ⟨h.val * 64 + d.val, by omega⟩) : EReal) := by
  unfold val_main_v97 val_main_v96 val_main_v93
  pointwise

/-- The incoming gradient of the log-sum-exp. -/
theorem st_t : val_main_v95 (F := Ideal) x5 (ix3 r h i) = (x5 (ix2 ⟨i.val * 16 + r.val, by omega⟩ h) : EReal) := by
  unfold val_main_v95 val_main_v94
  pointwise

/-- The scaled scores. -/
theorem st_score : val_main_v56 (F := Ideal) x0 x1 x3 (ix4 r h i j) = (∑ d : Fin 64, val_main_v51 (F := Ideal) x0 x3 (ix4 i r h d) * val_main_v52 (F := Ideal) x1 x3 (ix4 j r h d)) * Ideal.ofBits .f32 0x3E000000#32 := by
  unfold val_main_v56 val_main_v54 val_main_v55
  generalize val_main_v51 (F := Ideal) x0 x3 = y
  generalize val_main_v52 (F := Ideal) x1 x3 = z
  pointwise [val_main_cst_1]

/-- The word of the comparisons of a query's and a key's distance with zero and with the window. -/
theorem mask_word : IntOp.andi (IntOp.cmpi CmpIPredicate.sge (IntOp.subi (BitVec.ofNat 32 i.val) (BitVec.ofNat 32 j.val)) 0#32)
      (IntOp.cmpi CmpIPredicate.sle (IntOp.subi (BitVec.ofNat 32 i.val) (BitVec.ofNat 32 j.val)) 128#32) = if j ≤ i then 1#1 else 0#1 := by
  rw [WordCmp.cmpi_sge_zero]
  have e : (IntOp.subi (BitVec.ofNat 32 i.val) (BitVec.ofNat 32 j.val)).toNat = (2 ^ 32 - j.val + i.val) % 2 ^ 32 := by
    show (BitVec.ofNat 32 i.val - BitVec.ofNat 32 j.val).toNat = _
    rw [BitVec.toNat_sub, BitVec.toNat_ofNat, BitVec.toNat_ofNat, Nat.mod_eq_of_lt (by omega : i.val < 2 ^ 32), Nat.mod_eq_of_lt (by omega : j.val < 2 ^ 32)]
  rw [e]
  by_cases hji : j ≤ i
  · have hv : j.val ≤ i.val := hji
    have e2 : IntOp.subi (BitVec.ofNat 32 i.val) (BitVec.ofNat 32 j.val) = BitVec.ofNat 32 (i.val - j.val) := by
      apply BitVec.eq_of_toNat_eq
      rw [e, BitVec.toNat_ofNat]; omega
    rw [if_pos hji, e2, show (128#32 : BitVec 32) = BitVec.ofNat 32 128 from rfl, WordCmp.cmpi_sle_ofNat (by omega) (by omega),
      decide_eq_true (by omega), decide_eq_true (by omega)]
    rfl
  · have hv : ¬ j.val ≤ i.val := hji
    rw [if_neg hji, decide_eq_false (by omega)]
    show 0#1 &&& _ = 0#1
    exact BitVec.zero_and

/-- A key is seen when it does not come after the query. -/
theorem st_mask : val_main_v70_1 (F := Ideal) (ix4 r h i j) = if j ≤ i then 1#1 else 0#1 := by
  unfold val_main_v70_1 val_main_v69 val_main_v68 val_main_v67 val_main_v66 val_main_v65 val_main_v64 val_main_v63 val_main_v62 val_main_v61
    val_main_v60 val_main_v59 val_main_v58 val_main_v57
  pointwise [val_main_c, val_main_c_2]
  exact mask_word i j

/-- The masked scaled scores. -/
theorem st_masked : val_main_v70_0 (F := Ideal) x0 x1 x3 (ix4 r h i j) = if j ≤ i then val_main_v56 (F := Ideal) x0 x1 x3 (ix4 r h i j) else (⊥ : EReal) := by
  have hm := st_mask r h i j
  unfold val_main_v70_0 val_main_call0_v2 val_main_call0_v0
  generalize val_main_v56 (F := Ideal) x0 x1 x3 = y
  generalize val_main_v70_1 (F := Ideal) = z at hm ⊢
  pointwise [val_main_cst_3]
  have hn : (id (constant (F := Ideal) S_ FTy.f32 0xFF800000#32) ix0 : EReal) = ⊥ := by
    show Ideal.ofBits .f32 0xFF800000#32 = ⊥
    simp [Ideal.ofBits, Ideal.ieee]
  rw [hm, hn]
  by_cases hji : j ≤ i
  · rw [if_pos hji, if_pos hji]; rfl
  · rw [if_neg hji, if_neg hji]; rfl

/-- A row's exponentials about its greatest masked score. -/
theorem st_exp : val_main_v80 (F := Ideal) x0 x1 x3 (ix4 r h i j) = Ideal.exp (val_main_v70_0 (F := Ideal) x0 x1 x3 (ix4 r h i j) - val_main_v71 (F := Ideal) x0 x1 x3 (ix3 r h i)) := by
  unfold val_main_v80 val_main_v79 val_main_v78 val_main_v77
  generalize val_main_v70_0 (F := Ideal) x0 x1 x3 = y
  generalize val_main_v71 (F := Ideal) x0 x1 x3 = z
  pointwise

/-- A row's sum of exponentials. -/
theorem st_sum : val_main_v81 (F := Ideal) x0 x1 x3 (ix3 r h i) = ∑ j : Fin 128, val_main_v80 (F := Ideal) x0 x1 x3 (ix4 r h i j) := by
  unfold val_main_v81
  generalize val_main_v80 (F := Ideal) x0 x1 x3 = y
  pointwise [val_main_cst_6]

/-- A row's log-sum-exp. -/
theorem st_lse : val_main_v83 (F := Ideal) x0 x1 x3 (ix3 r h i) = val_main_v71 (F := Ideal) x0 x1 x3 (ix3 r h i) + Ideal.log (val_main_v81 (F := Ideal) x0 x1 x3 (ix3 r h i)) := by
  unfold val_main_v83 val_main_v82
  generalize val_main_v71 (F := Ideal) x0 x1 x3 = y
  generalize val_main_v81 (F := Ideal) x0 x1 x3 = z
  pointwise

/-- A row's probabilities. -/
theorem st_prob : val_main_v87 (F := Ideal) x0 x1 x3 (ix4 r h i j) = Ideal.exp (val_main_v70_0 (F := Ideal) x0 x1 x3 (ix4 r h i j) - val_main_v83 (F := Ideal) x0 x1 x3 (ix3 r h i)) := by
  unfold val_main_v87 val_main_v86 val_main_v85 val_main_v84
  generalize val_main_v70_0 (F := Ideal) x0 x1 x3 = y
  generalize val_main_v83 (F := Ideal) x0 x1 x3 = z
  pointwise

/-- The attention's output. -/
theorem st_out : val_main_v88 (F := Ideal) x0 x1 x2 x3 (ix4 r h d i) = ∑ j : Fin 128, val_main_v53 (F := Ideal) x2 (ix4 j r h d) * val_main_v87 (F := Ideal) x0 x1 x3 (ix4 r h i j) := by
  unfold val_main_v88
  generalize val_main_v53 (F := Ideal) x2 = y
  generalize val_main_v87 (F := Ideal) x0 x1 x3 = z
  pointwise

/-- The probabilities' gradient. -/
theorem st_dp : val_main_v98 (F := Ideal) x2 x4 (ix4 r h i j) = ∑ d : Fin 64, val_main_v97 (F := Ideal) x4 (ix4 r h d i) * val_main_v53 (F := Ideal) x2 (ix4 j r h d) := by
  unfold val_main_v98
  generalize val_main_v97 (F := Ideal) x4 = y
  generalize val_main_v53 (F := Ideal) x2 = z
  pointwise

/-- The values' gradient. -/
theorem st_dv : val_main_v99 (F := Ideal) x0 x1 x3 x4 (ix4 r h d j) = ∑ i : Fin 128, val_main_v97 (F := Ideal) x4 (ix4 r h d i) * val_main_v87 (F := Ideal) x0 x1 x3 (ix4 r h i j) := by
  unfold val_main_v99
  generalize val_main_v97 (F := Ideal) x4 = y
  generalize val_main_v87 (F := Ideal) x0 x1 x3 = z
  pointwise

/-- The row's constant of the softmax's gradient. -/
theorem st_row : val_main_v107 (F := Ideal) x0 x1 x2 x3 x4 x5 (ix3 r h i) = Ideal.div (val_main_v95 (F := Ideal) x5 (ix3 r h i) + ∑ j : Fin 128, -(val_main_v98 (F := Ideal) x2 x4 (ix4 r h i j) * val_main_v87 (F := Ideal) x0 x1 x3 (ix4 r h i j))) (val_main_v81 (F := Ideal) x0 x1 x3 (ix3 r h i)) := by
  unfold val_main_v107 val_main_v106 val_main_v105 val_main_v104 val_main_v103 val_main_v102 val_main_v101
  generalize val_main_v98 (F := Ideal) x2 x4 = y
  generalize val_main_v87 (F := Ideal) x0 x1 x3 = z
  generalize val_main_v95 (F := Ideal) x5 = t
  generalize val_main_v81 (F := Ideal) x0 x1 x3 = u
  pointwise [val_main_cst_7, val_main_cst_8]
  simp only [Finset.sum_const, Finset.card_univ, Fintype.card_fin, one_smul]

/-- The scaled scores' gradient. -/
theorem st_ds : val_main_v113 (F := Ideal) x0 x1 x2 x3 x4 x5 (ix4 r h i j) = (if j ≤ i then val_main_v98 (F := Ideal) x2 x4 (ix4 r h i j) * val_main_v87 (F := Ideal) x0 x1 x3 (ix4 r h i j)
    + val_main_v107 (F := Ideal) x0 x1 x2 x3 x4 x5 (ix3 r h i) * val_main_v80 (F := Ideal) x0 x1 x3 (ix4 r h i j) else 0) * Ideal.ofBits .f32 0x3E000000#32 := by
  have hm := st_mask r h i j
  unfold val_main_v113 val_main_v112 val_main_v111 val_main_v110 val_main_v109 val_main_v108 val_main_v101 val_main_call1_v0
  generalize val_main_v98 (F := Ideal) x2 x4 = y
  generalize val_main_v87 (F := Ideal) x0 x1 x3 = z
  generalize val_main_v107 (F := Ideal) x0 x1 x2 x3 x4 x5 = u
  generalize val_main_v80 (F := Ideal) x0 x1 x3 = w
  generalize val_main_v70_1 (F := Ideal) = k at hm ⊢
  pointwise [val_main_call1_cst, val_main_cst_9]
  rw [hm]
  by_cases hji : j ≤ i
  · rw [if_pos hji, if_pos hji]; rfl
  · rw [if_neg hji, if_neg hji, zero_mul]; rfl

/-- The rotated keys' gradient. -/
theorem st_dk : val_main_v114 (F := Ideal) x0 x1 x2 x3 x4 x5 (ix4 r h j d) = ∑ i : Fin 128, val_main_v113 (F := Ideal) x0 x1 x2 x3 x4 x5 (ix4 r h i j) * val_main_v51 (F := Ideal) x0 x3 (ix4 i r h d) := by
  unfold val_main_v114
  generalize val_main_v113 (F := Ideal) x0 x1 x2 x3 x4 x5 = y
  generalize val_main_v51 (F := Ideal) x0 x3 = z
  pointwise

/-- The rotated queries' gradient. -/
theorem st_dq : val_main_v116 (F := Ideal) x0 x1 x2 x3 x4 x5 (ix4 r h i d) = ∑ j : Fin 128, val_main_v113 (F := Ideal) x0 x1 x2 x3 x4 x5 (ix4 r h i j) * val_main_v52 (F := Ideal) x1 x3 (ix4 j r h d) := by
  unfold val_main_v116
  generalize val_main_v113 (F := Ideal) x0 x1 x2 x3 x4 x5 = y
  generalize val_main_v52 (F := Ideal) x1 x3 = z
  pointwise

end Cert.AttnBwd

end
-- ==== Proof.RefHead.lean ====
module

public import proofs.«01_k».proof.Proof.RefStage

@[expose] public section

set_option maxRecDepth 16384

noncomputable section

namespace Cert.AttnBwd

open Cert.ReferenceIdeal Idealize.ShloMosaic Idealize.ShloMosaic.TcCoe

open Cert.ReferenceIdeal.Read

variable (x0 x1 x2 x4 : FVec Ideal S2048x512 .f32) (x3 : S2048.Idx → BitVec 32) (x5 : FVec Ideal S2048x8 .f32)
variable (r : Fin 16) (h : Fin 8) (i j : Fin 128) (d : Fin 64)
/-- Position `x` of stream `r` in the whole sequence. -/
abbrev apos (r : Fin 16) (x : Fin 128) : Fin 2048 := ⟨x.val * 16 + r.val, by omega⟩

/-- Lane `d` of head `h`. -/
abbrev alane (h : Fin 8) (d : Fin 64) : Fin 512 := ⟨h.val * 64 + d.val, by omega⟩

variable (a k v g : Rows) (M t : Fin 128 → ℝ)

/-- The exponential of a masked real less a real. -/
theorem exp_masked (p : Prop) [Decidable p] (s m : ℝ) :
    Ideal.exp ((if p then (s : EReal) else ⊥) - (m : EReal)) = ((if p then Real.exp (s - m) else 0 : ℝ) : EReal) := by
  by_cases hp : p
  · rw [if_pos hp, if_pos hp, ← EReal.coe_sub, Ideal.exp_coe]
  · rw [if_neg hp, if_neg hp, EReal.bot_sub, Ideal.exp_bot, EReal.coe_zero]

/-- A product of two reals' sums in the extended reals. -/
theorem sum_mul_coe {ι : Type*} [Fintype ι] (f f' : ι → ℝ) : (∑ x, (f x : EReal) * (f' x : EReal)) = ((∑ x, f x * f' x : ℝ) : EReal) := by
  rw [← sum_coe]
  exact Finset.sum_congr rfl fun x _ => (EReal.coe_mul _ _).symm

section
variable (hA : ∀ i d, val_main_v33 (F := Ideal) x0 x3 (ix3 (apos r i) h d) = ((a i d : ℝ) : EReal))
variable (hK : ∀ i d, val_main_v50 (F := Ideal) x1 x3 (ix3 (apos r i) h d) = ((k i d : ℝ) : EReal))
include hA hK

/-- The scaled scores are the rows' products. -/
theorem r_score : val_main_v56 (F := Ideal) x0 x1 x3 (ix4 r h i j) = ((dotR a k i j * (1 / 8) : ℝ) : EReal) := by
  rw [st_score, scale_value, dotR, EReal.coe_mul]
  congr 1
  rw [← sum_mul_coe]
  exact Finset.sum_congr rfl fun d _ => by rw [st_q, st_k, hA, hK]

/-- The masked scores. -/
theorem r_masked : val_main_v70_0 (F := Ideal) x0 x1 x3 (ix4 r h i j) = if j ≤ i then ((dotR a k i j * (1 / 8) : ℝ) : EReal) else ⊥ := by
  rw [st_masked, r_score x0 x1 x3 r h i j a k hA hK]

variable (hM : ∀ i, val_main_v71 (F := Ideal) x0 x1 x3 (ix3 r h i) = ((M i : ℝ) : EReal))
include hM

/-- The exponentials. -/
theorem r_exp : val_main_v80 (F := Ideal) x0 x1 x3 (ix4 r h i j) = ((expR a k M i j : ℝ) : EReal) := by
  rw [st_exp, r_masked x0 x1 x3 r h i j a k hA hK, hM, exp_masked, expR]

/-- The rows' sums. -/
theorem r_sum : val_main_v81 (F := Ideal) x0 x1 x3 (ix3 r h i) = ((∑ j, expR a k M i j : ℝ) : EReal) := by
  rw [st_sum, ← sum_coe]
  exact Finset.sum_congr rfl fun j _ => r_exp x0 x1 x3 r h i j a k M hA hK hM

/-- The log-sum-exp. -/
theorem r_lse : val_main_v83 (F := Ideal) x0 x1 x3 (ix3 r h i) = ((lseR a k M i : ℝ) : EReal) := by
  rw [st_lse, hM, r_sum x0 x1 x3 r h i a k M hA hK hM, Ideal.log_coe, if_neg (not_le.mpr (sum_expR_pos a k M i)), ← EReal.coe_add, lseR]

/-- The probabilities. -/
theorem r_prob : val_main_v87 (F := Ideal) x0 x1 x3 (ix4 r h i j) = ((expR a k (lseR a k M) i j : ℝ) : EReal) := by
  rw [st_prob, r_masked x0 x1 x3 r h i j a k hA hK, r_lse x0 x1 x3 r h i a k M hA hK hM, exp_masked, expR]

/-- The output. -/
theorem r_out (hV : ∀ i d, (x2 (ix2 (apos r i) (alane h d)) : EReal) = ((v i d : ℝ) : EReal)) :
    val_main_v88 (F := Ideal) x0 x1 x2 x3 (ix4 r h d i) = ((∑ j, v j d * expR a k (lseR a k M) i j : ℝ) : EReal) := by
  rw [st_out, ← sum_mul_coe]
  exact Finset.sum_congr rfl fun j _ => by rw [st_v, hV, r_prob x0 x1 x3 r h i j a k M hA hK hM]

variable (hG : ∀ i d, (x4 (ix2 (apos r i) (alane h d)) : EReal) = ((g i d : ℝ) : EReal))
include hG

/-- The values' gradient. -/
theorem r_dv : val_main_v99 (F := Ideal) x0 x1 x3 x4 (ix4 r h d j) = ((dvR a k g (lseR a k M) j d : ℝ) : EReal) := by
  rw [st_dv, dvR, ← sum_coe]
  exact Finset.sum_congr rfl fun i _ => by rw [st_g, hG, r_prob x0 x1 x3 r h i j a k M hA hK hM, ← EReal.coe_mul, mul_comm]

variable (hV : ∀ i d, (x2 (ix2 (apos r i) (alane h d)) : EReal) = ((v i d : ℝ) : EReal))
include hV

omit hA hK hM in
/-- The probabilities' gradient. -/
theorem r_dp : val_main_v98 (F := Ideal) x2 x4 (ix4 r h i j) = ((dotR g v i j : ℝ) : EReal) := by
  rw [st_dp, dotR, ← sum_mul_coe]
  exact Finset.sum_congr rfl fun d _ => by rw [st_g, hG, st_v, hV]

variable (hT : ∀ i, (x5 (ix2 (apos r i) h) : EReal) = ((t i : ℝ) : EReal))
include hT

/-- The row's constant. -/
theorem r_row : val_main_v107 (F := Ideal) x0 x1 x2 x3 x4 x5 (ix3 r h i) =
    (((t i + -∑ j, dotR g v i j * expR a k (lseR a k M) i j) / (∑ j, expR a k M i j) : ℝ) : EReal) := by
  have e : (∑ j : Fin 128, -(val_main_v98 (F := Ideal) x2 x4 (ix4 r h i j) * val_main_v87 (F := Ideal) x0 x1 x3 (ix4 r h i j))) =
      ((-∑ j, dotR g v i j * expR a k (lseR a k M) i j : ℝ) : EReal) := by
    rw [← Finset.sum_neg_distrib, ← sum_coe]
    exact Finset.sum_congr rfl fun j _ => by
      rw [r_dp x2 x4 r h i j v g hG hV, r_prob x0 x1 x3 r h i j a k M hA hK hM, ← EReal.coe_mul, ← EReal.coe_neg]
  rw [st_row, st_t, hT, e, r_sum x0 x1 x3 r h i a k M hA hK hM, ← EReal.coe_add, Ideal.div_coe (sum_expR_pos a k M i).ne', ← EReal.coe_mul]
  congr 1
  ring

/-- The scaled scores' gradient. -/
theorem r_ds : val_main_v113 (F := Ideal) x0 x1 x2 x3 x4 x5 (ix4 r h i j) =
    ((dsR a k v g (lseR a k M) (fun i => (∑ j, dotR g v i j * expR a k (lseR a k M) i j) - t i) i j * (1 / 8) : ℝ) : EReal) := by
  rw [st_ds, scale_value, EReal.coe_mul]
  congr 1
  by_cases hji : j ≤ i
  · rw [if_pos hji, r_dp x2 x4 r h i j v g hG hV, r_prob x0 x1 x3 r h i j a k M hA hK hM, r_row x0 x1 x2 x4 x3 x5 r h i a k v g M t hA hK hM hG hV hT,
      r_exp x0 x1 x3 r h i j a k M hA hK hM, ← EReal.coe_mul, ← EReal.coe_mul, ← EReal.coe_add, dsR_eq]
  · rw [if_neg hji, dsR, expR, if_neg hji, zero_mul, EReal.coe_zero]

/-- The rotated keys' gradient. -/
theorem r_dk : val_main_v114 (F := Ideal) x0 x1 x2 x3 x4 x5 (ix4 r h j d) =
    ((dkR a k v g (lseR a k M) (fun i => (∑ j, dotR g v i j * expR a k (lseR a k M) i j) - t i) j d : ℝ) : EReal) := by
  rw [st_dk, dkR, ← sum_coe]
  exact Finset.sum_congr rfl fun i _ => by
    rw [st_q, hA, r_ds x0 x1 x2 x4 x3 x5 r h i j a k v g M t hA hK hM hG hV hT, ← EReal.coe_mul]
    congr 1; ring

/-- The rotated queries' gradient. -/
theorem r_dq : val_main_v116 (F := Ideal) x0 x1 x2 x3 x4 x5 (ix4 r h i d) =
    ((dqR a k v g (lseR a k M) (fun i => (∑ j, dotR g v i j * expR a k (lseR a k M) i j) - t i) i d : ℝ) : EReal) := by
  rw [st_dq, dqR, Finset.sum_mul, ← sum_coe]
  exact Finset.sum_congr rfl fun j _ => by
    rw [st_k, hK, r_ds x0 x1 x2 x4 x3 x5 r h i j a k v g M t hA hK hM hG hV hT, ← EReal.coe_mul]
    congr 1; ring

end

end Cert.AttnBwd

end
-- ==== Proof.HeadReal.lean ====
module

public import proofs.«01_k».proof.Proof.Head
public import proofs.«01_k».proof.Proof.Core
public import proofs.«01_k».proof.Proof.RefHead

@[expose] public section

set_option maxRecDepth 16384

noncomputable section

namespace Cert.AttnBwd

open Cert.ReferenceIdeal Idealize.ShloMosaic Idealize.ShloMosaic.TcCoe

open Cert.ReferenceIdeal.Read

variable (a k v g : Rows) (s e : Fin 128 → ℝ) (x y : Fin 128) (d : Fin 64)

/-- Rows of reals in the extended reals. -/
abbrev up (q : Rows) : HeadRows := fun x d => ((q x d : ℝ) : EReal)

/-- Row constants of reals in the extended reals. -/
abbrev upc (q : Fin 128 → ℝ) : Fin 128 → EReal := fun x => ((q x : ℝ) : EReal)

/-- Rows of reals, scaled, in the extended reals. -/
abbrev upq (q : Rows) : HeadRows := fun x d => ((q x d : ℝ) : EReal) * ((1 / 8 : ℝ) : EReal)

theorem k_dot : hDot (upq a) (up k) x y = ((dotR a k x y * (1 / 8) : ℝ) : EReal) := by
  rw [hDot, dotR, Finset.sum_mul, ← sum_coe]
  exact Finset.sum_congr rfl fun d _ => by
    show ((a x d : ℝ) : EReal) * ((1 / 8 : ℝ) : EReal) * ((k y d : ℝ) : EReal) = _
    rw [← EReal.coe_mul, ← EReal.coe_mul]
    congr 1; ring

theorem k_dp : hDot (up g) (up v) x y = ((dotR g v x y : ℝ) : EReal) := by
  rw [hDot, dotR, ← sum_mul_coe]

/-- The block's probabilities over the reals. -/
theorem k_prob : hProb (upq a) (up k) (upc s) x y = ((expR a k s x y : ℝ) : EReal) := by
  rw [hProb, k_dot, exp_masked, expR]

/-- The block's scores' gradient over the reals. -/
theorem k_ds : hDs (upq a) (up k) (up v) (up g) (upc s) (upc e) x y = ((dsR a k v g s e x y : ℝ) : EReal) := by
  rw [hDs, k_prob, k_dp, ← EReal.coe_sub, ← EReal.coe_mul, dsR]

/-- The block's queries' gradient over the reals. -/
theorem k_dq : hDq (upq a) (up k) (up v) (up g) (upc s) (upc e) x d = ((dqR a k v g s e x d : ℝ) : EReal) := by
  rw [hDq, dqR, EReal.coe_mul]
  congr 1
  rw [← sum_mul_coe]
  exact Finset.sum_congr rfl fun y _ => by rw [k_ds]

/-- The block's keys' gradient over the reals. -/
theorem k_dk : hDk (upq a) (up k) (up v) (up g) (upc s) (upc e) y d = ((dkR a k v g s e y d : ℝ) : EReal) := by
  rw [hDk, dkR, ← sum_coe]
  exact Finset.sum_congr rfl fun x _ => by rw [k_ds, EReal.coe_mul, EReal.coe_mul]

/-- The block's values' gradient over the reals. -/
theorem k_dv : hDv (upq a) (up k) (up g) (upc s) y d = ((dvR a k g s y d : ℝ) : EReal) := by
  rw [hDv, dvR, ← sum_mul_coe]
  exact Finset.sum_congr rfl fun x _ => by rw [k_prob]

end Cert.AttnBwd

end
-- ==== Proof.Finite.lean ====
module

public import proofs.«01_k».proof.Proof.RefStage
public import proofs.«01_k».proof.Proof.Gen.KernelIdeal
public import proofs.«01_k».proof.Pre_finite
public import Idealize.ShloMosaic.Lib.ReduceAll
public import Idealize.ShloMosaic.Lib.Pointwise

@[expose] public section

set_option maxRecDepth 16384

noncomputable section

namespace Cert.AttnBwd

open Cert.ReferenceIdeal Idealize.ShloMosaic Idealize.ShloMosaic.TcCoe

open Cert.ReferenceIdeal.Read

variable (x0 x1 x2 x4 : FVec Ideal S2048x512 .f32) (x3 : S2048.Idx → BitVec 32) (x5 : FVec Ideal S2048x8 .f32)

/-- An extended real that is a real. -/
def IsReal (x : EReal) : Prop := ∃ r : ℝ, x = (r : EReal)

namespace IsReal
variable {x y : EReal}
theorem coe (r : ℝ) : IsReal (r : EReal) := ⟨r, rfl⟩
theorem mul : IsReal x → IsReal y → IsReal (x * y) := fun ⟨a, ha⟩ ⟨b, hb⟩ => ⟨a * b, by rw [ha, hb, EReal.coe_mul]⟩
theorem add : IsReal x → IsReal y → IsReal (x + y) := fun ⟨a, ha⟩ ⟨b, hb⟩ => ⟨a + b, by rw [ha, hb, EReal.coe_add]⟩
theorem sub : IsReal x → IsReal y → IsReal (x - y) := fun ⟨a, ha⟩ ⟨b, hb⟩ => ⟨a - b, by rw [ha, hb, EReal.coe_sub]⟩
theorem neg : IsReal x → IsReal (-x) := fun ⟨a, ha⟩ => ⟨-a, by rw [ha, EReal.coe_neg]⟩
theorem pow : IsReal x → IsReal y → IsReal (Ideal.pow x y) := fun ⟨a, ha⟩ ⟨b, hb⟩ => ⟨Real.rpow a b, by rw [ha, hb, Ideal.pow_coe_coe]⟩
theorem cos : IsReal x → IsReal (Ideal.cos x) := fun ⟨a, ha⟩ => ⟨Real.cos a, by rw [ha, Ideal.cos_coe]⟩
theorem sin : IsReal x → IsReal (Ideal.sin x) := fun ⟨a, ha⟩ => ⟨Real.sin a, by rw [ha, Ideal.sin_coe]⟩
theorem of_ne (h : x ≠ ⊥) (h' : x ≠ ⊤) : IsReal x := ⟨x.toReal, (EReal.coe_toReal h' h).symm⟩
end IsReal

theorem base_real : IsReal (Ideal.ofBits .f32 0x48F42400#32) := by
  refine IsReal.of_ne ?_ ?_ <;> simp [Ideal.ofBits, Ideal.ieee, -EReal.coe_mul]

theorem angle_real (n : Fin 2048) (j : Fin 8) : IsReal (val_main_v11 (F := Ideal) x3 (ix2 n j)) := by
  unfold val_main_v11 val_main_v10 val_main_v9 val_main_v8 val_main_v7 val_main_v6 val_main_v5 val_main_v4 val_main_v3 val_main_v2 val_main_v1 val_main_v0
  pointwise [val_main_cst, val_main_cst_0]
  refine IsReal.mul (IsReal.coe _) (IsReal.pow base_real (IsReal.mul (IsReal.neg (IsReal.coe _)) ?_))
  rw [scale_value]
  exact IsReal.coe _

theorem cos_real (n : Fin 2048) (j : Fin 8) : IsReal (val_main_v12 (F := Ideal) x3 (ix2 n j)) := (angle_real x3 n j).cos

theorem sin_real (n : Fin 2048) (j : Fin 8) : IsReal (val_main_v13 (F := Ideal) x3 (ix2 n j)) := (angle_real x3 n j).sin

/-- The rotated queries are reals where the queries are. -/
theorem rotq_real (h0 : ∀ i, IsReal (x0 i)) (n : Fin 2048) (h : Fin 8) (d : Fin 64) : IsReal (val_main_v33 (F := Ideal) x0 x3 (ix3 n h d)) := by
  have hc := cos_real x3
  have hs := sin_real x3
  unfold val_main_v33 val_main_v32 val_main_v31 val_main_v30 val_main_v29 val_main_v28 val_main_v27 val_main_v26 val_main_v25 val_main_v24 val_main_v23 val_main_v22 val_main_v21 val_main_v20 val_main_v19 val_main_v18 val_main_v17 val_main_v14
  generalize val_main_v12 (F := Ideal) x3 = C at hc ⊢
  generalize val_main_v13 (F := Ideal) x3 = S at hs ⊢
  pointwise
  split_ifs
  all_goals first
    | exact ((h0 _).mul (hc _ _)).sub ((h0 _).mul (hs _ _))
    | exact ((h0 _).mul (hc _ _)).add ((h0 _).mul (hs _ _))
    | exact h0 _

/-- The rotated keys are reals where the keys are. -/
theorem rotk_real (h0 : ∀ i, IsReal (x1 i)) (n : Fin 2048) (h : Fin 8) (d : Fin 64) : IsReal (val_main_v50 (F := Ideal) x1 x3 (ix3 n h d)) := by
  have hc := cos_real x3
  have hs := sin_real x3
  unfold val_main_v50 val_main_v49 val_main_v48 val_main_v47 val_main_v46 val_main_v45 val_main_v44 val_main_v43 val_main_v42 val_main_v41 val_main_v40 val_main_v39 val_main_v38 val_main_v37 val_main_v36 val_main_v35 val_main_v34 val_main_v15
  generalize val_main_v12 (F := Ideal) x3 = C at hc ⊢
  generalize val_main_v13 (F := Ideal) x3 = S at hs ⊢
  pointwise
  split_ifs
  all_goals first
    | exact ((h0 _).mul (hc _ _)).sub ((h0 _).mul (hs _ _))
    | exact ((h0 _).mul (hc _ _)).add ((h0 _).mul (hs _ _))
    | exact h0 _

/-- The greatest of a row's masked entries is a real where the entries are and one is not masked. -/
theorem fold_real (y z : FVec Ideal S16x8x128x128 .f32) (b : FVec Ideal S_ .f32) (hb : (b (Shape.Idx.first Gen.h_S_) : EReal) = ⊥)
    (r : Fin 16) (h : Fin 8) (i : Fin 128) (hm : ∀ j : Fin 128, (y (ix4 r h i j) : EReal) = if j ≤ i then (z (ix4 r h i j) : EReal) else ⊥)
    (hs : ∀ j, IsReal (z (ix4 r h i j))) :
    IsReal (Host.reduce (FloatOps.maximumf (F := Ideal) (φ := .f32)) y b Gen.reducesTo_S16x8x128x128_S16x8x128_d3 Gen.h_S_ (ix3 r h i)) := by
  rw [Host.reduce_eq_fold_single (FloatOps.maximumf (F := Ideal) (φ := .f32)) y b Gen.reducesTo_S16x8x128x128_S16x8x128_d3 (by decide) Gen.h_S_ (ix3 r h i)]
  have el : ∀ k : Fin 128, (y ∘ Shape.Reduces.lift (s := S16x8x128x128) (t := S16x8x128) (a := 3) (by decide) (ix3 r h i)) k = y (ix4 r h i k) := fun k =>
    congrArg y (funext fun a => Fin.ext (by match a with | ⟨0, _⟩ => rfl | ⟨1, _⟩ => rfl | ⟨2, _⟩ => rfl | ⟨3, _⟩ => rfl))
  show IsReal (Finset.fold max (b (Shape.Idx.first Gen.h_S_) : EReal) _ (Finset.univ : Finset (Fin 128)))
  rw [hb]
  refine IsReal.of_ne (bot_lt_iff_ne_bot.mp ((Finset.lt_fold_max _).mpr (Or.inr ⟨i, Finset.mem_univ _, ?_⟩)))
    (lt_top_iff_ne_top.mp ((Finset.fold_max_lt _).mpr ⟨bot_lt_top, fun k _ => ?_⟩))
  · refine lt_of_lt_of_eq ?_ ((el i).trans (hm i)).symm
    rw [if_pos (le_refl _)]
    obtain ⟨q, hq⟩ := hs i
    rw [hq]; exact EReal.bot_lt_coe _
  · refine lt_of_eq_of_lt ((el k).trans (hm k)) ?_
    split_ifs
    · obtain ⟨q, hq⟩ := hs k
      rw [hq]; exact EReal.coe_lt_top _
    · exact bot_lt_top

/-- A row's greatest masked score is a real where the scores are. -/
theorem max_real (r : Fin 16) (h : Fin 8) (i : Fin 128) (hs : ∀ j, IsReal (val_main_v56 (F := Ideal) x0 x1 x3 (ix4 r h i j))) :
    IsReal (val_main_v71 (F := Ideal) x0 x1 x3 (ix3 r h i)) :=
  fold_real (val_main_v70_0 (F := Ideal) x0 x1 x3) (val_main_v56 (F := Ideal) x0 x1 x3) (val_main_cst_4 (F := Ideal)) (by
    show Ideal.ofBits .f32 0xFF800000#32 = ⊥
    simp [Ideal.ofBits, Ideal.ieee]) r h i (st_masked x0 x1 x3 r h i) hs

/-- A number whose size is less than infinity is a real. -/
theorem real_of_cmp (x : EReal) (e : Ideal.cmp .olt (max x (-x)) (Ideal.ofBits .f32 0x7F800000#32) = 1#1) : IsReal x := by
  have ht : Ideal.ofBits .f32 0x7F800000#32 = ⊤ := by simp [Ideal.ofBits, Ideal.ieee]
  rw [ht] at e
  have hl : max x (-x) < ⊤ := by
    by_contra hn
    simp [Ideal.cmp, hn] at e
  rw [max_lt_iff] at hl
  refine IsReal.of_ne (fun hb => ?_) hl.1.ne
  rw [hb] at hl
  exact absurd hl.2 (by simp)

/-- The side conditions of the precondition's operations. -/
theorem pre_facts : Cert.Pre_finite.Facts :=
  { bcast_S_S2048x512 := by decide +kernel, reducesTo_S2048x512_S_d0_1 := by decide +kernel, h_S_ := by decide +kernel,
    bcast_S_S2048x8 := by decide +kernel, reducesTo_S2048x8_S_d0_1 := by decide +kernel }

/-- Under the precondition every entry of every argument is a real. -/
theorem args_real (hf : Cert.Pre_finite.Facts) (e : Cert.Pre_finite.fn (F := Ideal) x0 x1 x2 x3 x4 x5 = fun _ => 1#1) :
    (∀ i, IsReal (x0 i)) ∧ (∀ i, IsReal (x1 i)) ∧ (∀ i, IsReal (x2 i)) ∧ (∀ i, IsReal (x4 i)) ∧ (∀ i, IsReal (x5 i)) := by
  haveI : Subsingleton Cert.Pre_finite.S_.Idx := ⟨fun a b => funext fun k => k.elim0⟩
  have e' := congrFun e ix0
  unfold Cert.Pre_finite.fn Cert.Pre_finite.fn_part1 at e'
  simp only [andi] at e'
  obtain ⟨e', e5⟩ := IntOp.andi_eq_one.1 e'
  obtain ⟨e', e4⟩ := IntOp.andi_eq_one.1 e'
  obtain ⟨e', e2⟩ := IntOp.andi_eq_one.1 e'
  obtain ⟨e0, e1⟩ := IntOp.andi_eq_one.1 e'
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i), fun i => real_of_cmp _ (Host.reduce_andi_all _ _ _ _ _ e4 i),
    fun i => real_of_cmp _ (Host.reduce_andi_all _ _ _ _ _ e5 i)⟩

end Cert.AttnBwd

end
-- ==== Proof.Equation.lean ====
module

public import proofs.«01_k».proof.Proof.HeadReal
public import proofs.«01_k».proof.Proof.Finite

@[expose] public section

set_option maxRecDepth 16384

noncomputable section

namespace Cert.AttnBwd

open Cert.ReferenceIdeal Idealize.ShloMosaic Idealize.ShloMosaic.TcCoe

open Cert.ReferenceIdeal.Read

variable (x0 x1 x2 x4 : FVec Ideal S2048x512 .f32) (x3 : S2048.Idx → BitVec 32) (x5 : FVec Ideal S2048x8 .f32)
variable (r : Fin 16) (h : Fin 8)

/-- A head's rotated and scaled queries. -/
abbrev eQ : HeadRows := fun x d => val_main_v33 (F := Ideal) x0 x3 (ix3 (apos r x) h d) * Ideal.ofBits .f32 0x3E000000#32
/-- A head's rotated keys. -/
abbrev eK : HeadRows := fun x d => val_main_v50 (F := Ideal) x1 x3 (ix3 (apos r x) h d)
/-- A head's values, or its incoming gradient. -/
abbrev eV : HeadRows := fun x d => x2 (ix2 (apos r x) (alane h d))
/-- A head's log-sum-exps. -/
abbrev eS : Fin 128 → EReal := fun x => val_main_v83 (F := Ideal) x0 x1 x3 (ix3 r h x)
/-- A head's row totals: incoming gradient times output, less the log-sum-exp's gradient. -/
abbrev eE : Fin 128 → EReal := fun x =>
  (∑ d : Fin 64, eV x4 r h x d * val_main_v88 (F := Ideal) x0 x1 x2 x3 (ix4 r h d x)) - x5 (ix2 (apos r x) h)

/-- Of real arguments, the block's three gradients of a head are the reference's. -/
theorem heads_eq (h0 : ∀ i, IsReal (x0 i)) (h1 : ∀ i, IsReal (x1 i)) (h2 : ∀ i, IsReal (x2 i)) (h4 : ∀ i, IsReal (x4 i)) (h5 : ∀ i, IsReal (x5 i)) :
    (∀ x d, hDq (eQ x0 x3 r h) (eK x1 x3 r h) (eV x2 r h) (eV x4 r h) (eS x0 x1 x3 r h) (eE x0 x1 x2 x4 x3 x5 r h) x d = val_main_v116 (F := Ideal) x0 x1 x2 x3 x4 x5 (ix4 r h x d)) ∧
    (∀ y d, hDk (eQ x0 x3 r h) (eK x1 x3 r h) (eV x2 r h) (eV x4 r h) (eS x0 x1 x3 r h) (eE x0 x1 x2 x4 x3 x5 r h) y d = val_main_v114 (F := Ideal) x0 x1 x2 x3 x4 x5 (ix4 r h y d)) ∧
    (∀ y d, hDv (eQ x0 x3 r h) (eK x1 x3 r h) (eV x4 r h) (eS x0 x1 x3 r h) y d = val_main_v99 (F := Ideal) x0 x1 x3 x4 (ix4 r h d y)) := by
  choose a hA using fun (i : Fin 128) (d : Fin 64) => rotq_real x0 x3 h0 (apos r i) h d
  choose k hK using fun (i : Fin 128) (d : Fin 64) => rotk_real x1 x3 h1 (apos r i) h d
  choose v hV using fun (i : Fin 128) (d : Fin 64) => h2 (ix2 (apos r i) (alane h d))
  choose g hG using fun (i : Fin 128) (d : Fin 64) => h4 (ix2 (apos r i) (alane h d))
  choose t hT using fun (i : Fin 128) => h5 (ix2 (apos r i) h)
  choose M hM using fun (i : Fin 128) => max_real x0 x1 x3 r h i fun j => ⟨_, r_score x0 x1 x3 r h i j a k hA hK⟩
  have eq : eQ x0 x3 r h = upq a := by funext x d; show _ * _ = _; rw [hA, scale_value]
  have ek : eK x1 x3 r h = up k := by funext x d; exact hK x d
  have ev : eV x2 r h = up v := by funext x d; exact hV x d
  have eg : eV x4 r h = up g := by funext x d; exact hG x d
  have es : eS x0 x1 x3 r h = upc (lseR a k M) := by funext x; exact r_lse x0 x1 x3 r h x a k M hA hK hM
  have ee : eE x0 x1 x2 x4 x3 x5 r h = upc (fun i => (∑ j, dotR g v i j * expR a k (lseR a k M) i j) - t i) := by
    funext x
    show (∑ d : Fin 64, eV x4 r h x d * val_main_v88 (F := Ideal) x0 x1 x2 x3 (ix4 r h d x)) - _ = (((∑ j, dotR g v x j * expR a k (lseR a k M) x j) - t x : ℝ) : EReal)
    rw [hT, ← total_eq, EReal.coe_sub, ← sum_mul_coe]
    congr 1
    exact Finset.sum_congr rfl fun d _ => by rw [eg, r_out x0 x1 x2 x3 r h x d a k v M hA hK hM hV]
  rw [eq, ek, ev, eg, es, ee]
  exact ⟨fun x d => by rw [k_dq, r_dq x0 x1 x2 x4 x3 x5 r h x d a k v g M t hA hK hM hG hV hT],
    fun y d => by rw [k_dk, r_dk x0 x1 x2 x4 x3 x5 r h y d a k v g M t hA hK hM hG hV hT],
    fun y d => by rw [k_dv, r_dv x0 x1 x4 x3 r h y d a k g M hA hK hM hG]⟩

end Cert.AttnBwd

end
-- ==== Proof.RefRope.lean ====
module

public import proofs.«01_k».proof.Proof.Head
public import proofs.«01_k».proof.Proof.Gen.ReferenceIdeal.Read
public import Idealize.ShloMosaic.Lib.Pointwise

@[expose] public section

set_option maxRecDepth 16384

noncomputable section

namespace Cert.AttnBwd

open Cert.ReferenceIdeal Idealize.ShloMosaic Idealize.ShloMosaic.TcCoe

open Cert.ReferenceIdeal.Read

variable (x0 x1 x2 x4 : FVec Ideal S2048x512 .f32) (x3 : S2048.Idx → BitVec 32) (x5 : FVec Ideal S2048x8 .f32)

/-- The three padded pieces of a transposed rotation are the rotation's cases. -/
theorem rope_cases (cs sn : Fin 128 → Fin 8 → EReal) (Z : HeadRows) (x : Fin 128) (d : Fin 64) (n : ℕ) (hn : n < 2048) :
    (((if h_1 : n < 2048 ∧ 16 ≤ d.val ∧ d.val - 16 < 48 then Z x ⟨16 + (d.val - 16), by omega⟩ else 0) +
        if h_1 : n < 2048 ∧ 8 ≤ d.val ∧ d.val - 8 < 8 then
          Z x ⟨8 + (d.val - 8), by omega⟩ * cs x ⟨d.val - 8, by omega⟩ + -Z x ⟨d.val - 8, by omega⟩ * sn x ⟨d.val - 8, by omega⟩
        else 0) +
      if h_1 : n < 2048 ∧ d.val < 8 then Z x ⟨8 + d.val, by omega⟩ * sn x ⟨d.val, by omega⟩ + Z x d * cs x ⟨d.val, by omega⟩ else 0) =
    hRope cs sn Z x d := by
  rw [hRope]
  by_cases h8 : d.val < 8
  · rw [dif_neg (by omega), dif_neg (by omega), dif_pos ⟨hn, h8⟩, dif_pos h8, zero_add, zero_add, add_comm]
    simp only [Nat.add_comm 8]
  · by_cases h16 : d.val < 16
    · rw [dif_neg (by omega), dif_pos ⟨hn, by omega, by omega⟩, dif_neg (by omega), dif_neg h8, dif_pos h16, zero_add, add_zero, neg_mul, mul_neg]
      have e : (⟨8 + (d.val - 8), by omega⟩ : Fin 64) = d := Fin.ext (by show 8 + (d.val - 8) = d.val; omega)
      rw [e]
    · rw [dif_pos ⟨hn, by omega, by omega⟩, dif_neg (by omega), dif_neg (by omega), dif_neg h8, dif_neg h16, add_zero, add_zero]
      congr 1
      exact Fin.ext (by show 16 + (d.val - 16) = d.val; omega)

/-- The reference's gradient of the queries, after the transposed rotation, at an entry. -/
theorem ref_q (r : Fin 16) (h : Fin 8) (x : Fin 128) (d : Fin 64) :
    val_main_v165 (F := Ideal) x0 x1 x2 x3 x4 x5 (ix2 x ⟨r.val * 512 + h.val * 64 + d.val, by omega⟩) =
      hRope (fun x j => val_main_v12 (F := Ideal) x3 (ix2 ⟨x.val * 16 + r.val, by omega⟩ j))
        (fun x j => val_main_v13 (F := Ideal) x3 (ix2 ⟨x.val * 16 + r.val, by omega⟩ j))
        (fun x d => val_main_v116 (F := Ideal) x0 x1 x2 x3 x4 x5 (ix4 r h x d)) x d := by
  unfold val_main_v165 val_main_v164 val_main_v163 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v120 val_main_v117 val_main_v17 val_main_v18
  generalize val_main_v116 (F := Ideal) x0 x1 x2 x3 x4 x5 = Z
  generalize val_main_v12 (F := Ideal) x3 = C
  generalize val_main_v13 (F := Ideal) x3 = S
  pointwise [val_main_cst_13, val_main_cst_14, val_main_cst_15]
  have hx : x.val * 16 + (r.val * 512 + h.val * 64 + d.val) / 512 = x.val * 16 + r.val := by omega
  simp only [hx]
  exact rope_cases (fun x j => C (ix2 ⟨x.val * 16 + r.val, by omega⟩ j)) (fun x j => S (ix2 ⟨x.val * 16 + r.val, by omega⟩ j))
    (fun x d => Z (ix4 r h x d)) x d (x.val * 16 + r.val) (by omega)

/-- The reference's gradient of the keys, after the transposed rotation, at an entry. -/
theorem ref_k (r : Fin 16) (h : Fin 8) (x : Fin 128) (d : Fin 64) :
    val_main_v167 (F := Ideal) x0 x1 x2 x3 x4 x5 (ix2 x ⟨r.val * 512 + h.val * 64 + d.val, by omega⟩) =
      hRope (fun x j => val_main_v12 (F := Ideal) x3 (ix2 ⟨x.val * 16 + r.val, by omega⟩ j))
        (fun x j => val_main_v13 (F := Ideal) x3 (ix2 ⟨x.val * 16 + r.val, by omega⟩ j))
        (fun x d => val_main_v114 (F := Ideal) x0 x1 x2 x3 x4 x5 (ix4 r h x d)) x d := by
  unfold val_main_v167 val_main_v166 val_main_v162 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v119 val_main_v115 val_main_v34 val_main_v35
  generalize val_main_v114 (F := Ideal) x0 x1 x2 x3 x4 x5 = Z
  generalize val_main_v12 (F := Ideal) x3 = C
  generalize val_main_v13 (F := Ideal) x3 = S
  pointwise [val_main_cst_10, val_main_cst_11, val_main_cst_12]
  have hx : x.val * 16 + (r.val * 512 + h.val * 64 + d.val) / 512 = x.val * 16 + r.val := by omega
  simp only [hx]
  exact rope_cases (fun x j => C (ix2 ⟨x.val * 16 + r.val, by omega⟩ j)) (fun x j => S (ix2 ⟨x.val * 16 + r.val, by omega⟩ j))
    (fun x d => Z (ix4 r h x d)) x d (x.val * 16 + r.val) (by omega)

/-- The reference's gradient of the values at an entry. -/
theorem ref_v (r : Fin 16) (h : Fin 8) (x : Fin 128) (d : Fin 64) :
    val_main_v169 (F := Ideal) x0 x1 x3 x4 (ix2 x ⟨r.val * 512 + h.val * 64 + d.val, by omega⟩) =
      val_main_v99 (F := Ideal) x0 x1 x3 x4 (ix4 r h d x) := by
  unfold val_main_v169 val_main_v168 val_main_v161 val_main_v118 val_main_v100
  generalize val_main_v99 (F := Ideal) x0 x1 x3 x4 = Z
  pointwise

end Cert.AttnBwd

end
-- ==== Proof.Results.lean ====
module

public import proofs.«01_k».proof.Proof.Arr
public import proofs.«01_k».proof.Proof.Equation
public import proofs.«01_k».proof.Proof.RefRope
public import proofs.«01_k».proof.Proof.Gen.ReferenceIdeal.Run
public import proofs.«01_k».proof.Defs

@[expose] public section

set_option maxRecDepth 16384

noncomputable section

namespace Cert.AttnBwd

open Cert.KernelIdeal Cert.KernelIdeal.Gen Idealize.ShloMosaic Idealize.ShloMosaic.TcCoe

open Cert.ReferenceIdeal.Read

variable (m : (ℓ : Loc nD τ sig) → Buf (Elt Ideal) ℓ) (c : Dev nD)

/-- A column of a result is a lane of a head of a stream. -/
theorem col_split (y : Fin 8192) : y = gcol ⟨y.val / 512, by omega⟩ ⟨y.val / 64 % 8, by omega⟩ ⟨y.val % 64, by omega⟩ :=
  Fin.ext (by show y.val = y.val / 512 * 512 + y.val / 64 % 8 * 64 + y.val % 64; omega)

/-- The arguments of the device are reals. -/
def ArgsReal : Prop :=
  (∀ i, IsReal (aQ m c i)) ∧ (∀ i, IsReal (aK m c i)) ∧ (∀ i, IsReal (aV m c i)) ∧ (∀ i, IsReal (aG m c i)) ∧ (∀ i, IsReal (aL m c i))

variable (hr : ArgsReal m c)
include hr

/-- The queries' gradient is the reference's. -/
theorem result_q : (dats m 0 c).arrAt 9 cfg0.N = val_main_v165 (F := Ideal) (aQ m c) (aK m c) (aV m c) (aP m c) (aG m c) (aL m c) := by
  obtain ⟨h0, h1, h2, h4, h5⟩ := hr
  funext i
  rw [eq_ix2 i, col_split (i 1)]
  refine (arr_dq m c _ _ _ _).trans (Eq.trans ?_ (ref_q (aQ m c) (aK m c) (aV m c) (aG m c) (aP m c) (aL m c) _ _ _ _).symm)
  exact congrArg (fun Z => hRope _ _ Z _ _) (funext fun x => funext fun d => (heads_eq (aQ m c) (aK m c) (aV m c) (aG m c) (aP m c) (aL m c) _ _ h0 h1 h2 h4 h5).1 x d)

/-- The keys' gradient is the reference's. -/
theorem result_k : (dats m 0 c).arrAt 10 cfg0.N = val_main_v167 (F := Ideal) (aQ m c) (aK m c) (aV m c) (aP m c) (aG m c) (aL m c) := by
  obtain ⟨h0, h1, h2, h4, h5⟩ := hr
  funext i
  rw [eq_ix2 i, col_split (i 1)]
  refine (arr_dk m c _ _ _ _).trans (Eq.trans ?_ (ref_k (aQ m c) (aK m c) (aV m c) (aG m c) (aP m c) (aL m c) _ _ _ _).symm)
  exact congrArg (fun Z => hRope _ _ Z _ _) (funext fun x => funext fun d => (heads_eq (aQ m c) (aK m c) (aV m c) (aG m c) (aP m c) (aL m c) _ _ h0 h1 h2 h4 h5).2.1 x d)

/-- The values' gradient is the reference's. -/
theorem result_v : (dats m 0 c).arrAt 11 cfg0.N = val_main_v169 (F := Ideal) (aQ m c) (aK m c) (aP m c) (aG m c) := by
  obtain ⟨h0, h1, h2, h4, h5⟩ := hr
  funext i
  rw [eq_ix2 i, col_split (i 1)]
  refine (arr_dv m c _ _ _ _).trans (Eq.trans ?_ (ref_v (aQ m c) (aK m c) (aG m c) (aP m c) _ _ _ _).symm)
  exact (heads_eq (aQ m c) (aK m c) (aV m c) (aG m c) (aP m c) (aL m c) _ _ h0 h1 h2 h4 h5).2.2 _ _

end Cert.AttnBwd

end
-- ==== Proof.WgradIn0.lean ====
module

public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.StableHlo.RunRead
public import Idealize.ShloMosaic.Lib.Claim
public import Idealize.ShloMosaic.Lib.Pointwise

@[expose] public section

set_option maxRecDepth 16384

noncomputable section

namespace Cert.WgradIn0

open Cert.Kernel3Ideal Cert.Kernel3Ideal.Gen Idealize.ShloMosaic Idealize.ShloMosaic.TcCoe Idealize.SL.Sem
open Cert.Reference3Ideal.Read

variable (m : (ℓ : Loc nD τ sig) → Buf (Elt Ideal) ℓ) (c : Dev nD)

/-- The arguments: the layer's input, the norm's gain, the cotangent of the projection. -/
abbrev aX : S2048x1024.Idx → EReal := m ((c : Thread nD τ).loc main_arg0)
abbrev aG : S1x1024.Idx → EReal := m ((c : Thread nD τ).loc main_arg1)
abbrev aD : S2048x5632.Idx → EReal := m ((c : Thread nD τ).loc main_arg3)

/-- What one grid point computes: two shares of the columns times the normed rows. -/
theorem block_apply (a : FVec Ideal S1408x2048 .bf16) (b : FVec Ideal S2048x1024 .bf16) (s : Fin 2) (j : Fin 704) (l : Fin 1024) :
    k0_pay1 (F := Ideal) a b (ix3 s j l) = ∑ k : Fin 2048, a (ix2 ⟨s.val * 704 + j.val, by omega⟩ k) * b (ix2 k l) := by
  pointwise [k0_pay1]

/-- A grid point's output block is its product. -/
theorem out_eq (a : FVec Ideal S1408x2048 .bf16) (b : FVec Ideal S2048x1024 .bf16) : out0_2 (F := Ideal) a b = k0_pay1 (F := Ideal) a b := by
  unfold out0_2
  rw [View.canon_unit_zero (by decide), View.ld_unit_zero (by decide), View.ld_unit_zero (by decide)]

/-- The transposed cotangent the launch finds. -/
theorem V_d : V m c main_v1 = transpose S5632x2048 [1, 0] (aD m c) transposes_S2048x5632_S5632x2048_1_0 := by
  unfold_abbrev_sides
  after_reads_simp
  rfl

/-- The normed rows the launch finds are the reference's. -/
theorem V_n : V m c main_v14 = val_main_v11 (F := Ideal) (aX m c) (aG m c) := by
  unfold_abbrev_sides
  after_reads_simp
  rfl

theorem index0 : ∀ t : Fin cfg0.N, win0_0.index t = ![t.val, 0] ∧ win0_1.index t = ![0, 0] ∧ win0_2.index t = ![t.val, 0, 0] :=
  (by decide +kernel : ∀ t : Fin grid0.N, win0_0.index t = ![t.val, 0] ∧ win0_1.index t = ![0, 0] ∧ win0_2.index t = ![t.val, 0, 0])

theorem points : cfg0.N = 4 := by decide

/-- The cotangent's block at a grid point: the point's 1408 columns. -/
theorem blk_d (t : Fin cfg0.N) (r : Fin 1408) (k : Fin 2048) (h : t.val * 1408 + r.val < 5632) :
    iblk m c 0 t (ix2 r k) = aD m c (ix2 k ⟨t.val * 1408 + r.val, h⟩) := by
  have e : (win0_0.rect t).emb (ix2 r k) = (ix2 ⟨t.val * 1408 + r.val, h⟩ k : S5632x2048.Idx) := by
    funext a
    match a with
    | ⟨0, _⟩ => exact Fin.ext ((win0_0.rect_emb_val t (ix2 r k) 0).trans (by rw [(index0 t).1]; rfl))
    | ⟨1, _⟩ => exact Fin.ext ((win0_0.rect_emb_val t (ix2 r k) 1).trans (by rw [(index0 t).1]; simp))
  refine (congrArg (V m c main_v1) e).trans ?_
  rw [V_d]
  pointwise

/-- The normed rows' block is the whole array. -/
theorem blk_n (t : Fin cfg0.N) (k : Fin 2048) (l : Fin 1024) :
    iblk m c 1 t (ix2 k l) = val_main_v11 (F := Ideal) (aX m c) (aG m c) (ix2 k l) := by
  have e : (win0_1.rect t).emb (ix2 k l) = (ix2 k l : S2048x1024.Idx) := by
    funext a
    match a with
    | ⟨0, _⟩ => exact Fin.ext ((win0_1.rect_emb_val t (ix2 k l) 0).trans (by rw [(index0 t).2.1]; simp))
    | ⟨1, _⟩ => exact Fin.ext ((win0_1.rect_emb_val t (ix2 k l) 1).trans (by rw [(index0 t).2.1]; simp))
  exact (congrArg (V m c main_v14) e).trans (by rw [V_n])

/-- An entry of the reference's gradient. -/
theorem ref_apply (x : S2048x1024.Idx → EReal) (g : S1x1024.Idx → EReal) (d : S2048x5632.Idx → EReal) (s : Fin 8) (j : Fin 704) (l : Fin 1024) :
    val_main_v17 (F := Ideal) x g d (ix3 s j l)
      = ∑ k : Fin 2048, d (ix2 k ⟨s.val * 704 + j.val, by omega⟩) * val_main_v11 (F := Ideal) x g (ix2 k l) := by
  unfold val_main_v17 val_main_v16 val_main_v15 val_main_v14 val_main_v13
  generalize val_main_v11 (F := Ideal) x g = n
  pointwise

/-- The grid point that computes a share. -/
abbrev pt (s : Fin 8) : Fin cfg0.N := ⟨s.val / 2, by rw [points]; omega⟩

/-- The kernel's array is the reference's, entry by entry. -/
theorem result_apply (s : Fin 8) (j : Fin 704) (l : Fin 1024) :
    (dats m 0 c).arrAt 2 cfg0.N (ix3 s j l : S8x704x1024.Idx) = val_main_v17 (F := Ideal) (aX m c) (aG m c) (aD m c) (ix3 s j l) := by
  have hf : (cfg0.win 2).flush (pt s) = true := (by decide +kernel : ∀ t : Fin grid0.N, win0_2.flush t = true) (pt s)
  have h1 := congrFun (Cert.Kernel3Ideal.Value.blocks2 m c (pt s) hf) (ix3 ⟨s.val % 2, by omega⟩ j l)
  rw [Cert.Kernel3Ideal.Value.flushed2, out_eq] at h1
  have e : (win0_2.rect (pt s)).emb (ix3 ⟨s.val % 2, by omega⟩ j l) = (ix3 s j l : S8x704x1024.Idx) := by
    funext a
    match a with
    | ⟨0, _⟩ => exact Fin.ext ((win0_2.rect_emb_val (pt s) (ix3 ⟨s.val % 2, by omega⟩ j l) 0).trans (by
        rw [(index0 (pt s)).2.2]; show s.val / 2 * 2 + s.val % 2 = s.val; omega))
    | ⟨1, _⟩ => exact Fin.ext ((win0_2.rect_emb_val (pt s) (ix3 ⟨s.val % 2, by omega⟩ j l) 1).trans (by rw [(index0 (pt s)).2.2]; simp))
    | ⟨2, _⟩ => exact Fin.ext ((win0_2.rect_emb_val (pt s) (ix3 ⟨s.val % 2, by omega⟩ j l) 2).trans (by rw [(index0 (pt s)).2.2]; simp))
  have h2 := (congrArg ((dats m 0 c).arrAt 2 cfg0.N) e).symm.trans h1
  refine h2.trans ?_
  show k0_pay1 (F := Ideal) (iblk m c 0 (pt s)) (iblk m c 1 (pt s)) (ix3 ⟨s.val % 2, by omega⟩ j l) = _
  rw [block_apply, ref_apply]
  refine Finset.sum_congr rfl fun k _ => ?_
  rw [blk_d m c (pt s) ⟨s.val % 2 * 704 + j.val, by omega⟩ k (by show s.val / 2 * 1408 + (s.val % 2 * 704 + j.val) < 5632; omega), blk_n]
  rw [show (⟨(pt s).val * 1408 + (s.val % 2 * 704 + j.val), _⟩ : Fin 5632) = ⟨s.val * 704 + j.val, by omega⟩ from
    Fin.ext (by show s.val / 2 * 1408 + (s.val % 2 * 704 + j.val) = s.val * 704 + j.val; omega)]

/-- The kernel's array is the reference's. -/
theorem result : (dats m 0 c).arrAt 2 cfg0.N = val_main_v17 (F := Ideal) (aX m c) (aG m c) (aD m c) := by
  funext (i : S8x704x1024.Idx)
  rw [eq_ix3 i]
  exact result_apply m c (i 0) (i 1) (i 2)

end Cert.WgradIn0

end
-- ==== Proof.WgradIn1.lean ====
module

public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.StableHlo.RunRead
public import Idealize.ShloMosaic.Lib.Claim
public import Idealize.ShloMosaic.Lib.Pointwise

@[expose] public section

set_option maxRecDepth 16384

noncomputable section

namespace Cert.WgradIn1

open Cert.Kernel5Ideal Cert.Kernel5Ideal.Gen Idealize.ShloMosaic Idealize.ShloMosaic.TcCoe Idealize.SL.Sem
open Cert.Reference5Ideal.Read

variable (m : (ℓ : Loc nD τ sig) → Buf (Elt Ideal) ℓ) (c : Dev nD)

/-- The arguments: the layer's input, the norm's gain, the cotangent of the projection. -/
abbrev aX : S2048x1024.Idx → EReal := m ((c : Thread nD τ).loc main_arg0)
abbrev aG : S1x1024.Idx → EReal := m ((c : Thread nD τ).loc main_arg1)
abbrev aD : S2048x4608.Idx → EReal := m ((c : Thread nD τ).loc main_arg3)

/-- What one grid point computes: two shares of the columns times the normed rows. -/
theorem block_apply (a : FVec Ideal S1152x2048 .bf16) (b : FVec Ideal S2048x1024 .bf16) (s : Fin 2) (j : Fin 576) (l : Fin 1024) :
    k0_pay1 (F := Ideal) a b (ix3 s j l) = ∑ k : Fin 2048, a (ix2 ⟨s.val * 576 + j.val, by omega⟩ k) * b (ix2 k l) := by
  pointwise [k0_pay1]

/-- A grid point's output block is its product. -/
theorem out_eq (a : FVec Ideal S1152x2048 .bf16) (b : FVec Ideal S2048x1024 .bf16) : out0_2 (F := Ideal) a b = k0_pay1 (F := Ideal) a b := by
  unfold out0_2
  rw [View.canon_unit_zero (by decide), View.ld_unit_zero (by decide), View.ld_unit_zero (by decide)]

/-- The transposed cotangent the launch finds. -/
theorem V_d : V m c main_v1 = transpose S4608x2048 [1, 0] (aD m c) transposes_S2048x4608_S4608x2048_1_0 := by
  unfold_abbrev_sides
  after_reads_simp
  rfl

/-- The normed rows the launch finds are the reference's. -/
theorem V_n : V m c main_v14 = val_main_v11 (F := Ideal) (aX m c) (aG m c) := by
  unfold_abbrev_sides
  after_reads_simp
  rfl

theorem index0 : ∀ t : Fin cfg0.N, win0_0.index t = ![t.val, 0] ∧ win0_1.index t = ![0, 0] ∧ win0_2.index t = ![t.val, 0, 0] :=
  (by decide +kernel : ∀ t : Fin grid0.N, win0_0.index t = ![t.val, 0] ∧ win0_1.index t = ![0, 0] ∧ win0_2.index t = ![t.val, 0, 0])

theorem points : cfg0.N = 4 := by decide

/-- The cotangent's block at a grid point: the point's 1152 columns. -/
theorem blk_d (t : Fin cfg0.N) (r : Fin 1152) (k : Fin 2048) (h : t.val * 1152 + r.val < 4608) :
    iblk m c 0 t (ix2 r k) = aD m c (ix2 k ⟨t.val * 1152 + r.val, h⟩) := by
  have e : (win0_0.rect t).emb (ix2 r k) = (ix2 ⟨t.val * 1152 + r.val, h⟩ k : S4608x2048.Idx) := by
    funext a
    match a with
    | ⟨0, _⟩ => exact Fin.ext ((win0_0.rect_emb_val t (ix2 r k) 0).trans (by rw [(index0 t).1]; rfl))
    | ⟨1, _⟩ => exact Fin.ext ((win0_0.rect_emb_val t (ix2 r k) 1).trans (by rw [(index0 t).1]; simp))
  refine (congrArg (V m c main_v1) e).trans ?_
  rw [V_d]
  pointwise

/-- The normed rows' block is the whole array. -/
theorem blk_n (t : Fin cfg0.N) (k : Fin 2048) (l : Fin 1024) :
    iblk m c 1 t (ix2 k l) = val_main_v11 (F := Ideal) (aX m c) (aG m c) (ix2 k l) := by
  have e : (win0_1.rect t).emb (ix2 k l) = (ix2 k l : S2048x1024.Idx) := by
    funext a
    match a with
    | ⟨0, _⟩ => exact Fin.ext ((win0_1.rect_emb_val t (ix2 k l) 0).trans (by rw [(index0 t).2.1]; simp))
    | ⟨1, _⟩ => exact Fin.ext ((win0_1.rect_emb_val t (ix2 k l) 1).trans (by rw [(index0 t).2.1]; simp))
  exact (congrArg (V m c main_v14) e).trans (by rw [V_n])

/-- An entry of the reference's gradient. -/
theorem ref_apply (x : S2048x1024.Idx → EReal) (g : S1x1024.Idx → EReal) (d : S2048x4608.Idx → EReal) (s : Fin 8) (j : Fin 576) (l : Fin 1024) :
    val_main_v17 (F := Ideal) x g d (ix3 s j l)
      = ∑ k : Fin 2048, d (ix2 k ⟨s.val * 576 + j.val, by omega⟩) * val_main_v11 (F := Ideal) x g (ix2 k l) := by
  unfold val_main_v17 val_main_v16 val_main_v15 val_main_v14 val_main_v13
  generalize val_main_v11 (F := Ideal) x g = n
  pointwise

/-- The grid point that computes a share. -/
abbrev pt (s : Fin 8) : Fin cfg0.N := ⟨s.val / 2, by rw [points]; omega⟩

/-- The kernel's array is the reference's, entry by entry. -/
theorem result_apply (s : Fin 8) (j : Fin 576) (l : Fin 1024) :
    (dats m 0 c).arrAt 2 cfg0.N (ix3 s j l : S8x576x1024.Idx) = val_main_v17 (F := Ideal) (aX m c) (aG m c) (aD m c) (ix3 s j l) := by
  have hf : (cfg0.win 2).flush (pt s) = true := (by decide +kernel : ∀ t : Fin grid0.N, win0_2.flush t = true) (pt s)
  have h1 := congrFun (Cert.Kernel5Ideal.Value.blocks2 m c (pt s) hf) (ix3 ⟨s.val % 2, by omega⟩ j l)
  rw [Cert.Kernel5Ideal.Value.flushed2, out_eq] at h1
  have e : (win0_2.rect (pt s)).emb (ix3 ⟨s.val % 2, by omega⟩ j l) = (ix3 s j l : S8x576x1024.Idx) := by
    funext a
    match a with
    | ⟨0, _⟩ => exact Fin.ext ((win0_2.rect_emb_val (pt s) (ix3 ⟨s.val % 2, by omega⟩ j l) 0).trans (by
        rw [(index0 (pt s)).2.2]; show s.val / 2 * 2 + s.val % 2 = s.val; omega))
    | ⟨1, _⟩ => exact Fin.ext ((win0_2.rect_emb_val (pt s) (ix3 ⟨s.val % 2, by omega⟩ j l) 1).trans (by rw [(index0 (pt s)).2.2]; simp))
    | ⟨2, _⟩ => exact Fin.ext ((win0_2.rect_emb_val (pt s) (ix3 ⟨s.val % 2, by omega⟩ j l) 2).trans (by rw [(index0 (pt s)).2.2]; simp))
  have h2 := (congrArg ((dats m 0 c).arrAt 2 cfg0.N) e).symm.trans h1
  refine h2.trans ?_
  show k0_pay1 (F := Ideal) (iblk m c 0 (pt s)) (iblk m c 1 (pt s)) (ix3 ⟨s.val % 2, by omega⟩ j l) = _
  rw [block_apply, ref_apply]
  refine Finset.sum_congr rfl fun k _ => ?_
  rw [blk_d m c (pt s) ⟨s.val % 2 * 576 + j.val, by omega⟩ k (by show s.val / 2 * 1152 + (s.val % 2 * 576 + j.val) < 4608; omega), blk_n]
  rw [show (⟨(pt s).val * 1152 + (s.val % 2 * 576 + j.val), _⟩ : Fin 4608) = ⟨s.val * 576 + j.val, by omega⟩ from
    Fin.ext (by show s.val / 2 * 1152 + (s.val % 2 * 576 + j.val) = s.val * 576 + j.val; omega)]

/-- The kernel's array is the reference's. -/
theorem result : (dats m 0 c).arrAt 2 cfg0.N = val_main_v17 (F := Ideal) (aX m c) (aG m c) (aD m c) := by
  funext (i : S8x576x1024.Idx)
  rw [eq_ix3 i]
  exact result_apply m c (i 0) (i 1) (i 2)

end Cert.WgradIn1

end
-- ==== Proof.NormCore.lean ====
/- The gradient of a root-mean-square norm along one row: the closed form a kernel computes and the form the chain rule
   through the mean, the reciprocal root and the square gives. They agree where the row and the cotangent are reals. -/
module

public import proofs.«01_k».proof.Proof.Core
public import Idealize.ShloMosaic.PureOps.Ideal.Laws

@[expose] public section

noncomputable section

namespace Cert.NormGrad

open Idealize.ShloMosaic

/-- The row's width, the norm's epsilon and minus a half, as the programs spell them. -/
abbrev wide : EReal := Ideal.ofBits .f32 0x44800000#32
abbrev tiny : EReal := Ideal.ofBits .f32 0x358637BD#32
abbrev minusHalf : EReal := Ideal.ofBits .f32 0xBF000000#32

/-- The mean square of a row plus epsilon. -/
def meanSq (H : Fin 1024 → EReal) : EReal := Ideal.div (∑ k, H k * H k) wide + tiny

/-- The closed form: with `r` the reciprocal root, `D + r Y - H r³ mean (Y H)`. -/
def closedForm (H Y : Fin 1024 → EReal) (D : EReal) (k : Fin 1024) : EReal :=
  D + Ideal.rsqrt (meanSq H) * Y k
    - H k * (Ideal.rsqrt (meanSq H) * Ideal.rsqrt (meanSq H) * Ideal.rsqrt (meanSq H) * Ideal.div (∑ x, Y x * H x) wide)

/-- The mean square's cotangent, spread over the row. -/
def spread (H Y : Fin 1024 → EReal) : EReal :=
  Ideal.div ((∑ x, H x * Y x) * (minusHalf * Ideal.div (Ideal.rsqrt (meanSq H)) (meanSq H))) wide

/-- The chain rule's form: the mean square's cotangent enters once for each factor of the square. -/
def chainForm (H Y : Fin 1024 → EReal) (D : EReal) (k : Fin 1024) : EReal :=
  D + Y k * Ideal.rsqrt (meanSq H) + H k * spread H Y + spread H Y * H k

theorem wide_value : wide = ((1024 : ℝ) : EReal) := by
  simp [wide, Ideal.ofBits, Ideal.ieee, -EReal.coe_mul]; norm_num
theorem minusHalf_value : minusHalf = ((-(1 / 2) : ℝ) : EReal) := by
  simp [minusHalf, Ideal.ofBits, Ideal.ieee, -EReal.coe_mul]; norm_num
theorem tiny_value : ∃ e : ℝ, 0 < e ∧ tiny = (e : EReal) := by
  refine ⟨8796093 / 8796093022208, by norm_num, ?_⟩
  simp [tiny, Ideal.ofBits, Ideal.ieee, -EReal.coe_mul]; norm_num

/-- On reals the mean square plus epsilon is a positive real. -/
theorem meanSq_real (h : Fin 1024 → ℝ) : ∃ s : ℝ, 0 < s ∧ meanSq (fun k => (h k : EReal)) = (s : EReal) := by
  obtain ⟨e, he, hv⟩ := tiny_value
  refine ⟨(∑ k, h k * h k) * (1 / 1024) + e, ?_, ?_⟩
  · have : 0 ≤ ∑ k, h k * h k := Finset.sum_nonneg fun k _ => mul_self_nonneg _
    positivity
  · simp only [meanSq, ← EReal.coe_mul, AttnBwd.sum_coe, wide_value, hv, Ideal.div_coe (show (1024 : ℝ) ≠ 0 by norm_num), ← EReal.coe_add]

/-- The reciprocal root of a positive real. -/
theorem rsqrt_pos {s : ℝ} (hs : 0 < s) : Ideal.rsqrt (s : EReal) = (((Real.sqrt s)⁻¹ : ℝ) : EReal) := by
  rw [Ideal.rsqrt_coe, if_neg (not_lt.mpr hs.le), if_neg hs.ne']

/-- The two forms' last summands on a real row whose mean square is `s`: `S` is the sum of cotangent times input. -/
theorem last_summand (a s : ℝ) (hs : 0 < s) (S : EReal) :
    -((a : EReal) * ((((Real.sqrt s)⁻¹ : ℝ) : EReal) * (((Real.sqrt s)⁻¹ : ℝ) : EReal) * (((Real.sqrt s)⁻¹ : ℝ) : EReal) * (S * ((1 / 1024 : ℝ) : EReal))))
      = (a : EReal) * (S * (((-(1 / 2) : ℝ) : EReal) * ((((Real.sqrt s)⁻¹ : ℝ) : EReal) * ((1 / s : ℝ) : EReal))) * ((1 / 1024 : ℝ) : EReal))
        + S * (((-(1 / 2) : ℝ) : EReal) * ((((Real.sqrt s)⁻¹ : ℝ) : EReal) * ((1 / s : ℝ) : EReal))) * ((1 / 1024 : ℝ) : EReal) * (a : EReal) := by
  have hp : 0 < (Real.sqrt s)⁻¹ := inv_pos.mpr (Real.sqrt_pos.mpr hs)
  have hr : (Real.sqrt s)⁻¹ * (Real.sqrt s)⁻¹ = 1 / s := by
    rw [← mul_inv, Real.mul_self_sqrt hs.le, one_div]
  generalize (Real.sqrt s)⁻¹ = r at hp hr ⊢
  have h3 : 0 < r * r * r := by positivity
  have hq : 0 < 1 / s := by positivity
  have hn : -(1 / 2) * (r * (1 / s)) < 0 := by
    have := mul_pos hp hq
    linarith
  have hk : (0 : ℝ) < 1 / 1024 := by norm_num
  simp only [← EReal.coe_mul]
  induction S using EReal.rec with
  | coe S =>
      simp only [← EReal.coe_mul, ← EReal.coe_neg, ← EReal.coe_add]
      congr 1
      rw [hr]
      ring
  | top =>
      rw [EReal.top_mul_coe_of_pos hk, EReal.coe_mul_top_of_pos h3, EReal.top_mul_coe_of_neg hn, EReal.bot_mul_coe_of_pos hk]
      rcases lt_trichotomy a 0 with h | h | h
      · rw [EReal.coe_mul_top_of_neg h, EReal.coe_mul_bot_of_neg h, EReal.bot_mul_coe_of_neg h]; rfl
      · subst h; simp
      · rw [EReal.coe_mul_top_of_pos h, EReal.coe_mul_bot_of_pos h, EReal.bot_mul_coe_of_pos h]; rfl
  | bot =>
      rw [EReal.bot_mul_coe_of_pos hk, EReal.coe_mul_bot_of_pos h3, EReal.bot_mul_coe_of_neg hn, EReal.top_mul_coe_of_pos hk]
      rcases lt_trichotomy a 0 with h | h | h
      · rw [EReal.coe_mul_top_of_neg h, EReal.coe_mul_bot_of_neg h, EReal.top_mul_coe_of_neg h]; rfl
      · subst h; simp
      · rw [EReal.coe_mul_top_of_pos h, EReal.coe_mul_bot_of_pos h, EReal.top_mul_coe_of_pos h]; rfl

/-- A square is not negative. -/
theorem square_nonneg (x : EReal) : 0 ≤ x * x := by
  induction x using EReal.rec with
  | coe r => rw [← EReal.coe_mul]; exact_mod_cast mul_self_nonneg r
  | top => simp
  | bot => simp

/-- The mean square of a row with an infinite entry is infinite. -/
theorem meanSq_top (H : Fin 1024 → EReal) (j : Fin 1024) (hj : H j * H j = ⊤) : meanSq H = ⊤ := by
  obtain ⟨e, -, hv⟩ := tiny_value
  have hs : ∑ k, H k * H k = ⊤ :=
    top_le_iff.mp (hj ▸ Finset.single_le_sum (f := fun k => H k * H k) (fun k _ => square_nonneg (H k)) (Finset.mem_univ j))
  rw [meanSq, hs, wide_value, Ideal.div_coe (show (1024 : ℝ) ≠ 0 by norm_num), EReal.top_mul_coe_of_pos (by norm_num), hv, EReal.top_add_coe]

/-- The two forms agree, whatever the numbers are. -/
theorem closed_eq_chain (H Y : Fin 1024 → EReal) (D : EReal) (k : Fin 1024) : closedForm H Y D k = chainForm H Y D k := by
  by_cases hr : ∀ k, ∃ r : ℝ, H k = (r : EReal)
  · choose h eh using hr
    have e0 : H = fun k => (h k : EReal) := funext eh
    obtain ⟨s, hs, e⟩ := meanSq_real h
    have hc : ∑ x, Y x * H x = ∑ x, H x * Y x := Finset.sum_congr rfl fun x _ => mul_comm _ _
    unfold closedForm chainForm spread
    rw [hc]
    generalize ∑ x, H x * Y x = S
    rw [e0, e, rsqrt_pos hs, wide_value, minusHalf_value]
    simp only [Ideal.div_coe (show (1024 : ℝ) ≠ 0 by norm_num), Ideal.div_coe hs.ne']
    rw [sub_eq_add_neg, add_assoc _ (_ * _) (_ * _), last_summand (h k) s hs S, mul_comm (Y k)]
  · have ⟨j, hj⟩ := not_forall.mp hr
    have ht : meanSq H = ⊤ := meanSq_top H j (by
      generalize H j = x at hj
      induction x using EReal.rec with
      | coe r => exact absurd ⟨r, rfl⟩ hj
      | top => simp
      | bot => simp)
    have hz : Ideal.div 0 ⊤ = 0 := by simp [Ideal.div]
    have hw : Ideal.div 0 wide = 0 := by rw [wide_value, Ideal.div_coe (show (1024 : ℝ) ≠ 0 by norm_num), zero_mul]
    simp [closedForm, chainForm, spread, ht, hz, hw]

end Cert.NormGrad

end
-- ==== Proof.Cols.lean ====
/- A two-dimensional buffer that stores filled one band of columns after another, read back as one function of its index. -/
module

public import Idealize.ShloMosaic.Lib.Pointwise
public import Idealize.ShloMosaic.Lib.Pipeline.FrameBody
public import Idealize.ShloMosaic.Lib.Pipeline.Value

@[expose] public section

noncomputable section

namespace Cert.Cols

open Idealize.ShloMosaic

variable {a n : ℕ}

/-- The stores `L` write `G` where they write, and cover the columns below `b`. -/
def Fills (G : Shape.Idx ⟨2, ![a, n]⟩ → EReal) (L : List (View.Piece (Elt Ideal) ⟨2, ![a, n]⟩ .bf16)) (b : ℕ) : Prop :=
  (∀ p ∈ L, ∀ x : p.1.shape.Idx, p.2 x = G (p.1.emb x)) ∧ ∀ y : Shape.Idx ⟨2, ![a, n]⟩, (y 1).val < b → ∃ p ∈ L, y ∈ p.1.set

/-- No store covers no column. -/
theorem Fills.nil (G : Shape.Idx ⟨2, ![a, n]⟩ → EReal) : Fills G [] 0 :=
  ⟨fun _ h => absurd h (List.not_mem_nil), fun _ h => absurd h (Nat.not_lt_zero _)⟩

/-- One more band of columns, at the column where the earlier stores end. -/
theorem Fills.cons {G : Shape.Idx ⟨2, ![a, n]⟩ → EReal} {L : List (View.Piece (Elt Ideal) ⟨2, ![a, n]⟩ .bf16)} {o w : ℕ}
    (inb : ∀ k, (![0, o] : Fin 2 → ℕ) k + (![a, w] : Fin 2 → ℕ) k ≤ (⟨2, ![a, n]⟩ : Shape).size k)
    {P : Shape.Idx ⟨2, ![a, w]⟩ → EReal} (hL : Fills G L o)
    (h : ∀ (x : Fin a) (l : Fin w) (hl : o + l.val < n), P (ix2 x l) = G (ix2 x ⟨o + l.val, hl⟩)) :
    Fills G (⟨Rect.unit ![0, o] ![a, w] inb, P⟩ :: L) (o + w) := by
  refine ⟨fun p hp => ?_, fun y hy => ?_⟩
  · rcases List.mem_cons.1 hp with rfl | hp
    · intro (x : Shape.Idx ⟨2, ![a, w]⟩)
      have hl : o + (x 1).val < n := Nat.lt_of_lt_of_le (Nat.add_lt_add_left (x 1).isLt o) (inb 1)
      refine (congrArg P (eq_ix2 x)).trans ((h (x 0) (x 1) hl).trans (congrArg G ?_))
      funext k
      match k with
      | ⟨0, _⟩ => exact Fin.ext (by show (x 0).val = 0 + 1 * (x 0).val; omega)
      | ⟨1, _⟩ => exact Fin.ext (by show o + (x 1).val = o + 1 * (x 1).val; omega)
    · exact hL.1 p hp
  · by_cases ho : (y 1).val < o
    · obtain ⟨p, hp, hm⟩ := hL.2 y ho
      exact ⟨p, List.mem_cons_of_mem _ hp, hm⟩
    · refine ⟨_, List.mem_cons_self, ?_⟩
      rw [Rect.mem_set_unit]
      intro k
      match k with
      | ⟨0, _⟩ => exact ⟨Nat.zero_le _, by show (y 0).val < 0 + a; have : (y 0).val < a := (y 0).isLt; omega⟩
      | ⟨1, _⟩ => exact ⟨Nat.le_of_not_lt ho, hy⟩

/-- What the stores leave, once they cover every column. -/
theorem Fills.canon {G : Shape.Idx ⟨2, ![a, n]⟩ → EReal} {L : List (View.Piece (Elt Ideal) ⟨2, ![a, n]⟩ .bf16)} (h : Fills G L n) :
    View.canon L = G :=
  funext fun y => View.canon_apply_of_pieces G L h.1 y (h.2 y (y 1).isLt)

/-- A load of the whole buffer after the stores. -/
theorem Fills.read {κ : Kind} {sg : RefSig} {sp : Space} {G : Shape.Idx ⟨2, ![a, n]⟩ → EReal} {L : List (View.Piece (Elt Ideal) ⟨2, ![a, n]⟩ .bf16)} (h : Fills G L n)
    (v : View sg κ sp ⟨2, ![a, n]⟩ .bf16) (inb : ∀ k, (![0, 0] : Fin 2 → ℕ) k + (![a, n] : Fin 2 → ℕ) k ≤ (⟨2, ![a, n]⟩ : Shape).size k) :
    v.readCov L (Rect.unit ![0, 0] ![a, n] inb).toLoadRect = G := by
  refine (View.readCov_eq_canon_ld v L _ fun y => h.2 y (y 1).isLt).trans ?_
  rw [h.canon]
  exact View.ld_unit_zero (by funext k; match k with | ⟨0, _⟩ => rfl | ⟨1, _⟩ => rfl) _ _

end Cert.Cols

end
-- ==== Proof.NormConv.lean ====
/- What one grid point of the norm's gradient (the convolution layer's) computes: its blocks, the assembled cotangent, the
   joined weights and its outputs. -/
module

public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.NormCore
public import proofs.«01_k».proof.Proof.Cols
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormConv

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The arguments: the layer's input, the norm's gain, the weights, the residual's cotangent, the projection's cotangent. -/
abbrev aH : S2048x1024.Idx → EReal := m ((c : Thread nD τ).loc main_arg0)
abbrev aG : S1x1024.Idx → EReal := m ((c : Thread nD τ).loc main_arg1)
abbrev aW : S1024x4608.Idx → EReal := m ((c : Thread nD τ).loc main_arg2)
abbrev aR : S2048x1024.Idx → EReal := m ((c : Thread nD τ).loc main_arg3)
abbrev aD : S2048x4608.Idx → EReal := m ((c : Thread nD τ).loc main_arg4)

theorem points : cfg0.N = 8 := by decide

theorem row_lt (t : Fin cfg0.N) (x : Fin 256) : t.val * 256 + x.val < 2048 := by
  have h : t.val < 8 := lt_of_lt_of_eq t.isLt points
  omega

/-- The sequence's position at a grid point's row. -/
abbrev row (t : Fin cfg0.N) (x : Fin 256) : Fin 2048 := ⟨t.val * 256 + x.val, row_lt t x⟩

/-- Which block each window takes at a grid point. -/
theorem index0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_6.index t = ![t.val, 0] ∧ win0_8.index t = ![t.val, 0] ∧ win0_9.index t = ![t.val, 0] ∧ win0_11.index t = ![t.val, 0] ∧ win0_5.index t = ![0, 0, 0] ∧ win0_7.index t = ![0, 0] ∧ win0_10.index t = ![0, 0] ∧ win0_12.index t = ![0, t.val] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_6.index t = ![t.val, 0] ∧ win0_8.index t = ![t.val, 0] ∧ win0_9.index t = ![t.val, 0] ∧ win0_11.index t = ![t.val, 0] ∧ win0_5.index t = ![0, 0, 0] ∧ win0_7.index t = ![0, 0] ∧ win0_10.index t = ![0, 0] ∧ win0_12.index t = ![0, t.val])

theorem emb0 (t : Fin cfg0.N) (x : Fin 256) (l : Fin 1024) : (win0_0.rect t).emb (ix2 x l) = (ix2 (row t x) l : S2048x1024.Idx) := by
  funext a
  match a with
  | ⟨0, _⟩ => exact Fin.ext ((win0_0.rect_emb_val t (ix2 x l) 0).trans (by rw [(index0 t).1]; rfl))
  | ⟨1, _⟩ => exact Fin.ext ((win0_0.rect_emb_val t (ix2 x l) 1).trans (by rw [(index0 t).1]; simp))

theorem emb1 (t : Fin cfg0.N) (x : Fin 256) (l : Fin 1024) : (win0_1.rect t).emb (ix2 x l) = (ix2 (row t x) l : S2048x1024.Idx) := by
  funext a
  match a with
  | ⟨0, _⟩ => exact Fin.ext ((win0_1.rect_emb_val t (ix2 x l) 0).trans (by rw [(index0 t).2.1]; rfl))
  | ⟨1, _⟩ => exact Fin.ext ((win0_1.rect_emb_val t (ix2 x l) 1).trans (by rw [(index0 t).2.1]; simp))

theorem emb2 (t : Fin cfg0.N) (x : Fin 256) (l : Fin 1024) : (win0_2.rect t).emb (ix2 x l) = (ix2 (row t x) l : S2048x1024.Idx) := by
  funext a
  match a with
  | ⟨0, _⟩ => exact Fin.ext ((win0_2.rect_emb_val t (ix2 x l) 0).trans (by rw [(index0 t).2.2.1]; rfl))
  | ⟨1, _⟩ => exact Fin.ext ((win0_2.rect_emb_val t (ix2 x l) 1).trans (by rw [(index0 t).2.2.1]; simp))

theorem emb3 (t : Fin cfg0.N) (x : Fin 256) (l : Fin 256) : (win0_3.rect t).emb (ix2 x l) = (ix2 (row t x) l : S2048x256.Idx) := by
  funext a
  match a with
  | ⟨0, _⟩ => exact Fin.ext ((win0_3.rect_emb_val t (ix2 x l) 0).trans (by rw [(index0 t).2.2.2.1]; rfl))
  | ⟨1, _⟩ => exact Fin.ext ((win0_3.rect_emb_val t (ix2 x l) 1).trans (by rw [(index0 t).2.2.2.1]; simp))

theorem emb4 (t : Fin cfg0.N) (x : Fin 256) (l : Fin 1280) : (win0_4.rect t).emb (ix2 x l) = (ix2 (row t x) l : S2048x1280.Idx) := by
  funext a
  match a with
  | ⟨0, _⟩ => exact Fin.ext ((win0_4.rect_emb_val t (ix2 x l) 0).trans (by rw [(index0 t).2.2.2.2.1]; rfl))
  | ⟨1, _⟩ => exact Fin.ext ((win0_4.rect_emb_val t (ix2 x l) 1).trans (by rw [(index0 t).2.2.2.2.1]; simp))

theorem emb6 (t : Fin cfg0.N) (x : Fin 256) (l : Fin 1024) : (win0_6.rect t).emb (ix2 x l) = (ix2 (row t x) l : S2048x1024.Idx) := by
  funext a
  match a with
  | ⟨0, _⟩ => exact Fin.ext ((win0_6.rect_emb_val t (ix2 x l) 0).trans (by rw [(index0 t).2.2.2.2.2.1]; rfl))
  | ⟨1, _⟩ => exact Fin.ext ((win0_6.rect_emb_val t (ix2 x l) 1).trans (by rw [(index0 t).2.2.2.2.2.1]; simp))

theorem emb8 (t : Fin cfg0.N) (x : Fin 256) (l : Fin 1024) : (win0_8.rect t).emb (ix2 x l) = (ix2 (row t x) l : S2048x1024.Idx) := by
  funext a
  match a with
  | ⟨0, _⟩ => exact Fin.ext ((win0_8.rect_emb_val t (ix2 x l) 0).trans (by rw [(index0 t).2.2.2.2.2.2.1]; rfl))
  | ⟨1, _⟩ => exact Fin.ext ((win0_8.rect_emb_val t (ix2 x l) 1).trans (by rw [(index0 t).2.2.2.2.2.2.1]; simp))

theorem emb9 (t : Fin cfg0.N) (x : Fin 256) (l : Fin 1024) : (win0_9.rect t).emb (ix2 x l) = (ix2 (row t x) l : S2048x1024.Idx) := by
  funext a
  match a with
  | ⟨0, _⟩ => exact Fin.ext ((win0_9.rect_emb_val t (ix2 x l) 0).trans (by rw [(index0 t).2.2.2.2.2.2.2.1]; rfl))
  | ⟨1, _⟩ => exact Fin.ext ((win0_9.rect_emb_val t (ix2 x l) 1).trans (by rw [(index0 t).2.2.2.2.2.2.2.1]; simp))

theorem emb11 (t : Fin cfg0.N) (x : Fin 256) (l : Fin 1024) : (win0_11.rect t).emb (ix2 x l) = (ix2 (row t x) l : S2048x1024.Idx) := by
  funext a
  match a with
  | ⟨0, _⟩ => exact Fin.ext ((win0_11.rect_emb_val t (ix2 x l) 0).trans (by rw [(index0 t).2.2.2.2.2.2.2.2.1]; rfl))
  | ⟨1, _⟩ => exact Fin.ext ((win0_11.rect_emb_val t (ix2 x l) 1).trans (by rw [(index0 t).2.2.2.2.2.2.2.2.1]; simp))

theorem emb5 (t : Fin cfg0.N) (s : Fin 8) (k : Fin 1024) (j : Fin 576) : (win0_5.rect t).emb (ix3 s k j) = (ix3 s k j : S8x1024x576.Idx) := by
  funext a
  match a with
  | ⟨0, _⟩ => exact Fin.ext ((win0_5.rect_emb_val t (ix3 s k j) 0).trans (by rw [(index0 t).2.2.2.2.2.2.2.2.2.1]; simp))
  | ⟨1, _⟩ => exact Fin.ext ((win0_5.rect_emb_val t (ix3 s k j) 1).trans (by rw [(index0 t).2.2.2.2.2.2.2.2.2.1]; simp))
  | ⟨2, _⟩ => exact Fin.ext ((win0_5.rect_emb_val t (ix3 s k j) 2).trans (by rw [(index0 t).2.2.2.2.2.2.2.2.2.1]; simp))

theorem emb7 (t : Fin cfg0.N) (l : Fin 1024) : (win0_7.rect t).emb (ix2 0 l) = (ix2 0 l : S1x1024.Idx) := by
  funext a
  match a with
  | ⟨0, _⟩ => exact Fin.ext ((win0_7.rect_emb_val t (ix2 0 l) 0).trans (by rw [(index0 t).2.2.2.2.2.2.2.2.2.2.1]; simp))
  | ⟨1, _⟩ => exact Fin.ext ((win0_7.rect_emb_val t (ix2 0 l) 1).trans (by rw [(index0 t).2.2.2.2.2.2.2.2.2.2.1]; simp))

theorem emb10 (t : Fin cfg0.N) (l : Fin 1024) : (win0_10.rect t).emb (ix2 0 l) = (ix2 0 l : S1x1024.Idx) := by
  funext a
  match a with
  | ⟨0, _⟩ => exact Fin.ext ((win0_10.rect_emb_val t (ix2 0 l) 0).trans (by rw [(index0 t).2.2.2.2.2.2.2.2.2.2.2.1]; simp))
  | ⟨1, _⟩ => exact Fin.ext ((win0_10.rect_emb_val t (ix2 0 l) 1).trans (by rw [(index0 t).2.2.2.2.2.2.2.2.2.2.2.1]; simp))

theorem emb12 (t : Fin cfg0.N) (l : Fin 4608) (x : Fin 256) : (win0_12.rect t).emb (ix2 l x) = (ix2 l (row t x) : S4608x2048.Idx) := by
  funext a
  match a with
  | ⟨0, _⟩ => exact Fin.ext ((win0_12.rect_emb_val t (ix2 l x) 0).trans (by rw [(index0 t).2.2.2.2.2.2.2.2.2.2.2.2]; simp))
  | ⟨1, _⟩ => exact Fin.ext ((win0_12.rect_emb_val t (ix2 l x) 1).trans (by rw [(index0 t).2.2.2.2.2.2.2.2.2.2.2.2]; rfl))

theorem V0 : V m c main_v1 = truncf (F := Ideal) .bf16 (extractStridedSlice S2048x1024 ![0, 0] (aD m c) slices_S2048x4608_S2048x1024_0_0) bitsLt_bf16_f32 := by
  unfold_abbrev_sides
  after_reads_simp

/-- A piece's block: the point's rows, the columns from 0. -/
theorem blk0 (t : Fin cfg0.N) (x : Fin 256) (l : Fin 1024) (hl : 0 + l.val < 4608) :
    iblk m c 0 t (ix2 x l) = aD m c (ix2 (row t x) ⟨0 + l.val, hl⟩) := by
  refine (congrArg (V m c main_v1) (emb0 t x l)).trans ?_
  rw [V0]
  pointwise

theorem V1 : V m c main_v3 = truncf (F := Ideal) .bf16 (extractStridedSlice S2048x1024 ![0, 1024] (aD m c) slices_S2048x4608_S2048x1024_0_1024) bitsLt_bf16_f32 := by
  unfold_abbrev_sides
  after_reads_simp

/-- A piece's block: the point's rows, the columns from 1024. -/
theorem blk1 (t : Fin cfg0.N) (x : Fin 256) (l : Fin 1024) (hl : 1024 + l.val < 4608) :
    iblk m c 1 t (ix2 x l) = aD m c (ix2 (row t x) ⟨1024 + l.val, hl⟩) := by
  refine (congrArg (V m c main_v3) (emb1 t x l)).trans ?_
  rw [V1]
  pointwise

theorem V2 : V m c main_v5 = truncf (F := Ideal) .bf16 (extractStridedSlice S2048x1024 ![0, 2048] (aD m c) slices_S2048x4608_S2048x1024_0_2048) bitsLt_bf16_f32 := by
  unfold_abbrev_sides
  after_reads_simp

/-- A piece's block: the point's rows, the columns from 2048. -/
theorem blk2 (t : Fin cfg0.N) (x : Fin 256) (l : Fin 1024) (hl : 2048 + l.val < 4608) :
    iblk m c 2 t (ix2 x l) = aD m c (ix2 (row t x) ⟨2048 + l.val, hl⟩) := by
  refine (congrArg (V m c main_v5) (emb2 t x l)).trans ?_
  rw [V2]
  pointwise

theorem V3 : V m c main_v7 = truncf (F := Ideal) .bf16 (extractStridedSlice S2048x256 ![0, 3072] (aD m c) slices_S2048x4608_S2048x256_0_3072) bitsLt_bf16_f32 := by
  unfold_abbrev_sides
  after_reads_simp

/-- A piece's block: the point's rows, the columns from 3072. -/
theorem blk3 (t : Fin cfg0.N) (x : Fin 256) (l : Fin 256) (hl : 3072 + l.val < 4608) :
    iblk m c 3 t (ix2 x l) = aD m c (ix2 (row t x) ⟨3072 + l.val, hl⟩) := by
  refine (congrArg (V m c main_v7) (emb3 t x l)).trans ?_
  rw [V3]
  pointwise

theorem V4 : V m c main_v9 = truncf (F := Ideal) .bf16 (extractStridedSlice S2048x1280 ![0, 3328] (aD m c) slices_S2048x4608_S2048x1280_0_3328) bitsLt_bf16_f32 := by
  unfold_abbrev_sides
  after_reads_simp

/-- A piece's block: the point's rows, the columns from 3328. -/
theorem blk4 (t : Fin cfg0.N) (x : Fin 256) (l : Fin 1280) (hl : 3328 + l.val < 4608) :
    iblk m c 4 t (ix2 x l) = aD m c (ix2 (row t x) ⟨3328 + l.val, hl⟩) := by
  refine (congrArg (V m c main_v9) (emb4 t x l)).trans ?_
  rw [V4]
  pointwise

theorem V5 : V m c main_v12 = truncf (F := Ideal) .bf16 (transpose S8x1024x576 [1, 0, 2] (shapeCast S1024x8x576 (aW m c) shapeCasts_S1024x4608_S1024x8x576) transposes_S1024x8x576_S8x1024x576_1_0_2) bitsLt_bf16_f32 := by
  unfold_abbrev_sides
  after_reads_simp
  rfl

/-- The weights' block: the devices' shares of the columns. -/
theorem blk5 (t : Fin cfg0.N) (s : Fin 8) (k : Fin 1024) (j : Fin 576) (h : s.val * 576 + j.val < 4608) :
    iblk m c 5 t (ix3 s k j) = aW m c (ix2 k ⟨s.val * 576 + j.val, h⟩) := by
  refine (congrArg (V m c main_v12) (emb5 t s k j)).trans ?_
  rw [V5]
  pointwise

theorem blk6 (t : Fin cfg0.N) (x : Fin 256) (l : Fin 1024) : iblk m c 6 t (ix2 x l) = aH m c (ix2 (row t x) l) :=
  (congrArg (V m c main_arg0) (emb6 t x l)).trans (by rw [V_main_arg0])

theorem blk7 (t : Fin cfg0.N) (l : Fin 1024) : iblk m c 7 t (ix2 0 l) = aG m c (ix2 0 l) :=
  (congrArg (V m c main_arg1) (emb7 t l)).trans (by rw [V_main_arg1])

theorem blk8 (t : Fin cfg0.N) (x : Fin 256) (l : Fin 1024) : iblk m c 8 t (ix2 x l) = aR m c (ix2 (row t x) l) :=
  (congrArg (V m c main_arg3) (emb8 t x l)).trans (by rw [V_main_arg3])

/-- The assembled cotangent of a grid point: the point's rows. -/
def rowsD (t : Fin cfg0.N) : S256x4608.Idx → EReal := fun i => aD m c (ix2 (row t (i 0)) (i 1))

/-- What a grid point leaves of the input's gradient, over the assembled cotangent and the joined weights. -/
abbrev dhBlock (t : Fin cfg0.N) : FVec Ideal S256x1024 .f32 :=
  k0_pay1 (iblk m c 6 t) (k0_pay24 (rowsD m c t) (aW m c) (iblk m c 6 t) (iblk m c 7 t) (iblk m c 8 t)) (k0_pay25 (iblk m c 6 t))
    (k0_pay26 (rowsD m c t) (aW m c) (iblk m c 6 t) (iblk m c 7 t))

/-- The five stores that assemble the cotangent. -/
theorem fills_rows (t : Fin cfg0.N) : Cols.Fills (rowsD m c t)
    [⟨Rect.unit ![0, 3328] ![256, 1280] inb_S256x4608_S256x1280_0_3328, k0_pay19 (F := Ideal) (k0_pay18 (F := Ideal) (iblk m c 4 t))⟩,
      ⟨Rect.unit ![0, 3072] ![256, 256] inb_S256x4608_S256x256_0_3072, k0_pay17 (F := Ideal) (iblk m c 3 t)⟩,
      ⟨Rect.unit ![0, 2048] ![256, 1024] inb_S256x4608_S256x1024_0_2048, k0_pay16 (F := Ideal) (iblk m c 2 t)⟩,
      ⟨Rect.unit ![0, 1024] ![256, 1024] inb_S256x4608_S256x1024_0_1024, k0_pay15 (F := Ideal) (iblk m c 1 t)⟩,
      ⟨Rect.unit ![0, 0] ![256, 1024] inb_S256x4608_S256x1024_0_0, k0_pay14 (F := Ideal) (iblk m c 0 t)⟩] 4608 := by
  refine Cols.Fills.cons _ (Cols.Fills.cons _ (Cols.Fills.cons _ (Cols.Fills.cons _ (Cols.Fills.cons _ (Cols.Fills.nil _) ?_) ?_) ?_) ?_) ?_
  · intro x l hl; refine Eq.trans ?_ (blk0 m c t x l hl); pointwise [k0_pay14]
  · intro x l hl; refine Eq.trans ?_ (blk1 m c t x l hl); pointwise [k0_pay15]
  · intro x l hl; refine Eq.trans ?_ (blk2 m c t x l hl); pointwise [k0_pay16]
  · intro x l hl; refine Eq.trans ?_ (blk3 m c t x l hl); pointwise [k0_pay17]
  · intro x l hl; refine Eq.trans ?_ (blk4 m c t x l hl); pointwise [k0_pay18, k0_pay19]

/-- A share with its leading axis dropped. -/
theorem part (Y : Vec Ideal S1x1024x576 .bf16) (k : Fin 1024) (j : Fin 576) :
    shapeCast S1024x576 Y shapeCasts_S1x1024x576_S1024x576 (ix2 k j) = Y (ix3 0 k j) := by
  pointwise

/-- One share of an array of shares. -/
theorem share (X : Vec Ideal S8x1024x576 .bf16) (s : Fin 8)
    (inb : ∀ a, (![s.val, 0, 0] : Fin 3 → ℕ) a + (![1, 1024, 576] : Fin 3 → ℕ) a ≤ S8x1024x576.size a) (k : Fin 1024) (j : Fin 576) :
    View.ld X (Rect.unit ![s.val, 0, 0] ![1, 1024, 576] inb) (ix3 0 k j) = X (ix3 s k j) := by
  refine congrArg X ?_
  funext a
  match a with
  | ⟨0, _⟩ => exact Fin.ext (by simp)
  | ⟨1, _⟩ => exact Fin.ext (by simp)
  | ⟨2, _⟩ => exact Fin.ext (by simp)

/-- The eight stores that join the weights. -/
theorem fills_joined (t : Fin cfg0.N) : Cols.Fills (aW m c)
    [⟨Rect.unit ![0, 4032] ![1024, 576] inb_S1024x4608_S1024x576_0_4032, k0_pay12 (F := Ideal) (View.ld (iblk m c 5 t) (Rect.unit ![7, 0, 0] ![1, 1024, 576] inb_S8x1024x576_S1x1024x576_7_0_0))⟩,
      ⟨Rect.unit ![0, 3456] ![1024, 576] inb_S1024x4608_S1024x576_0_3456, k0_pay11 (F := Ideal) (View.ld (iblk m c 5 t) (Rect.unit ![6, 0, 0] ![1, 1024, 576] inb_S8x1024x576_S1x1024x576_6_0_0))⟩,
      ⟨Rect.unit ![0, 2880] ![1024, 576] inb_S1024x4608_S1024x576_0_2880, k0_pay10 (F := Ideal) (shapeCast S1024x576 (View.ld (iblk m c 5 t) (Rect.unit ![5, 0, 0] ![1, 1024, 576] inb_S8x1024x576_S1x1024x576_5_0_0)) shapeCasts_S1x1024x576_S1024x576)⟩,
      ⟨Rect.unit ![0, 2304] ![1024, 576] inb_S1024x4608_S1024x576_0_2304, shapeCast S1024x576 (shapeCast S1024x576 (View.ld (iblk m c 5 t) (Rect.unit ![4, 0, 0] ![1, 1024, 576] inb_S8x1024x576_S1x1024x576_4_0_0)) shapeCasts_S1x1024x576_S1024x576) shapeCasts_S1024x576_S1024x576⟩,
      ⟨Rect.unit ![0, 1728] ![1024, 576] inb_S1024x4608_S1024x576_0_1728, shapeCast S1024x576 (shapeCast S1024x576 (View.ld (iblk m c 5 t) (Rect.unit ![3, 0, 0] ![1, 1024, 576] inb_S8x1024x576_S1x1024x576_3_0_0)) shapeCasts_S1x1024x576_S1024x576) shapeCasts_S1024x576_S1024x576⟩,
      ⟨Rect.unit ![0, 1152] ![1024, 576] inb_S1024x4608_S1024x576_0_1152, shapeCast S1024x576 (shapeCast S1024x576 (View.ld (iblk m c 5 t) (Rect.unit ![2, 0, 0] ![1, 1024, 576] inb_S8x1024x576_S1x1024x576_2_0_0)) shapeCasts_S1x1024x576_S1024x576) shapeCasts_S1024x576_S1024x576⟩,
      ⟨Rect.unit ![0, 576] ![1024, 576] inb_S1024x4608_S1024x576_0_576, shapeCast S1024x576 (shapeCast S1024x576 (View.ld (iblk m c 5 t) (Rect.unit ![1, 0, 0] ![1, 1024, 576] inb_S8x1024x576_S1x1024x576_1_0_0)) shapeCasts_S1x1024x576_S1024x576) shapeCasts_S1024x576_S1024x576⟩,
      ⟨Rect.unit ![0, 0] ![1024, 576] inb_S1024x4608_S1024x576_0_0, shapeCast S1024x576 (shapeCast S1024x576 (View.ld (iblk m c 5 t) (Rect.unit ![0, 0, 0] ![1, 1024, 576] inb_S8x1024x576_S1x1024x576_0_0_0)) shapeCasts_S1x1024x576_S1024x576) shapeCasts_S1024x576_S1024x576⟩] 4608 := by
  refine Cols.Fills.cons _ (Cols.Fills.cons _ (Cols.Fills.cons _ (Cols.Fills.cons _ (Cols.Fills.cons _ (Cols.Fills.cons _ (Cols.Fills.cons _ (Cols.Fills.cons _ (Cols.Fills.nil _) ?_) ?_) ?_) ?_) ?_) ?_) ?_) ?_
  · intro x l hl; refine Eq.trans ?_ ((share (iblk m c 5 t) 0 (by decide) x l).trans (blk5 m c t 0 x l hl)); rw [shapeCast_self]; exact part _ x l
  · intro x l hl; refine Eq.trans ?_ ((share (iblk m c 5 t) 1 (by decide) x l).trans (blk5 m c t 1 x l hl)); rw [shapeCast_self]; exact part _ x l
  · intro x l hl; refine Eq.trans ?_ ((share (iblk m c 5 t) 2 (by decide) x l).trans (blk5 m c t 2 x l hl)); rw [shapeCast_self]; exact part _ x l
  · intro x l hl; refine Eq.trans ?_ ((share (iblk m c 5 t) 3 (by decide) x l).trans (blk5 m c t 3 x l hl)); rw [shapeCast_self]; exact part _ x l
  · intro x l hl; refine Eq.trans ?_ ((share (iblk m c 5 t) 4 (by decide) x l).trans (blk5 m c t 4 x l hl)); rw [shapeCast_self]; exact part _ x l
  · intro x l hl; refine Eq.trans ?_ ((share (iblk m c 5 t) 5 (by decide) x l).trans (blk5 m c t 5 x l hl)); unfold k0_pay10; rw [shapeCast_self]; exact part _ x l
  · intro x l hl; refine Eq.trans ?_ ((share (iblk m c 5 t) 6 (by decide) x l).trans (blk5 m c t 6 x l hl)); unfold k0_pay11; rw [shapeCast_self]; exact part _ x l
  · intro x l hl; refine Eq.trans ?_ ((share (iblk m c 5 t) 7 (by decide) x l).trans (blk5 m c t 7 x l hl)); unfold k0_pay12; rw [shapeCast_self]; exact part _ x l

theorem joined_A (t : Fin cfg0.N) (h : t.val % 8 = 0) : (outsAt0 m c t.val t.isLt).2.2.2.2 = aW m c := by
  rw [outsAt0_A m c t h h]
  dsimp only
  frame_open
  simp (disch := decide) only [↓ View.readCov_skip, ↓ View.readCov_cons_toLoadRect, ↓ View.readCov_fill]
  frame_out
  exact Cols.Fills.canon (fills_joined m c t)

end Cert.NormConv

end
-- ==== Proof.NormConvOut.lean ====
/- What one grid point of the norm's gradient (the convolution layer's) computes: its blocks, the assembled cotangent, the
   joined weights and its outputs. -/
module

public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.NormConv
public import proofs.«01_k».proof.Proof.Cols
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormConv

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The joined weights stay from point to point. -/
theorem joined : ∀ (n : ℕ) (h : n < cfg0.N), (outsAt0 m c n h).2.2.2.2 = aW m c
  | 0, h => joined_A m c ⟨0, h⟩ rfl
  | n + 1, h => by
      have hn : n + 1 < 8 := lt_of_lt_of_eq h points
      have e := outsAt0_B m c ⟨n + 1, h⟩ (by show ¬ ((n + 1) % 8 = 0); omega) (by show ¬ ((n + 1) % 8 = 0); omega)
      dsimp only at e
      rw [e]
      frame_open
      exact joined n _

theorem out9_A (t : Fin cfg0.N) (h : t.val % 8 = 0) : (outsAt0 m c t.val t.isLt).1 = dhBlock m c t := by
  rw [outsAt0_A m c t h h]
  dsimp only
  frame_open
  simp (disch := decide) only [↓ View.readCov_skip, ↓ View.readCov_cons_toLoadRect, ↓ View.readCov_fill]
  frame_out
  rw [Cols.Fills.read (fills_rows m c t)]
  exact congrArg (fun wj => k0_pay1 (iblk m c 6 t) (k0_pay24 (rowsD m c t) wj (iblk m c 6 t) (iblk m c 7 t) (iblk m c 8 t)) (k0_pay25 (iblk m c 6 t)) (k0_pay26 (rowsD m c t) wj (iblk m c 6 t) (iblk m c 7 t))) (Cols.Fills.read (fills_joined m c t) _ _)
theorem out9_B (t : Fin cfg0.N) (h : ¬ t.val % 8 = 0) : (outsAt0 m c t.val t.isLt).1 = dhBlock m c t := by
  rw [outsAt0_B m c t h h]
  dsimp only
  frame_open
  simp (disch := decide) only [↓ View.readCov_skip, ↓ View.readCov_cons_toLoadRect, ↓ View.readCov_fill]
  frame_out
  rw [Cols.Fills.read (fills_rows m c t)]
  rw [show View.read (Elt Ideal) (View.whole cc0_scratch2) _ = aW m c from ((Memref.isWhole_whole _).read_unread _).trans (joined m c _ _)]

/-- What a grid point leaves of the input's gradient. -/
theorem out9 (t : Fin cfg0.N) : (outsAt0 m c t.val t.isLt).1 = dhBlock m c t :=
  if h : t.val % 8 = 0 then out9_A m c t h else out9_B m c t h

theorem out11_A (t : Fin cfg0.N) (h : t.val % 8 = 0) : (outsAt0 m c t.val t.isLt).2.2.1 = k0_pay2 (iblk m c 6 t) (k0_pay24 (rowsD m c t) (aW m c) (iblk m c 6 t) (iblk m c 7 t) (iblk m c 8 t)) (k0_pay25 (iblk m c 6 t)) (k0_pay26 (rowsD m c t) (aW m c) (iblk m c 6 t) (iblk m c 7 t)) := by
  rw [outsAt0_A m c t h h]
  dsimp only
  frame_open
  simp (disch := decide) only [↓ View.readCov_skip, ↓ View.readCov_cons_toLoadRect, ↓ View.readCov_fill]
  frame_out
  rw [Cols.Fills.read (fills_rows m c t)]
  exact congrArg (fun wj => k0_pay2 (iblk m c 6 t) (k0_pay24 (rowsD m c t) wj (iblk m c 6 t) (iblk m c 7 t) (iblk m c 8 t)) (k0_pay25 (iblk m c 6 t)) (k0_pay26 (rowsD m c t) wj (iblk m c 6 t) (iblk m c 7 t))) (Cols.Fills.read (fills_joined m c t) _ _)
theorem out11_B (t : Fin cfg0.N) (h : ¬ t.val % 8 = 0) : (outsAt0 m c t.val t.isLt).2.2.1 = k0_pay2 (iblk m c 6 t) (k0_pay24 (rowsD m c t) (aW m c) (iblk m c 6 t) (iblk m c 7 t) (iblk m c 8 t)) (k0_pay25 (iblk m c 6 t)) (k0_pay26 (rowsD m c t) (aW m c) (iblk m c 6 t) (iblk m c 7 t)) := by
  rw [outsAt0_B m c t h h]
  dsimp only
  frame_open
  simp (disch := decide) only [↓ View.readCov_skip, ↓ View.readCov_cons_toLoadRect, ↓ View.readCov_fill]
  frame_out
  rw [Cols.Fills.read (fills_rows m c t)]
  rw [show View.read (Elt Ideal) (View.whole cc0_scratch2) _ = aW m c from ((Memref.isWhole_whole _).read_unread _).trans (joined m c _ _)]

/-- The same block as the kernel stores it a second time. -/
theorem out11 (t : Fin cfg0.N) : (outsAt0 m c t.val t.isLt).2.2.1 = k0_pay2 (iblk m c 6 t) (k0_pay24 (rowsD m c t) (aW m c) (iblk m c 6 t) (iblk m c 7 t) (iblk m c 8 t)) (k0_pay25 (iblk m c 6 t)) (k0_pay26 (rowsD m c t) (aW m c) (iblk m c 6 t) (iblk m c 7 t)) :=
  if h : t.val % 8 = 0 then out11_A m c t h else out11_B m c t h

theorem out12_A (t : Fin cfg0.N) (h : t.val % 8 = 0) : (outsAt0 m c t.val t.isLt).2.2.2.1 = k0_pay3 (F := Ideal) (rowsD m c t) := by
  rw [outsAt0_A m c t h h]
  dsimp only
  frame_open
  simp (disch := decide) only [↓ View.readCov_skip, ↓ View.readCov_cons_toLoadRect, ↓ View.readCov_fill]
  frame_out
  rw [Cols.Fills.read (fills_rows m c t)]
theorem out12_B (t : Fin cfg0.N) (h : ¬ t.val % 8 = 0) : (outsAt0 m c t.val t.isLt).2.2.2.1 = k0_pay3 (F := Ideal) (rowsD m c t) := by
  rw [outsAt0_B m c t h h]
  dsimp only
  frame_open
  simp (disch := decide) only [↓ View.readCov_skip, ↓ View.readCov_cons_toLoadRect, ↓ View.readCov_fill]
  frame_out
  rw [Cols.Fills.read (fills_rows m c t)]

/-- What a grid point leaves of the cotangent's transpose. -/
theorem out12 (t : Fin cfg0.N) : (outsAt0 m c t.val t.isLt).2.2.2.1 = k0_pay3 (F := Ideal) (rowsD m c t) :=
  if h : t.val % 8 = 0 then out12_A m c t h else out12_B m c t h

/-- The gain's gradient at the first point. -/
theorem gain_A (t : Fin cfg0.N) (h : t.val % 8 = 0) : (outsAt0 m c t.val t.isLt).2.1 = k0_pay22 (rowsD m c t) (aW m c) (iblk m c 6 t) (k0_pay13 (F := Ideal)) := by
  rw [outsAt0_A m c t h h]
  dsimp only
  frame_open
  simp (disch := decide) only [↓ View.readCov_skip, ↓ View.readCov_cons_toLoadRect, ↓ View.readCov_fill]
  frame_out
  rw [Cols.Fills.read (fills_rows m c t)]
  congr 1
  exact Cols.Fills.read (fills_joined m c t) _ _

/-- The gain's gradient at a later point, over what the point before left. -/
theorem gain_B (t : Fin cfg0.N) (h : ¬ t.val % 8 = 0) (h' : t.val - 1 < cfg0.N) :
    (outsAt0 m c t.val t.isLt).2.1 = k0_pay22 (rowsD m c t) (aW m c) (iblk m c 6 t) (outsAt0 m c (t.val - 1) h').2.1 := by
  rw [outsAt0_B m c t h h]
  dsimp only
  frame_open
  simp (disch := decide) only [↓ View.readCov_skip, ↓ View.readCov_cons_toLoadRect, ↓ View.readCov_fill]
  frame_out
  rw [Cols.Fills.read (fills_rows m c t)]
  rw [show View.read (Elt Ideal) (View.whole cc0_scratch2) _ = aW m c from ((Memref.isWhole_whole _).read_unread _).trans (joined m c _ _)]

end Cert.NormConv

end
-- ==== Proof.NormConvForm.lean ====
/- The norm's gradient read entry by entry: what a grid point's arithmetic computes and what the reference's stages compute. -/
module

public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.NormConvOut
public import proofs.«01_k».proof.Proof.Cols
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormConv

open Cert.Kernel4Ideal Cert.Kernel4Ideal.Gen Idealize.ShloMosaic Idealize.ShloMosaic.TcCoe Idealize.SL.Sem

open Cert.NormGrad

/-- A block's cotangent of the normalised input: cotangent times weights. -/
theorem back_at (dp : Vec Ideal S256x4608 .bf16) (wj : Vec Ideal S1024x4608 .bf16) (x : Fin 256) (k : Fin 1024) :
    k0_pay20 dp wj (ix2 x k) = ∑ j : Fin 4608, dp (ix2 x j) * wj (ix2 k j) := by
  unfold k0_pay20
  pointwise

/-- A block of the input's gradient in the kernel's closed form. -/
theorem dh_at (dp : Vec Ideal S256x4608 .bf16) (wj : Vec Ideal S1024x4608 .bf16) (H : Vec Ideal S256x1024 .f32) (G : Vec Ideal S1x1024 .f32)
    (D : Vec Ideal S256x1024 .f32) (x : Fin 256) (k : Fin 1024) :
    k0_pay1 H (k0_pay24 dp wj H G D) (k0_pay25 H) (k0_pay26 dp wj H G) (ix2 x k)
      = closedForm (fun k => H (ix2 x k)) (fun k => (∑ j : Fin 4608, dp (ix2 x j) * wj (ix2 k j)) * G (ix2 0 k)) (D (ix2 x k)) k := by
  unfold closedForm meanSq
  simp only [← back_at dp wj]
  unfold k0_pay1 k0_pay24 k0_pay25 k0_pay26 k0_pay23 k0_pay21
  generalize k0_pay20 dp wj = z
  pointwise

/-- The second copy of the block. -/
theorem dh2_at (dp : Vec Ideal S256x4608 .bf16) (wj : Vec Ideal S1024x4608 .bf16) (H : Vec Ideal S256x1024 .f32) (G : Vec Ideal S1x1024 .f32)
    (D : Vec Ideal S256x1024 .f32) (x : Fin 256) (k : Fin 1024) :
    k0_pay2 H (k0_pay24 dp wj H G D) (k0_pay25 H) (k0_pay26 dp wj H G) (ix2 x k)
      = closedForm (fun k => H (ix2 x k)) (fun k => (∑ j : Fin 4608, dp (ix2 x j) * wj (ix2 k j)) * G (ix2 0 k)) (D (ix2 x k)) k := by
  unfold closedForm meanSq
  simp only [← back_at dp wj]
  unfold k0_pay2 k0_pay1 k0_pay24 k0_pay25 k0_pay26 k0_pay23 k0_pay21
  generalize k0_pay20 dp wj = z
  pointwise

/-- What a block adds to the gain's gradient. -/
theorem gain_at (dp : Vec Ideal S256x4608 .bf16) (wj : Vec Ideal S1024x4608 .bf16) (H : Vec Ideal S256x1024 .f32) (A : Vec Ideal S1x1024 .f32) (k : Fin 1024) :
    k0_pay22 dp wj H A (ix2 0 k)
      = A (ix2 0 k) + ∑ x : Fin 256, (∑ j : Fin 4608, dp (ix2 x j) * wj (ix2 k j)) * (H (ix2 x k) * Ideal.rsqrt (meanSq fun k => H (ix2 x k))) := by
  unfold meanSq
  simp only [← back_at dp wj]
  unfold k0_pay22 k0_pay21
  generalize k0_pay20 dp wj = z
  pointwise

/-- The transposed block. -/
theorem turn_at (dp : Vec Ideal S256x4608 .bf16) (l : Fin 4608) (x : Fin 256) : k0_pay3 dp (ix2 l x) = dp (ix2 x l) := by
  unfold k0_pay3
  pointwise

theorem zero_at (k : Fin 1024) : k0_pay13 (F := Ideal) (ix2 0 k) = 0 := by
  unfold k0_pay13
  pointwise

section Reference

open Cert.Reference4Ideal.Read

variable (h : FVec Ideal S2048x1024 .f32) (g : FVec Ideal S1x1024 .f32) (w : FVec Ideal S1024x4608 .f32) (r : FVec Ideal S2048x1024 .f32)
  (d : FVec Ideal S2048x4608 .f32)

/-- The reference's cotangent of the normalised input. -/
theorem ref_back (x : Fin 2048) (k : Fin 1024) : val_main_v16 (F := Ideal) w d (ix2 x k) = (∑ j : Fin 4608, d (ix2 x j) * w (ix2 k j) : EReal) := by
  unfold val_main_v16
  pointwise

/-- The reference's gradient of the input in the chain rule's form. -/
theorem ref_dh (x : Fin 2048) (k : Fin 1024) :
    val_main_v36 (F := Ideal) h g w r d (ix2 x k)
      = chainForm (fun k => h (ix2 x k)) (fun k => (∑ j : Fin 4608, d (ix2 x j) * w (ix2 k j) : EReal) * g (ix2 0 k)) (r (ix2 x k)) k := by
  unfold chainForm spread meanSq
  simp only [← ref_back w d]
  unfold val_main_v36 val_main_v35 val_main_v34 val_main_v33 val_main_v32 val_main_v31 val_main_v30 val_main_v29 val_main_v28 val_main_v27 val_main_v26 val_main_v25 val_main_v24 val_main_v23 val_main_v22 val_main_v21 val_main_v20
    val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  generalize val_main_v16 (F := Ideal) w d = z
  pointwise
  simp only [Fin.sum_univ_one]

/-- The reference's gradient of the gain. -/
theorem ref_gain (k : Fin 1024) :
    val_main_v19 (F := Ideal) h w d (ix2 0 k)
      = ∑ x : Fin 2048, (∑ j : Fin 4608, d (ix2 x j) * w (ix2 k j) : EReal) * (h (ix2 x k) * Ideal.rsqrt (meanSq fun k => h (ix2 x k))) := by
  unfold meanSq
  simp only [← ref_back w d]
  unfold val_main_v19 val_main_v18 val_main_v17 val_main_v12 val_main_v11 val_main_v7 val_main_v6 val_main_v5 val_main_v4 val_main_v3 val_main_v2 val_main_v1 val_main_v0 val_main_cst val_main_cst_0 val_main_cst_1 val_main_cst_3
  generalize val_main_v16 (F := Ideal) w d = z
  pointwise
  exact Finset.sum_congr rfl fun x _ => mul_comm _ _

end Reference

end Cert.NormConv

end
-- ==== Proof.NormConvResult.lean ====
/- The norm's gradient (the convolution layer's): the arrays the kernel leaves are the reference's. -/
module

public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.NormConvForm
public import proofs.«01_k».proof.Proof.Cols
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormConv

open Cert.Kernel4Ideal Cert.Kernel4Ideal.Gen Idealize.ShloMosaic Idealize.ShloMosaic.TcCoe Idealize.SL.Sem

variable (m : (ℓ : Loc nD τ sig) → Buf (Elt Ideal) ℓ) (c : Dev nD)

open Cert.NormGrad Cert.Reference4Ideal.Read

/-- A row of the layer's input. -/
abbrev hRow (x : Fin 2048) : Fin 1024 → EReal := fun k => aH m c (ix2 x k)

/-- The cotangent of the normalised input: the projection's cotangent times the weights. -/
abbrev back (x : Fin 2048) (k : Fin 1024) : EReal := ∑ j : Fin 4608, aD m c (ix2 x j) * aW m c (ix2 k j)

/-- What a position adds to the gain's gradient. -/
abbrev gainTerm (x : Fin 2048) (k : Fin 1024) : EReal := back m c x k * (aH m c (ix2 x k) * Ideal.rsqrt (meanSq (hRow m c x)))

/-- An entry of a point's block of the input's gradient, in the kernel's closed form. -/
theorem dh_block (t : Fin cfg0.N) (x : Fin 256) (k : Fin 1024) :
    (outsAt0 m c t.val t.isLt).1 (ix2 x k)
      = closedForm (hRow m c (row t x)) (fun k => back m c (row t x) k * aG m c (ix2 0 k)) (aR m c (ix2 (row t x) k)) k := by
  rw [out9]
  refine (dh_at _ _ _ _ _ _ _).trans ?_
  rw [blk8]
  refine congrArg₂ (fun H Y => closedForm H Y _ k) (funext fun l => blk6 m c t x l) (funext fun l => ?_)
  exact congrArg₂ (· * ·) rfl (blk7 m c t l)

/-- The second copy's entry. -/
theorem dh2_block (t : Fin cfg0.N) (x : Fin 256) (k : Fin 1024) :
    (outsAt0 m c t.val t.isLt).2.2.1 (ix2 x k)
      = closedForm (hRow m c (row t x)) (fun k => back m c (row t x) k * aG m c (ix2 0 k)) (aR m c (ix2 (row t x) k)) k := by
  rw [out11]
  refine (dh2_at _ _ _ _ _ _ _).trans ?_
  rw [blk8]
  refine congrArg₂ (fun H Y => closedForm H Y _ k) (funext fun l => blk6 m c t x l) (funext fun l => ?_)
  exact congrArg₂ (· * ·) rfl (blk7 m c t l)

/-- What a point adds to the gain's gradient. -/
theorem gain_step (t : Fin cfg0.N) (A : Vec Ideal S1x1024 .f32) (k : Fin 1024) :
    k0_pay22 (rowsD m c t) (aW m c) (iblk m c 6 t) A (ix2 0 k) = A (ix2 0 k) + ∑ x : Fin 256, gainTerm m c (row t x) k := by
  refine (gain_at _ _ _ _ _).trans (congrArg (A (ix2 0 k) + ·) (Finset.sum_congr rfl fun x _ => ?_))
  refine congrArg₂ (fun (a b : EReal) => back m c (row t x) k * (a * Ideal.rsqrt b)) (blk6 m c t x k) ?_
  exact congrArg meanSq (funext fun l => blk6 m c t x l)

/-- The gain's gradient after a point: the sum over the points so far. -/
theorem gain_sum (k : Fin 1024) : ∀ (n : ℕ) (h : n < cfg0.N),
    (outsAt0 m c n h).2.1 (ix2 0 k) = ∑ t ∈ (Finset.univ : Finset (Fin cfg0.N)).filter (fun t => t.val ≤ n), ∑ x : Fin 256, gainTerm m c (row t x) k
  | 0, h => by
      rw [gain_A m c ⟨0, h⟩ rfl]
      refine (gain_step m c ⟨0, h⟩ _ k).trans ?_
      rw [zero_at, zero_add, show (Finset.univ : Finset (Fin cfg0.N)).filter (fun t => t.val ≤ 0) = {⟨0, h⟩} from by
        ext t
        rw [Finset.mem_filter, Finset.mem_singleton, Fin.ext_iff]
        simp]
      exact (Finset.sum_singleton _ _).symm
  | n + 1, h => by
      have hn : n + 1 < 8 := lt_of_lt_of_eq h points
      rw [gain_B m c ⟨n + 1, h⟩ (by show ¬ ((n + 1) % 8 = 0); omega) (Nat.lt_of_succ_lt h)]
      refine (gain_step m c ⟨n + 1, h⟩ _ k).trans ?_
      have e := gain_sum k n (Nat.lt_of_succ_lt h)
      refine (congrArg (· + _) e).trans ?_
      rw [show (Finset.univ : Finset (Fin cfg0.N)).filter (fun t => t.val ≤ n + 1)
          = insert ⟨n + 1, h⟩ ((Finset.univ : Finset (Fin cfg0.N)).filter (fun t => t.val ≤ n)) from by
        ext t; simp [Fin.ext_iff]; omega]
      rw [Finset.sum_insert (by simp), add_comm]

/-- The positions, point by point. -/
theorem sum_rows (f : Fin 2048 → EReal) : ∑ t : Fin cfg0.N, ∑ x : Fin 256, f (row t x) = ∑ x : Fin 2048, f x := by
  rw [← Fintype.sum_prod_type' fun t x => f (row t x)]
  refine Fintype.sum_equiv (finProdFinEquiv.trans (finCongr (by decide))) _ _ fun p => ?_
  refine congrArg f (Fin.ext ?_)
  show p.1.val * 256 + p.2.val = p.2.val + 256 * p.1.val
  omega

/-- The last grid point. -/
abbrev last : Fin cfg0.N := ⟨7, by decide⟩

theorem flush10 : ∀ t : Fin cfg0.N, (cfg0.win 10).flush t = true ↔ t = last :=
  (by decide +kernel : ∀ t : Fin grid0.N, win0_10.flush t = true ↔ t = ⟨7, by decide⟩)

/-- The gain's gradient. -/
theorem result_gain : (dats m 0 c).arrAt 10 cfg0.N = val_main_v19 (F := Ideal) (aH m c) (aW m c) (aD m c) := by
  funext (i : S1x1024.Idx)
  rw [eq_ix2 i]
  have h0 : i 0 = (0 : Fin 1) := Subsingleton.elim (α := Fin 1) _ _
  rw [h0]
  generalize (i 1 : Fin 1024) = k
  have h1 := congrFun ((dats m 0 c).read_blk_arrAt_eq_flushed 10 (fun t t' ht ht' hn => absurd (((flush10 t).1 ht).trans ((flush10 t').1 ht').symm) hn)
    cfg0.N last last.isLt ((flush10 last).2 rfl)) (ix2 0 k)
  rw [Cert.Kernel4Ideal.Value.flushed10] at h1
  have h2 := (congrArg ((dats m 0 c).arrAt 10 cfg0.N) (emb10 last k)).symm.trans h1
  refine h2.trans ?_
  refine (gain_sum m c k 7 (by decide)).trans ?_
  rw [Finset.filter_true_of_mem fun t _ => by have := lt_of_lt_of_eq t.isLt points; omega]
  refine (sum_rows fun x => gainTerm m c x k).trans ?_
  exact (ref_gain _ _ _ _).symm

/-- A position's grid point and its row there. -/
abbrev pt (x : Fin 2048) : Fin cfg0.N := ⟨x.val / 256, by rw [points]; omega⟩
abbrev at' (x : Fin 2048) : Fin 256 := ⟨x.val % 256, by omega⟩

theorem row_pt (x : Fin 2048) : row (pt x) (at' x) = x := Fin.ext (by show x.val / 256 * 256 + x.val % 256 = x.val; omega)

theorem flush9 (t : Fin cfg0.N) : (cfg0.win 9).flush t = true := (by decide +kernel : ∀ t : Fin grid0.N, win0_9.flush t = true) t
theorem flush11 (t : Fin cfg0.N) : (cfg0.win 11).flush t = true := (by decide +kernel : ∀ t : Fin grid0.N, win0_11.flush t = true) t
theorem flush12 (t : Fin cfg0.N) : (cfg0.win 12).flush t = true := (by decide +kernel : ∀ t : Fin grid0.N, win0_12.flush t = true) t

/-- An entry of the input's gradient, in the kernel's closed form. -/
theorem dh_entry (x : Fin 2048) (k : Fin 1024) :
    (dats m 0 c).arrAt 9 cfg0.N (ix2 x k : S2048x1024.Idx)
      = closedForm (hRow m c x) (fun k => back m c x k * aG m c (ix2 0 k)) (aR m c (ix2 x k)) k := by
  have h1 := congrFun (Cert.Kernel4Ideal.Value.blocks9 m c (pt x) (flush9 _)) (ix2 (at' x) k)
  rw [Cert.Kernel4Ideal.Value.flushed9] at h1
  have h2 := (congrArg ((dats m 0 c).arrAt 9 cfg0.N) (emb9 (pt x) (at' x) k)).symm.trans (h1.trans (dh_block m c (pt x) (at' x) k))
  rwa [row_pt] at h2

/-- The same of the second copy. -/
theorem dh2_entry (x : Fin 2048) (k : Fin 1024) :
    (dats m 0 c).arrAt 11 cfg0.N (ix2 x k : S2048x1024.Idx)
      = closedForm (hRow m c x) (fun k => back m c x k * aG m c (ix2 0 k)) (aR m c (ix2 x k)) k := by
  have h1 := congrFun (Cert.Kernel4Ideal.Value.blocks11 m c (pt x) (flush11 _)) (ix2 (at' x) k)
  rw [Cert.Kernel4Ideal.Value.flushed11] at h1
  have h2 := (congrArg ((dats m 0 c).arrAt 11 cfg0.N) (emb11 (pt x) (at' x) k)).symm.trans (h1.trans (dh2_block m c (pt x) (at' x) k))
  rwa [row_pt] at h2

/-- The cotangent's transpose. -/
theorem result_turn : (dats m 0 c).arrAt 12 cfg0.N = val_main_v39 (F := Ideal) (aD m c) := by
  funext (i : S4608x2048.Idx)
  rw [eq_ix2 i]
  generalize (i 0 : Fin 4608) = l
  generalize (i 1 : Fin 2048) = x
  have h1 := congrFun (Cert.Kernel4Ideal.Value.blocks12 m c (pt x) (flush12 _)) (ix2 l (at' x))
  rw [Cert.Kernel4Ideal.Value.flushed12] at h1
  have h3 : (outsAt0 m c (pt x).val (pt x).isLt).2.2.2.1 (ix2 l (at' x)) = aD m c (ix2 (row (pt x) (at' x)) l) := by
    rw [out12]
    exact turn_at _ _ _
  have h2 := (congrArg ((dats m 0 c).arrAt 12 cfg0.N) (emb12 (pt x) l (at' x))).symm.trans (h1.trans h3)
  have h4 := (congrArg (fun y => (dats m 0 c).arrAt 12 cfg0.N (ix2 l y : S4608x2048.Idx)) (row_pt x)).symm.trans (h2.trans (congrArg (fun y => aD m c (ix2 y l)) (row_pt x)))
  refine h4.trans ?_
  unfold val_main_v39 val_main_v38
  pointwise

/-- The input's gradient. -/
theorem result_dh : (dats m 0 c).arrAt 9 cfg0.N = val_main_v36 (F := Ideal) (aH m c) (aG m c) (aW m c) (aR m c) (aD m c) := by
  funext (i : S2048x1024.Idx)
  rw [eq_ix2 i]
  exact (dh_entry m c (i 0) (i 1)).trans ((closed_eq_chain _ _ _ _).trans (ref_dh _ _ _ _ _ _ _).symm)

/-- Its second copy. -/
theorem result_dh2 : (dats m 0 c).arrAt 11 cfg0.N = val_main_v37 (F := Ideal) (aH m c) (aG m c) (aW m c) (aR m c) (aD m c) := by
  funext (i : S2048x1024.Idx)
  rw [eq_ix2 i]
  exact (dh2_entry m c (i 0) (i 1)).trans ((closed_eq_chain _ _ _ _).trans (ref_dh _ _ _ _ _ _ _).symm)

end Cert.NormConv

end
-- ==== Proof.Strided.lean ====
/- Stores into a buffer of four slabs that take every d-th row of a slab: what they leave, and a load of a slab. -/
module

public import proofs.«01_k».proof.Proof.Core
public import Idealize.ShloMosaic.Lib.Pointwise
public import Idealize.ShloMosaic.Lib.Pipeline.ValueKit
public import Idealize.ShloMosaic.Lib.Pipeline.ReadBack

@[expose] public section

noncomputable section

namespace Cert.Strided

open Idealize.ShloMosaic

/-- The buffer: four slabs of 256 rows. -/
abbrev Buf4 : Shape := ⟨3, ![4, 256, 128]⟩

/-- The stores `L` leave `G` in the slab-and-row pairs that come before the `n`-th: rows by their remainder by `d`, then slabs. -/
def Slabs (d n : ℕ) (G : Buf4.Idx → EReal) (L : List (View.Piece (Elt Ideal) Buf4 .f32)) : Prop :=
  ∀ y : Buf4.Idx, (y 1).val % d * 4 + (y 0).val < n → View.canon L y = G y ∧ ∃ p ∈ L, y ∈ p.1.set

/-- Whatever was stored before, nothing is asked of the pairs before the first. -/
theorem Slabs.nil (d : ℕ) (G : Buf4.Idx → EReal) (L : List (View.Piece (Elt Ideal) Buf4 .f32)) : Slabs d 0 G L :=
  fun _ h => absurd h (Nat.not_lt_zero _)

/-- A row number from its remainder and its quotient. -/
theorem split_row (a d r : ℕ) (h : a % d = r) : a = r + d * (a / d) := by
  rw [← h]
  exact (Nat.mod_add_div a d).symm

/-- One more store: the rows of slab `s` with remainder `r`. -/
theorem Slabs.cons {d n q s r : ℕ} {G : Buf4.Idx → EReal} {L : List (View.Piece (Elt Ideal) Buf4 .f32)}
    (inb : ∀ a, (![1, q, 128] : Fin 3 → ℕ) a = 0 ∨ (![s, r, 0] : Fin 3 → ℕ) a + (![1, d, 1] : Fin 3 → ℕ) a * ((![1, q, 128] : Fin 3 → ℕ) a - 1) < Buf4.size a)
    (pos : ∀ a, 0 < (![1, d, 1] : Fin 3 → ℕ) a) {P : Shape.Idx ⟨3, ![1, q, 128]⟩ → EReal}
    (hs : s < 4) (hr : r < d) (hq : q * d = 256) (hn : r * 4 + s = n) (hL : Slabs d n G L)
    (h : ∀ (x : Fin q) (l : Fin 128) (hx : x.val * d + r < 256), P (ix3 0 x l) = G (ix3 ⟨s, hs⟩ ⟨x.val * d + r, hx⟩ l)) :
    Slabs d (n + 1) G (⟨⟨(⟨![s, r, 0], ![1, q, 128], ![1, d, 1], inb⟩ : LoadRect Buf4), pos⟩, P⟩ :: L) := by
  intro y hy
  by_cases hm : y ∈ (⟨(⟨![s, r, 0], ![1, q, 128], ![1, d, 1], inb⟩ : LoadRect Buf4), pos⟩ : Rect Buf4).set
  · refine ⟨?_, _, List.mem_cons_self, hm⟩
    obtain ⟨(x : Shape.Idx ⟨3, ![1, q, 128]⟩), rfl⟩ := LoadRect.exists_idx_of_mem _ hm
    refine (View.canon_cons_emb (⟨(⟨![s, r, 0], ![1, q, 128], ![1, d, 1], inb⟩ : LoadRect Buf4), pos⟩ : Rect Buf4) P L x).trans ?_
    have h0 : (x 0).val = 0 := by have : (x 0).val < 1 := (x 0).isLt; omega
    have h1 : (x 1).val < q := (x 1).isLt
    have hx : (x 1).val * d + r < 256 := by
      have := Nat.mul_le_mul_right d (Nat.succ_le_of_lt h1)
      rw [Nat.succ_mul] at this
      omega
    have ex : x = ix3 0 (x 1) (x 2) := by
      funext k
      match k with
      | ⟨0, _⟩ => exact Fin.ext h0
      | ⟨1, _⟩ => rfl
      | ⟨2, _⟩ => rfl
    refine (congrArg P ex).trans ((h (x 1) (x 2) hx).trans (congrArg G ?_))
    funext k
    match k with
    | ⟨0, _⟩ => exact Fin.ext (by show s = s + 1 * (x 0).val; omega)
    | ⟨1, _⟩ => exact Fin.ext (by show (x 1).val * d + r = r + d * (x 1).val; rw [Nat.mul_comm, Nat.add_comm])
    | ⟨2, _⟩ => exact Fin.ext (by show (x 2).val = 0 + 1 * (x 2).val; omega)
  · have hlt : (y 1).val % d * 4 + (y 0).val < n := by
      rcases Nat.lt_succ_iff_lt_or_eq.1 hy with h' | h'
      · exact h'
      · exfalso
        have h0 : (y 0).val < 4 := (y 0).isLt
        have h1 : (y 1).val < 256 := (y 1).isLt
        have e0 : (y 0).val = s := by omega
        have e1 : (y 1).val % d = r := by omega
        refine hm (LoadRect.mem_set _ |>.2 fun a => ?_)
        match a with
        | ⟨0, _⟩ => exact ⟨0, Nat.one_pos, by show (y 0).val = s + 1 * 0; omega⟩
        | ⟨1, _⟩ =>
          refine ⟨(y 1).val / d, ?_, ?_⟩
          · show (y 1).val / d < q
            rw [Nat.div_lt_iff_lt_mul (by omega), hq]
            exact h1
          · exact split_row (y 1).val d r e1
        | ⟨2, _⟩ => exact ⟨(y 2).val, (y 2).isLt, by show (y 2).val = 0 + 1 * (y 2).val; omega⟩
    obtain ⟨e, p, hp, hy'⟩ := hL y hlt
    refine ⟨Eq.trans ?_ e, p, List.mem_cons_of_mem _ hp, hy'⟩
    exact View.canon_cons_of_not_mem (p := (⟨_, P⟩ : View.Piece (Elt Ideal) Buf4 .f32)) L hm

/-- A load of a slab after all the stores. -/
theorem Slabs.read {κ : Kind} {sg : RefSig} {sp : Space} {d n s : ℕ} {G : Buf4.Idx → EReal} {L : List (View.Piece (Elt Ideal) Buf4 .f32)} (h : Slabs d n G L)
    (hd : 0 < d) (hn : n = d * 4) (hs : s < 4) (v : View sg κ sp Buf4 .f32)
    (inb : ∀ k, (![s, 0, 0] : Fin 3 → ℕ) k + (![1, 256, 128] : Fin 3 → ℕ) k ≤ Buf4.size k) (x : Fin 256) (l : Fin 128) :
    v.readCov L (Rect.unit (s := Buf4) ![s, 0, 0] ![1, 256, 128] inb).toLoadRect (show Shape.Idx ⟨3, ![1, 256, 128]⟩ from ix3 0 x l) = G (ix3 ⟨s, hs⟩ x l) := by
  have hall : ∀ y : Buf4.Idx, (y 1).val % d * 4 + (y 0).val < n := fun y => by
    have h1 := Nat.mod_lt (y 1).val hd
    have h0 : (y 0).val < 4 := (y 0).isLt
    omega
  refine (congrFun (View.readCov_eq_canon v L _ fun j => (h _ (hall _)).2) _).trans ?_
  refine ((h _ (hall _)).1).trans (congrArg G ?_)
  funext k
  match k with
  | ⟨0, _⟩ => exact Fin.ext (by show s + 1 * 0 = s; omega)
  | ⟨1, _⟩ => exact Fin.ext (by show 0 + 1 * x.val = x.val; omega)
  | ⟨2, _⟩ => exact Fin.ext (by show 0 + 1 * l.val = l.val; omega)

/-- 4 streams side by side, one row for 4 positions: position a4 + r is row a, in the columns of stream r. -/
theorem unview4 (h : Shape.ShapeCasts ⟨2, ![2048, 512]⟩ ⟨2, ![512, 2048]⟩) (Y : Vec Ideal ⟨2, ![2048, 512]⟩ .bf16) (a : Fin 512) (r : Fin 4) (e : Fin 512)
    (hc : r.val * 512 + e.val < 2048) (hr : a.val * 4 + r.val < 2048) :
    shapeCast ⟨2, ![512, 2048]⟩ Y h (ix2 a ⟨r.val * 512 + e.val, hc⟩) = Y (ix2 ⟨a.val * 4 + r.val, hr⟩ e) := by
  pointwise
  congr 2
  exact Fin.ext (by show a.val * 4 + (r.val * 512 + e.val) / 512 = a.val * 4 + r.val; omega)

/-- A leading axis of one slab added. -/
theorem cast4 (h : Shape.ShapeCasts ⟨2, ![64, 128]⟩ ⟨2, ![64, 128]⟩) (h' : Shape.ShapeCasts ⟨2, ![64, 128]⟩ ⟨3, ![1, 64, 128]⟩) (hb : FTy.bits .bf16 < FTy.bits .f32)
    (Z : Vec Ideal ⟨2, ![64, 128]⟩ .bf16) (x : Fin 64) (l : Fin 128) :
    shapeCast ⟨3, ![1, 64, 128]⟩ (extf (F := Ideal) .f32 (shapeCast ⟨2, ![64, 128]⟩ Z h) hb) h' (ix3 0 x l) = Z (ix2 x l) := by
  pointwise

/-- A band of columns of 4 streams' rows, as the kernel stores it: with a leading axis of one slab. -/
theorem band4 (h : Shape.ShapeCasts ⟨2, ![64, 128]⟩ ⟨2, ![64, 128]⟩) (h' : Shape.ShapeCasts ⟨2, ![64, 128]⟩ ⟨3, ![1, 64, 128]⟩) (hb : FTy.bits .bf16 < FTy.bits .f32)
    (X : Vec Ideal ⟨2, ![64, 2048]⟩ .bf16) (o : ℕ) (inb : ∀ k, (![0, o] : Fin 2 → ℕ) k + (![64, 128] : Fin 2 → ℕ) k ≤ (⟨2, ![64, 2048]⟩ : Shape).size k)
    (x : Fin 64) (l : Fin 128) (hl : o + l.val < 2048) :
    shapeCast ⟨3, ![1, 64, 128]⟩ (extf (F := Ideal) .f32 (shapeCast ⟨2, ![64, 128]⟩ (View.ld X (Rect.unit (s := ⟨2, ![64, 2048]⟩) ![0, o] ![64, 128] inb)) h) hb) h' (ix3 0 x l)
      = X (ix2 x ⟨o + l.val, hl⟩) := by
  refine (cast4 h h' hb _ x l).trans (congrArg X ?_)
  funext k
  match k with
  | ⟨0, _⟩ => exact Fin.ext (by show 0 + 1 * x.val = x.val; omega)
  | ⟨1, _⟩ => exact Fin.ext (by show o + 1 * l.val = o + l.val; omega)

/-- 16 streams side by side, one row for 16 positions: position a16 + r is row a, in the columns of stream r. -/
theorem unview16 (h : Shape.ShapeCasts ⟨2, ![2048, 512]⟩ ⟨2, ![128, 8192]⟩) (Y : Vec Ideal ⟨2, ![2048, 512]⟩ .bf16) (a : Fin 128) (r : Fin 16) (e : Fin 512)
    (hc : r.val * 512 + e.val < 8192) (hr : a.val * 16 + r.val < 2048) :
    shapeCast ⟨2, ![128, 8192]⟩ Y h (ix2 a ⟨r.val * 512 + e.val, hc⟩) = Y (ix2 ⟨a.val * 16 + r.val, hr⟩ e) := by
  pointwise
  congr 2
  exact Fin.ext (by show a.val * 16 + (r.val * 512 + e.val) / 512 = a.val * 16 + r.val; omega)

/-- A leading axis of one slab added. -/
theorem cast16 (h : Shape.ShapeCasts ⟨2, ![16, 128]⟩ ⟨2, ![16, 128]⟩) (h' : Shape.ShapeCasts ⟨2, ![16, 128]⟩ ⟨3, ![1, 16, 128]⟩) (hb : FTy.bits .bf16 < FTy.bits .f32)
    (Z : Vec Ideal ⟨2, ![16, 128]⟩ .bf16) (x : Fin 16) (l : Fin 128) :
    shapeCast ⟨3, ![1, 16, 128]⟩ (extf (F := Ideal) .f32 (shapeCast ⟨2, ![16, 128]⟩ Z h) hb) h' (ix3 0 x l) = Z (ix2 x l) := by
  pointwise

/-- A band of columns of 16 streams' rows, as the kernel stores it: with a leading axis of one slab. -/
theorem band16 (h : Shape.ShapeCasts ⟨2, ![16, 128]⟩ ⟨2, ![16, 128]⟩) (h' : Shape.ShapeCasts ⟨2, ![16, 128]⟩ ⟨3, ![1, 16, 128]⟩) (hb : FTy.bits .bf16 < FTy.bits .f32)
    (X : Vec Ideal ⟨2, ![16, 8192]⟩ .bf16) (o : ℕ) (inb : ∀ k, (![0, o] : Fin 2 → ℕ) k + (![16, 128] : Fin 2 → ℕ) k ≤ (⟨2, ![16, 8192]⟩ : Shape).size k)
    (x : Fin 16) (l : Fin 128) (hl : o + l.val < 8192) :
    shapeCast ⟨3, ![1, 16, 128]⟩ (extf (F := Ideal) .f32 (shapeCast ⟨2, ![16, 128]⟩ (View.ld X (Rect.unit (s := ⟨2, ![16, 8192]⟩) ![0, o] ![16, 128] inb)) h) hb) h' (ix3 0 x l)
      = X (ix2 x ⟨o + l.val, hl⟩) := by
  refine (cast16 h h' hb _ x l).trans (congrArg X ?_)
  funext k
  match k with
  | ⟨0, _⟩ => exact Fin.ext (by show 0 + 1 * x.val = x.val; omega)
  | ⟨1, _⟩ => exact Fin.ext (by show o + 1 * l.val = o + l.val; omega)

/-- Four slabs side by side, cast down: a column's slab and lane. -/
theorem sides (h : Shape.Concatenates [(⟨2, ![256, 128]⟩ : Shape), ⟨2, ![256, 128]⟩, ⟨2, ![256, 128]⟩, ⟨2, ![256, 128]⟩] ⟨2, ![256, 512]⟩ 1)
    (h' : Shape.ShapeCasts ⟨3, ![1, 256, 128]⟩ ⟨2, ![256, 128]⟩) (hb : FTy.bits .bf16 < FTy.bits .f32)
    (a b c d : Vec Ideal ⟨3, ![1, 256, 128]⟩ .f32) (x : Fin 256) (s : Fin 4) (l : Fin 128) (hl : s.val * 128 + l.val < 512) :
    truncf (F := Ideal) .bf16 (concatenate ⟨2, ![256, 512]⟩ 1 [⟨⟨2, ![256, 128]⟩, shapeCast ⟨2, ![256, 128]⟩ a h'⟩, ⟨⟨2, ![256, 128]⟩, shapeCast ⟨2, ![256, 128]⟩ b h'⟩,
        ⟨⟨2, ![256, 128]⟩, shapeCast ⟨2, ![256, 128]⟩ c h'⟩, ⟨⟨2, ![256, 128]⟩, shapeCast ⟨2, ![256, 128]⟩ d h'⟩] h) hb (ix2 x ⟨s.val * 128 + l.val, hl⟩)
      = (![a, b, c, d] : Fin 4 → Vec Ideal ⟨3, ![1, 256, 128]⟩ .f32) s (ix3 0 x l) := by
  match s with
  | ⟨0, _⟩ => pointwise
  | ⟨1, _⟩ => pointwise
  | ⟨2, _⟩ =>
    pointwise
    rw [dif_neg (by omega), dif_neg (by omega), dif_pos (by omega)]
    exact congrArg c (congrArg (ix3 0 x) (Fin.ext (by show 256 + l.val - 128 - 128 = l.val; omega)))
  | ⟨3, _⟩ =>
    pointwise
    rw [dif_neg (by omega), dif_neg (by omega), dif_neg (by omega)]
    exact congrArg d (congrArg (ix3 0 x) (Fin.ext (by show 384 + l.val - 128 - 128 - 128 = l.val; omega)))

/-- The four slabs loaded after all the stores and put side by side. -/
theorem Slabs.join {κ : Kind} {sg : RefSig} {sp : Space} {d n : ℕ} {G : Buf4.Idx → EReal} {L : List (View.Piece (Elt Ideal) Buf4 .f32)} (hL : Slabs d n G L)
    (hd : 0 < d) (hn : n = d * 4) (v : View sg κ sp Buf4 .f32)
    (h : Shape.Concatenates [(⟨2, ![256, 128]⟩ : Shape), ⟨2, ![256, 128]⟩, ⟨2, ![256, 128]⟩, ⟨2, ![256, 128]⟩] ⟨2, ![256, 512]⟩ 1)
    (h' : Shape.ShapeCasts ⟨3, ![1, 256, 128]⟩ ⟨2, ![256, 128]⟩) (h2 : Shape.ShapeCasts ⟨2, ![256, 512]⟩ ⟨2, ![256, 512]⟩) (hb : FTy.bits .bf16 < FTy.bits .f32)
    (i0 : ∀ k, (![0, 0, 0] : Fin 3 → ℕ) k + (![1, 256, 128] : Fin 3 → ℕ) k ≤ Buf4.size k)
    (i1 : ∀ k, (![1, 0, 0] : Fin 3 → ℕ) k + (![1, 256, 128] : Fin 3 → ℕ) k ≤ Buf4.size k)
    (i2 : ∀ k, (![2, 0, 0] : Fin 3 → ℕ) k + (![1, 256, 128] : Fin 3 → ℕ) k ≤ Buf4.size k)
    (i3 : ∀ k, (![3, 0, 0] : Fin 3 → ℕ) k + (![1, 256, 128] : Fin 3 → ℕ) k ≤ Buf4.size k) (x : Fin 256) (l : Fin 512) :
    shapeCast ⟨2, ![256, 512]⟩ (truncf (F := Ideal) .bf16 (concatenate ⟨2, ![256, 512]⟩ 1
        [⟨⟨2, ![256, 128]⟩, shapeCast ⟨2, ![256, 128]⟩ (v.readCov L (Rect.unit (s := Buf4) ![0, 0, 0] ![1, 256, 128] i0).toLoadRect) h'⟩,
          ⟨⟨2, ![256, 128]⟩, shapeCast ⟨2, ![256, 128]⟩ (v.readCov L (Rect.unit (s := Buf4) ![1, 0, 0] ![1, 256, 128] i1).toLoadRect) h'⟩,
          ⟨⟨2, ![256, 128]⟩, shapeCast ⟨2, ![256, 128]⟩ (v.readCov L (Rect.unit (s := Buf4) ![2, 0, 0] ![1, 256, 128] i2).toLoadRect) h'⟩,
          ⟨⟨2, ![256, 128]⟩, shapeCast ⟨2, ![256, 128]⟩ (v.readCov L (Rect.unit (s := Buf4) ![3, 0, 0] ![1, 256, 128] i3).toLoadRect) h'⟩] h) hb) h2 (ix2 x l)
      = G (ix3 ⟨l.val / 128, by omega⟩ x ⟨l.val % 128, by omega⟩) := by
  rw [shapeCast_self]
  have hl : l = ⟨(⟨l.val / 128, by omega⟩ : Fin 4).val * 128 + (⟨l.val % 128, by omega⟩ : Fin 128).val, by show l.val / 128 * 128 + l.val % 128 < 512; omega⟩ :=
    Fin.ext (by show l.val = l.val / 128 * 128 + l.val % 128; omega)
  refine (congrArg _ (congrArg (ix2 x) hl)).trans ((sides h h' hb _ _ _ _ x ⟨l.val / 128, by omega⟩ ⟨l.val % 128, by omega⟩ _).trans ?_)
  generalize (⟨l.val / 128, _⟩ : Fin 4) = s
  match s with
  | ⟨0, _⟩ => exact hL.read hd hn _ v i0 x _
  | ⟨1, _⟩ => exact hL.read hd hn _ v i1 x _
  | ⟨2, _⟩ => exact hL.read hd hn _ v i2 x _
  | ⟨3, _⟩ => exact hL.read hd hn _ v i3 x _

end Cert.Strided

end
-- ==== Proof.NormAttn.lean ====
/- What one grid point of the norm's gradient (the attention layer's) computes: its blocks, the assembled cotangent, the
   joined weights and its outputs. -/
module

public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.NormCore
public import proofs.«01_k».proof.Proof.Cols
public import proofs.«01_k».proof.Proof.Strided
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormAttn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The arguments: the layer's input, the norm's gain, the weights, the residual's cotangent, the projection's cotangent. -/
abbrev aH : S2048x1024.Idx → EReal := m ((c : Thread nD τ).loc main_arg0)
abbrev aG : S1x1024.Idx → EReal := m ((c : Thread nD τ).loc main_arg1)
abbrev aW : S1024x5632.Idx → EReal := m ((c : Thread nD τ).loc main_arg2)
abbrev aR : S2048x1024.Idx → EReal := m ((c : Thread nD τ).loc main_arg3)
abbrev aD : S2048x5632.Idx → EReal := m ((c : Thread nD τ).loc main_arg4)

theorem points : cfg0.N = 8 := by decide

theorem row_lt (t : Fin cfg0.N) (x : Fin 256) : t.val * 256 + x.val < 2048 := by
  have h : t.val < 8 := lt_of_lt_of_eq t.isLt points
  omega

/-- The sequence's position at a grid point's row. -/
abbrev row (t : Fin cfg0.N) (x : Fin 256) : Fin 2048 := ⟨t.val * 256 + x.val, row_lt t x⟩

theorem row4_lt (t : Fin cfg0.N) (x : Fin 64) : t.val * 64 + x.val < 512 := by
  have h : t.val < 8 := lt_of_lt_of_eq t.isLt points
  omega

theorem row16_lt (t : Fin cfg0.N) (x : Fin 16) : t.val * 16 + x.val < 128 := by
  have h : t.val < 8 := lt_of_lt_of_eq t.isLt points
  omega

/-- Which block each window takes at a grid point. -/
theorem index0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_12.index t = ![t.val, 0] ∧ win0_14.index t = ![t.val, 0] ∧ win0_15.index t = ![t.val, 0] ∧ win0_11.index t = ![0, 0, 0] ∧ win0_13.index t = ![0, 0] ∧ win0_16.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_12.index t = ![t.val, 0] ∧ win0_14.index t = ![t.val, 0] ∧ win0_15.index t = ![t.val, 0] ∧ win0_11.index t = ![0, 0, 0] ∧ win0_13.index t = ![0, 0] ∧ win0_16.index t = ![0, 0])

theorem emb0 (t : Fin cfg0.N) (x : Fin 256) (l : Fin 512) : (win0_0.rect t).emb (ix2 x l) = (ix2 (row t x) l : S2048x512.Idx) := by
  funext a
  match a with
  | ⟨0, _⟩ => exact Fin.ext ((win0_0.rect_emb_val t (ix2 x l) 0).trans (by rw [(index0 t).1]; rfl))
  | ⟨1, _⟩ => exact Fin.ext ((win0_0.rect_emb_val t (ix2 x l) 1).trans (by rw [(index0 t).1]; simp))

theorem emb1 (t : Fin cfg0.N) (x : Fin 64) (l : Fin 2048) : (win0_1.rect t).emb (ix2 x l) = (ix2 ⟨t.val * 64 + x.val, row4_lt t x⟩ l : S512x2048.Idx) := by
  funext a
  match a with
  | ⟨0, _⟩ => exact Fin.ext ((win0_1.rect_emb_val t (ix2 x l) 0).trans (by rw [(index0 t).2.1]; rfl))
  | ⟨1, _⟩ => exact Fin.ext ((win0_1.rect_emb_val t (ix2 x l) 1).trans (by rw [(index0 t).2.1]; simp))

theorem emb2 (t : Fin cfg0.N) (x : Fin 16) (l : Fin 8192) : (win0_2.rect t).emb (ix2 x l) = (ix2 ⟨t.val * 16 + x.val, row16_lt t x⟩ l : S128x8192.Idx) := by
  funext a
  match a with
  | ⟨0, _⟩ => exact Fin.ext ((win0_2.rect_emb_val t (ix2 x l) 0).trans (by rw [(index0 t).2.2.1]; rfl))
  | ⟨1, _⟩ => exact Fin.ext ((win0_2.rect_emb_val t (ix2 x l) 1).trans (by rw [(index0 t).2.2.1]; simp))

theorem emb3 (t : Fin cfg0.N) (x : Fin 256) (l : Fin 512) : (win0_3.rect t).emb (ix2 x l) = (ix2 (row t x) l : S2048x512.Idx) := by
  funext a
  match a with
  | ⟨0, _⟩ => exact Fin.ext ((win0_3.rect_emb_val t (ix2 x l) 0).trans (by rw [(index0 t).2.2.2.1]; rfl))
  | ⟨1, _⟩ => exact Fin.ext ((win0_3.rect_emb_val t (ix2 x l) 1).trans (by rw [(index0 t).2.2.2.1]; simp))

theorem emb4 (t : Fin cfg0.N) (x : Fin 64) (l : Fin 2048) : (win0_4.rect t).emb (ix2 x l) = (ix2 ⟨t.val * 64 + x.val, row4_lt t x⟩ l : S512x2048.Idx) := by
  funext a
  match a with
  | ⟨0, _⟩ => exact Fin.ext ((win0_4.rect_emb_val t (ix2 x l) 0).trans (by rw [(index0 t).2.2.2.2.1]; rfl))
  | ⟨1, _⟩ => exact Fin.ext ((win0_4.rect_emb_val t (ix2 x l) 1).trans (by rw [(index0 t).2.2.2.2.1]; simp))

theorem emb5 (t : Fin cfg0.N) (x : Fin 16) (l : Fin 8192) : (win0_5.rect t).emb (ix2 x l) = (ix2 ⟨t.val * 16 + x.val, row16_lt t x⟩ l : S128x8192.Idx) := by
  funext a
  match a with
  | ⟨0, _⟩ => exact Fin.ext ((win0_5.rect_emb_val t (ix2 x l) 0).trans (by rw [(index0 t).2.2.2.2.2.1]; rfl))
  | ⟨1, _⟩ => exact Fin.ext ((win0_5.rect_emb_val t (ix2 x l) 1).trans (by rw [(index0 t).2.2.2.2.2.1]; simp))

theorem emb6 (t : Fin cfg0.N) (x : Fin 256) (l : Fin 512) : (win0_6.rect t).emb (ix2 x l) = (ix2 (row t x) l : S2048x512.Idx) := by
  funext a
  match a with
  | ⟨0, _⟩ => exact Fin.ext ((win0_6.rect_emb_val t (ix2 x l) 0).trans (by rw [(index0 t).2.2.2.2.2.2.1]; rfl))
  | ⟨1, _⟩ => exact Fin.ext ((win0_6.rect_emb_val t (ix2 x l) 1).trans (by rw [(index0 t).2.2.2.2.2.2.1]; simp))

theorem emb7 (t : Fin cfg0.N) (x : Fin 64) (l : Fin 2048) : (win0_7.rect t).emb (ix2 x l) = (ix2 ⟨t.val * 64 + x.val, row4_lt t x⟩ l : S512x2048.Idx) := by
  funext a
  match a with
  | ⟨0, _⟩ => exact Fin.ext ((win0_7.rect_emb_val t (ix2 x l) 0).trans (by rw [(index0 t).2.2.2.2.2.2.2.1]; rfl))
  | ⟨1, _⟩ => exact Fin.ext ((win0_7.rect_emb_val t (ix2 x l) 1).trans (by rw [(index0 t).2.2.2.2.2.2.2.1]; simp))

theorem emb8 (t : Fin cfg0.N) (x : Fin 16) (l : Fin 8192) : (win0_8.rect t).emb (ix2 x l) = (ix2 ⟨t.val * 16 + x.val, row16_lt t x⟩ l : S128x8192.Idx) := by
  funext a
  match a with
  | ⟨0, _⟩ => exact Fin.ext ((win0_8.rect_emb_val t (ix2 x l) 0).trans (by rw [(index0 t).2.2.2.2.2.2.2.2.1]; rfl))
  | ⟨1, _⟩ => exact Fin.ext ((win0_8.rect_emb_val t (ix2 x l) 1).trans (by rw [(index0 t).2.2.2.2.2.2.2.2.1]; simp))

theorem emb9 (t : Fin cfg0.N) (x : Fin 256) (l : Fin 256) : (win0_9.rect t).emb (ix2 x l) = (ix2 (row t x) l : S2048x256.Idx) := by
  funext a
  match a with
  | ⟨0, _⟩ => exact Fin.ext ((win0_9.rect_emb_val t (ix2 x l) 0).trans (by rw [(index0 t).2.2.2.2.2.2.2.2.2.1]; rfl))
  | ⟨1, _⟩ => exact Fin.ext ((win0_9.rect_emb_val t (ix2 x l) 1).trans (by rw [(index0 t).2.2.2.2.2.2.2.2.2.1]; simp))

theorem emb10 (t : Fin cfg0.N) (x : Fin 256) (l : Fin 768) : (win0_10.rect t).emb (ix2 x l) = (ix2 (row t x) l : S2048x768.Idx) := by
  funext a
  match a with
  | ⟨0, _⟩ => exact Fin.ext ((win0_10.rect_emb_val t (ix2 x l) 0).trans (by rw [(index0 t).2.2.2.2.2.2.2.2.2.2.1]; rfl))
  | ⟨1, _⟩ => exact Fin.ext ((win0_10.rect_emb_val t (ix2 x l) 1).trans (by rw [(index0 t).2.2.2.2.2.2.2.2.2.2.1]; simp))

theorem emb12 (t : Fin cfg0.N) (x : Fin 256) (l : Fin 1024) : (win0_12.rect t).emb (ix2 x l) = (ix2 (row t x) l : S2048x1024.Idx) := by
  funext a
  match a with
  | ⟨0, _⟩ => exact Fin.ext ((win0_12.rect_emb_val t (ix2 x l) 0).trans (by rw [(index0 t).2.2.2.2.2.2.2.2.2.2.2.1]; rfl))
  | ⟨1, _⟩ => exact Fin.ext ((win0_12.rect_emb_val t (ix2 x l) 1).trans (by rw [(index0 t).2.2.2.2.2.2.2.2.2.2.2.1]; simp))

theorem emb14 (t : Fin cfg0.N) (x : Fin 256) (l : Fin 1024) : (win0_14.rect t).emb (ix2 x l) = (ix2 (row t x) l : S2048x1024.Idx) := by
  funext a
  match a with
  | ⟨0, _⟩ => exact Fin.ext ((win0_14.rect_emb_val t (ix2 x l) 0).trans (by rw [(index0 t).2.2.2.2.2.2.2.2.2.2.2.2.1]; rfl))
  | ⟨1, _⟩ => exact Fin.ext ((win0_14.rect_emb_val t (ix2 x l) 1).trans (by rw [(index0 t).2.2.2.2.2.2.2.2.2.2.2.2.1]; simp))

theorem emb15 (t : Fin cfg0.N) (x : Fin 256) (l : Fin 1024) : (win0_15.rect t).emb (ix2 x l) = (ix2 (row t x) l : S2048x1024.Idx) := by
  funext a
  match a with
  | ⟨0, _⟩ => exact Fin.ext ((win0_15.rect_emb_val t (ix2 x l) 0).trans (by rw [(index0 t).2.2.2.2.2.2.2.2.2.2.2.2.2.1]; rfl))
  | ⟨1, _⟩ => exact Fin.ext ((win0_15.rect_emb_val t (ix2 x l) 1).trans (by rw [(index0 t).2.2.2.2.2.2.2.2.2.2.2.2.2.1]; simp))

theorem emb11 (t : Fin cfg0.N) (s : Fin 8) (k : Fin 1024) (j : Fin 704) : (win0_11.rect t).emb (ix3 s k j) = (ix3 s k j : S8x1024x704.Idx) := by
  funext a
  match a with
  | ⟨0, _⟩ => exact Fin.ext ((win0_11.rect_emb_val t (ix3 s k j) 0).trans (by rw [(index0 t).2.2.2.2.2.2.2.2.2.2.2.2.2.2.1]; simp))
  | ⟨1, _⟩ => exact Fin.ext ((win0_11.rect_emb_val t (ix3 s k j) 1).trans (by rw [(index0 t).2.2.2.2.2.2.2.2.2.2.2.2.2.2.1]; simp))
  | ⟨2, _⟩ => exact Fin.ext ((win0_11.rect_emb_val t (ix3 s k j) 2).trans (by rw [(index0 t).2.2.2.2.2.2.2.2.2.2.2.2.2.2.1]; simp))

theorem emb13 (t : Fin cfg0.N) (l : Fin 1024) : (win0_13.rect t).emb (ix2 0 l) = (ix2 0 l : S1x1024.Idx) := by
  funext a
  match a with
  | ⟨0, _⟩ => exact Fin.ext ((win0_13.rect_emb_val t (ix2 0 l) 0).trans (by rw [(index0 t).2.2.2.2.2.2.2.2.2.2.2.2.2.2.2.1]; simp))
  | ⟨1, _⟩ => exact Fin.ext ((win0_13.rect_emb_val t (ix2 0 l) 1).trans (by rw [(index0 t).2.2.2.2.2.2.2.2.2.2.2.2.2.2.2.1]; simp))

theorem emb16 (t : Fin cfg0.N) (l : Fin 1024) : (win0_16.rect t).emb (ix2 0 l) = (ix2 0 l : S1x1024.Idx) := by
  funext a
  match a with
  | ⟨0, _⟩ => exact Fin.ext ((win0_16.rect_emb_val t (ix2 0 l) 0).trans (by rw [(index0 t).2.2.2.2.2.2.2.2.2.2.2.2.2.2.2.2]; simp))
  | ⟨1, _⟩ => exact Fin.ext ((win0_16.rect_emb_val t (ix2 0 l) 1).trans (by rw [(index0 t).2.2.2.2.2.2.2.2.2.2.2.2.2.2.2.2]; simp))

/-- The projection's cotangent as the host lines cut it: its columns from `o`. -/
abbrev cols (o : ℕ) (h : S2048x5632.Slices ![0, o] S2048x512) : Vec Ideal S2048x512 .bf16 :=
  extractStridedSlice S2048x512 ![0, o] (truncf (F := Ideal) .bf16 (aD m c) bitsLt_bf16_f32) h

theorem cols_at (o : ℕ) (h : S2048x5632.Slices ![0, o] S2048x512) (r : Fin 2048) (e : Fin 512) (he : o + e.val < 5632) :
    cols m c o h (ix2 r e) = aD m c (ix2 r ⟨o + e.val, he⟩) := by
  unfold cols
  pointwise

theorem V0 : V m c main_v1 = cols m c 0 slices_S2048x5632_S2048x512_0_0 := by
  unfold_abbrev_sides
  after_reads_simp

/-- A piece's block: the point's rows, the columns from 0. -/
theorem blk0 (t : Fin cfg0.N) (x : Fin 256) (l : Fin 512) (hl : 0 + l.val < 5632) :
    iblk m c 0 t (ix2 x l) = aD m c (ix2 (row t x) ⟨0 + l.val, hl⟩) := by
  refine (congrArg (V m c main_v1) (emb0 t x l)).trans ?_
  rw [V0]
  exact cols_at m c 0 _ _ l hl

theorem V1 : V m c main_v3 = shapeCast S512x2048 (cols m c 512 slices_S2048x5632_S2048x512_0_512) shapeCasts_S2048x512_S512x2048 := by
  unfold_abbrev_sides
  after_reads_simp
  rfl

/-- A piece's block of 4 streams: row x, stream r is the point's row 4 x + r; the columns from 512. -/
theorem blk1 (t : Fin cfg0.N) (x : Fin 64) (r : Fin 4) (e : Fin 512) (h1 : r.val * 512 + e.val < 2048) (h2 : x.val * 4 + r.val < 256) (h3 : 512 + e.val < 5632) :
    iblk m c 1 t (ix2 x ⟨r.val * 512 + e.val, h1⟩) = aD m c (ix2 (row t ⟨x.val * 4 + r.val, h2⟩) ⟨512 + e.val, h3⟩) := by
  refine (congrArg (V m c main_v3) (emb1 t x _)).trans ?_
  rw [V1]
  have ht : t.val < 8 := lt_of_lt_of_eq t.isLt points
  refine (Strided.unview4 _ _ _ r e h1 (by show (t.val * 64 + x.val) * 4 + r.val < 2048; omega)).trans ((cols_at m c 512 _ _ e h3).trans ?_)
  exact congrArg (fun k => aD m c (ix2 k ⟨512 + e.val, h3⟩)) (Fin.ext (by show (t.val * 64 + x.val) * 4 + r.val = t.val * 256 + (x.val * 4 + r.val); omega))

theorem V2 : V m c main_v5 = shapeCast S128x8192 (cols m c 1024 slices_S2048x5632_S2048x512_0_1024) shapeCasts_S2048x512_S128x8192 := by
  unfold_abbrev_sides
  after_reads_simp
  rfl

/-- A piece's block of 16 streams: row x, stream r is the point's row 16 x + r; the columns from 1024. -/
theorem blk2 (t : Fin cfg0.N) (x : Fin 16) (r : Fin 16) (e : Fin 512) (h1 : r.val * 512 + e.val < 8192) (h2 : x.val * 16 + r.val < 256) (h3 : 1024 + e.val < 5632) :
    iblk m c 2 t (ix2 x ⟨r.val * 512 + e.val, h1⟩) = aD m c (ix2 (row t ⟨x.val * 16 + r.val, h2⟩) ⟨1024 + e.val, h3⟩) := by
  refine (congrArg (V m c main_v5) (emb2 t x _)).trans ?_
  rw [V2]
  have ht : t.val < 8 := lt_of_lt_of_eq t.isLt points
  refine (Strided.unview16 _ _ _ r e h1 (by show (t.val * 16 + x.val) * 16 + r.val < 2048; omega)).trans ((cols_at m c 1024 _ _ e h3).trans ?_)
  exact congrArg (fun k => aD m c (ix2 k ⟨1024 + e.val, h3⟩)) (Fin.ext (by show (t.val * 16 + x.val) * 16 + r.val = t.val * 256 + (x.val * 16 + r.val); omega))

theorem V3 : V m c main_v6 = cols m c 1536 slices_S2048x5632_S2048x512_0_1536 := by
  unfold_abbrev_sides
  after_reads_simp

/-- A piece's block: the point's rows, the columns from 1536. -/
theorem blk3 (t : Fin cfg0.N) (x : Fin 256) (l : Fin 512) (hl : 1536 + l.val < 5632) :
    iblk m c 3 t (ix2 x l) = aD m c (ix2 (row t x) ⟨1536 + l.val, hl⟩) := by
  refine (congrArg (V m c main_v6) (emb3 t x l)).trans ?_
  rw [V3]
  exact cols_at m c 1536 _ _ l hl

theorem V4 : V m c main_v8 = shapeCast S512x2048 (cols m c 2048 slices_S2048x5632_S2048x512_0_2048) shapeCasts_S2048x512_S512x2048 := by
  unfold_abbrev_sides
  after_reads_simp
  rfl

/-- A piece's block of 4 streams: row x, stream r is the point's row 4 x + r; the columns from 2048. -/
theorem blk4 (t : Fin cfg0.N) (x : Fin 64) (r : Fin 4) (e : Fin 512) (h1 : r.val * 512 + e.val < 2048) (h2 : x.val * 4 + r.val < 256) (h3 : 2048 + e.val < 5632) :
    iblk m c 4 t (ix2 x ⟨r.val * 512 + e.val, h1⟩) = aD m c (ix2 (row t ⟨x.val * 4 + r.val, h2⟩) ⟨2048 + e.val, h3⟩) := by
  refine (congrArg (V m c main_v8) (emb4 t x _)).trans ?_
  rw [V4]
  have ht : t.val < 8 := lt_of_lt_of_eq t.isLt points
  refine (Strided.unview4 _ _ _ r e h1 (by show (t.val * 64 + x.val) * 4 + r.val < 2048; omega)).trans ((cols_at m c 2048 _ _ e h3).trans ?_)
  exact congrArg (fun k => aD m c (ix2 k ⟨2048 + e.val, h3⟩)) (Fin.ext (by show (t.val * 64 + x.val) * 4 + r.val = t.val * 256 + (x.val * 4 + r.val); omega))

theorem V5 : V m c main_v10 = shapeCast S128x8192 (cols m c 2560 slices_S2048x5632_S2048x512_0_2560) shapeCasts_S2048x512_S128x8192 := by
  unfold_abbrev_sides
  after_reads_simp
  rfl

/-- A piece's block of 16 streams: row x, stream r is the point's row 16 x + r; the columns from 2560. -/
theorem blk5 (t : Fin cfg0.N) (x : Fin 16) (r : Fin 16) (e : Fin 512) (h1 : r.val * 512 + e.val < 8192) (h2 : x.val * 16 + r.val < 256) (h3 : 2560 + e.val < 5632) :
    iblk m c 5 t (ix2 x ⟨r.val * 512 + e.val, h1⟩) = aD m c (ix2 (row t ⟨x.val * 16 + r.val, h2⟩) ⟨2560 + e.val, h3⟩) := by
  refine (congrArg (V m c main_v10) (emb5 t x _)).trans ?_
  rw [V5]
  have ht : t.val < 8 := lt_of_lt_of_eq t.isLt points
  refine (Strided.unview16 _ _ _ r e h1 (by show (t.val * 16 + x.val) * 16 + r.val < 2048; omega)).trans ((cols_at m c 2560 _ _ e h3).trans ?_)
  exact congrArg (fun k => aD m c (ix2 k ⟨2560 + e.val, h3⟩)) (Fin.ext (by show (t.val * 16 + x.val) * 16 + r.val = t.val * 256 + (x.val * 16 + r.val); omega))

theorem V6 : V m c main_v11 = cols m c 3072 slices_S2048x5632_S2048x512_0_3072 := by
  unfold_abbrev_sides
  after_reads_simp

/-- A piece's block: the point's rows, the columns from 3072. -/
theorem blk6 (t : Fin cfg0.N) (x : Fin 256) (l : Fin 512) (hl : 3072 + l.val < 5632) :
    iblk m c 6 t (ix2 x l) = aD m c (ix2 (row t x) ⟨3072 + l.val, hl⟩) := by
  refine (congrArg (V m c main_v11) (emb6 t x l)).trans ?_
  rw [V6]
  exact cols_at m c 3072 _ _ l hl

theorem V7 : V m c main_v13 = shapeCast S512x2048 (cols m c 3584 slices_S2048x5632_S2048x512_0_3584) shapeCasts_S2048x512_S512x2048 := by
  unfold_abbrev_sides
  after_reads_simp
  rfl

/-- A piece's block of 4 streams: row x, stream r is the point's row 4 x + r; the columns from 3584. -/
theorem blk7 (t : Fin cfg0.N) (x : Fin 64) (r : Fin 4) (e : Fin 512) (h1 : r.val * 512 + e.val < 2048) (h2 : x.val * 4 + r.val < 256) (h3 : 3584 + e.val < 5632) :
    iblk m c 7 t (ix2 x ⟨r.val * 512 + e.val, h1⟩) = aD m c (ix2 (row t ⟨x.val * 4 + r.val, h2⟩) ⟨3584 + e.val, h3⟩) := by
  refine (congrArg (V m c main_v13) (emb7 t x _)).trans ?_
  rw [V7]
  have ht : t.val < 8 := lt_of_lt_of_eq t.isLt points
  refine (Strided.unview4 _ _ _ r e h1 (by show (t.val * 64 + x.val) * 4 + r.val < 2048; omega)).trans ((cols_at m c 3584 _ _ e h3).trans ?_)
  exact congrArg (fun k => aD m c (ix2 k ⟨3584 + e.val, h3⟩)) (Fin.ext (by show (t.val * 64 + x.val) * 4 + r.val = t.val * 256 + (x.val * 4 + r.val); omega))

theorem V8 : V m c main_v15 = shapeCast S128x8192 (cols m c 4096 slices_S2048x5632_S2048x512_0_4096) shapeCasts_S2048x512_S128x8192 := by
  unfold_abbrev_sides
  after_reads_simp
  rfl

/-- A piece's block of 16 streams: row x, stream r is the point's row 16 x + r; the columns from 4096. -/
theorem blk8 (t : Fin cfg0.N) (x : Fin 16) (r : Fin 16) (e : Fin 512) (h1 : r.val * 512 + e.val < 8192) (h2 : x.val * 16 + r.val < 256) (h3 : 4096 + e.val < 5632) :
    iblk m c 8 t (ix2 x ⟨r.val * 512 + e.val, h1⟩) = aD m c (ix2 (row t ⟨x.val * 16 + r.val, h2⟩) ⟨4096 + e.val, h3⟩) := by
  refine (congrArg (V m c main_v15) (emb8 t x _)).trans ?_
  rw [V8]
  have ht : t.val < 8 := lt_of_lt_of_eq t.isLt points
  refine (Strided.unview16 _ _ _ r e h1 (by show (t.val * 16 + x.val) * 16 + r.val < 2048; omega)).trans ((cols_at m c 4096 _ _ e h3).trans ?_)
  exact congrArg (fun k => aD m c (ix2 k ⟨4096 + e.val, h3⟩)) (Fin.ext (by show (t.val * 16 + x.val) * 16 + r.val = t.val * 256 + (x.val * 16 + r.val); omega))

theorem V9 : V m c main_v16 = extractStridedSlice S2048x256 ![0, 4608] (truncf (F := Ideal) .bf16 (aD m c) bitsLt_bf16_f32) slices_S2048x5632_S2048x256_0_4608 := by
  unfold_abbrev_sides
  after_reads_simp

/-- A piece's block: the point's rows, the columns from 4608. -/
theorem blk9 (t : Fin cfg0.N) (x : Fin 256) (l : Fin 256) (hl : 4608 + l.val < 5632) :
    iblk m c 9 t (ix2 x l) = aD m c (ix2 (row t x) ⟨4608 + l.val, hl⟩) := by
  refine (congrArg (V m c main_v16) (emb9 t x l)).trans ?_
  rw [V9]
  pointwise

theorem V10 : V m c main_v17 = extractStridedSlice S2048x768 ![0, 4864] (truncf (F := Ideal) .bf16 (aD m c) bitsLt_bf16_f32) slices_S2048x5632_S2048x768_0_4864 := by
  unfold_abbrev_sides
  after_reads_simp

/-- A piece's block: the point's rows, the columns from 4864. -/
theorem blk10 (t : Fin cfg0.N) (x : Fin 256) (l : Fin 768) (hl : 4864 + l.val < 5632) :
    iblk m c 10 t (ix2 x l) = aD m c (ix2 (row t x) ⟨4864 + l.val, hl⟩) := by
  refine (congrArg (V m c main_v17) (emb10 t x l)).trans ?_
  rw [V10]
  pointwise

theorem V11 : V m c main_v20 = truncf (F := Ideal) .bf16 (transpose S8x1024x704 [1, 0, 2] (shapeCast S1024x8x704 (aW m c) shapeCasts_S1024x5632_S1024x8x704) transposes_S1024x8x704_S8x1024x704_1_0_2) bitsLt_bf16_f32 := by
  unfold_abbrev_sides
  after_reads_simp
  rfl

/-- The weights' block: the devices' shares of the columns. -/
theorem blk11 (t : Fin cfg0.N) (s : Fin 8) (k : Fin 1024) (j : Fin 704) (h : s.val * 704 + j.val < 5632) :
    iblk m c 11 t (ix3 s k j) = aW m c (ix2 k ⟨s.val * 704 + j.val, h⟩) := by
  refine (congrArg (V m c main_v20) (emb11 t s k j)).trans ?_
  rw [V11]
  pointwise

theorem blk12 (t : Fin cfg0.N) (x : Fin 256) (l : Fin 1024) : iblk m c 12 t (ix2 x l) = aH m c (ix2 (row t x) l) :=
  (congrArg (V m c main_arg0) (emb12 t x l)).trans (by rw [V_main_arg0])

theorem blk13 (t : Fin cfg0.N) (l : Fin 1024) : iblk m c 13 t (ix2 0 l) = aG m c (ix2 0 l) :=
  (congrArg (V m c main_arg1) (emb13 t l)).trans (by rw [V_main_arg1])

theorem blk14 (t : Fin cfg0.N) (x : Fin 256) (l : Fin 1024) : iblk m c 14 t (ix2 x l) = aR m c (ix2 (row t x) l) :=
  (congrArg (V m c main_arg3) (emb14 t x l)).trans (by rw [V_main_arg3])

/-- The assembled cotangent of a grid point: the point's rows. -/
def rowsD (t : Fin cfg0.N) : S256x5632.Idx → EReal := fun i => aD m c (ix2 (row t (i 0)) (i 1))

theorem slab_lt {o : ℕ} (ho : o + 512 ≤ 5632) (y : Strided.Buf4.Idx) : o + ((y 0).val * 128 + (y 2).val) < 5632 := by
  have h0 : (y 0).val < 4 := (y 0).isLt
  have h2 : (y 2).val < 128 := (y 2).isLt
  omega

/-- A piece in the buffer of four slabs: the point's rows, the piece's columns by slab and lane. -/
def slabD (t : Fin cfg0.N) (o : ℕ) (ho : o + 512 ≤ 5632) : Strided.Buf4.Idx → EReal :=
  fun y => aD m c (ix2 (row t (y 1)) ⟨o + ((y 0).val * 128 + (y 2).val), slab_lt ho y⟩)

theorem slab_row (t : Fin cfg0.N) (o : ℕ) (ho : o + 512 ≤ 5632) (x : Fin 256) (l : Fin 512) (hl : o + l.val < 5632)
    (h1 : l.val / 128 < 4) (h2 : l.val % 128 < 128) :
    slabD m c t o ho (ix3 ⟨l.val / 128, h1⟩ x ⟨l.val % 128, h2⟩) = rowsD m c t (ix2 x ⟨o + l.val, hl⟩) :=
  congrArg (fun k => aD m c (ix2 (row t x) k)) (Fin.ext (by show o + (l.val / 128 * 128 + l.val % 128) = o + l.val; omega))

theorem lane4_lt {o s r : ℕ} (hs : s < 4) (hr : r < 4) (ho : o = r * 512 + s * 128) (l : Fin 128) : o + l.val < 2048 := by omega
theorem lane16_lt {o s r : ℕ} (hs : s < 4) (hr : r < 16) (ho : o = r * 512 + s * 128) (l : Fin 128) : o + l.val < 8192 := by omega

/-- One store of a piece of 4 streams: slab `s` of stream `r` goes to every 4-th row of the slab, from row `r` on. -/
theorem store4 (t : Fin cfg0.N) {X : Vec Ideal S64x2048 .bf16} {o : ℕ} (ho : o + 512 ≤ 5632)
    (hX : ∀ (x : Fin 64) (r : Fin 4) (e : Fin 512) (h1 : r.val * 512 + e.val < 2048) (h2 : x.val * 4 + r.val < 256) (h3 : o + e.val < 5632),
      X (ix2 x ⟨r.val * 512 + e.val, h1⟩) = aD m c (ix2 (row t ⟨x.val * 4 + r.val, h2⟩) ⟨o + e.val, h3⟩))
    {s r n p : ℕ} {L : List (View.Piece (Elt Ideal) S4x256x128 .f32)}
    {inb : ∀ a, (![1, 64, 128] : Fin 3 → ℕ) a = 0 ∨ (![s, r, 0] : Fin 3 → ℕ) a + (![1, 4, 1] : Fin 3 → ℕ) a * ((![1, 64, 128] : Fin 3 → ℕ) a - 1) < S4x256x128.size a}
    {pos : ∀ a, 0 < (![1, 4, 1] : Fin 3 → ℕ) a} {inp : ∀ k, (![0, p] : Fin 2 → ℕ) k + (![64, 128] : Fin 2 → ℕ) k ≤ S64x2048.size k}
    {v : View sig .tc .vmem S64x2048 .bf16} {U : BufTy.Contents (Elt Ideal) v.ty} (hU : View.read (Elt Ideal) v U = X)
    (hL : Strided.Slabs 4 n (slabD m c t o ho) L) (hs : s < 4) (hr : r < 4) (hp : p = r * 512 + s * 128) (hn : r * 4 + s = n) :
    Strided.Slabs 4 (n + 1) (slabD m c t o ho)
      (⟨⟨(⟨![s, r, 0], ![1, 64, 128], ![1, 4, 1], inb⟩ : LoadRect S4x256x128), pos⟩,
        shapeCast S1x64x128 (extf (F := Ideal) .f32 (shapeCast S64x128 (View.readAt (Elt Ideal) v (Rect.unit (s := S64x2048) ![0, p] ![64, 128] inp).toLoadRect U) shapeCasts_S64x128_S64x128) bitsLt_bf16_f32) shapeCasts_S64x128_S1x64x128⟩ :: L) := by
  refine Strided.Slabs.cons inb pos hs hr rfl hn hL fun x l hx => ?_
  rw [View.readAt_eq_ld, hU]
  refine (Strided.band4 _ _ _ X p inp x l (lane4_lt hs hr hp l)).trans ?_
  subst hp
  refine (congrArg (fun k => X (ix2 x k)) (Fin.ext (by show r * 512 + s * 128 + l.val = r * 512 + (s * 128 + l.val); omega))).trans
    (hX x ⟨r, hr⟩ ⟨s * 128 + l.val, by omega⟩ (by show r * 512 + (s * 128 + l.val) < 2048; omega) hx (by show o + (s * 128 + l.val) < 5632; omega))

/-- One store of a piece of 16 streams: slab `s` of stream `r` goes to every 16-th row of the slab, from row `r` on. -/
theorem store16 (t : Fin cfg0.N) {X : Vec Ideal S16x8192 .bf16} {o : ℕ} (ho : o + 512 ≤ 5632)
    (hX : ∀ (x : Fin 16) (r : Fin 16) (e : Fin 512) (h1 : r.val * 512 + e.val < 8192) (h2 : x.val * 16 + r.val < 256) (h3 : o + e.val < 5632),
      X (ix2 x ⟨r.val * 512 + e.val, h1⟩) = aD m c (ix2 (row t ⟨x.val * 16 + r.val, h2⟩) ⟨o + e.val, h3⟩))
    {s r n p : ℕ} {L : List (View.Piece (Elt Ideal) S4x256x128 .f32)}
    {inb : ∀ a, (![1, 16, 128] : Fin 3 → ℕ) a = 0 ∨ (![s, r, 0] : Fin 3 → ℕ) a + (![1, 16, 1] : Fin 3 → ℕ) a * ((![1, 16, 128] : Fin 3 → ℕ) a - 1) < S4x256x128.size a}
    {pos : ∀ a, 0 < (![1, 16, 1] : Fin 3 → ℕ) a} {inp : ∀ k, (![0, p] : Fin 2 → ℕ) k + (![16, 128] : Fin 2 → ℕ) k ≤ S16x8192.size k}
    {v : View sig .tc .vmem S16x8192 .bf16} {U : BufTy.Contents (Elt Ideal) v.ty} (hU : View.read (Elt Ideal) v U = X)
    (hL : Strided.Slabs 16 n (slabD m c t o ho) L) (hs : s < 4) (hr : r < 16) (hp : p = r * 512 + s * 128) (hn : r * 4 + s = n) :
    Strided.Slabs 16 (n + 1) (slabD m c t o ho)
      (⟨⟨(⟨![s, r, 0], ![1, 16, 128], ![1, 16, 1], inb⟩ : LoadRect S4x256x128), pos⟩,
        shapeCast S1x16x128 (extf (F := Ideal) .f32 (shapeCast S16x128 (View.readAt (Elt Ideal) v (Rect.unit (s := S16x8192) ![0, p] ![16, 128] inp).toLoadRect U) shapeCasts_S16x128_S16x128) bitsLt_bf16_f32) shapeCasts_S16x128_S1x16x128⟩ :: L) := by
  refine Strided.Slabs.cons inb pos hs hr rfl hn hL fun x l hx => ?_
  rw [View.readAt_eq_ld, hU]
  refine (Strided.band16 _ _ _ X p inp x l (lane16_lt hs hr hp l)).trans ?_
  subst hp
  refine (congrArg (fun k => X (ix2 x k)) (Fin.ext (by show r * 512 + s * 128 + l.val = r * 512 + (s * 128 + l.val); omega))).trans
    (hX x ⟨r, hr⟩ ⟨s * 128 + l.val, by omega⟩ (by show r * 512 + (s * 128 + l.val) < 8192; omega) hx (by show o + (s * 128 + l.val) < 5632; omega))

/-- A share with its leading axis dropped. -/
theorem part (Y : Vec Ideal S1x1024x704 .bf16) (k : Fin 1024) (j : Fin 704) :
    shapeCast S1024x704 Y shapeCasts_S1x1024x704_S1024x704 (ix2 k j) = Y (ix3 0 k j) := by
  pointwise

/-- One share of an array of shares. -/
theorem share (X : Vec Ideal S8x1024x704 .bf16) (s : Fin 8)
    (inb : ∀ a, (![s.val, 0, 0] : Fin 3 → ℕ) a + (![1, 1024, 704] : Fin 3 → ℕ) a ≤ S8x1024x704.size a) (k : Fin 1024) (j : Fin 704) :
    View.ld X (Rect.unit ![s.val, 0, 0] ![1, 1024, 704] inb) (ix3 0 k j) = X (ix3 s k j) := by
  refine congrArg X ?_
  funext a
  match a with
  | ⟨0, _⟩ => exact Fin.ext (by simp)
  | ⟨1, _⟩ => exact Fin.ext (by simp)
  | ⟨2, _⟩ => exact Fin.ext (by simp)

/-- One share as the kernel stores it. -/
theorem share_at (t : Fin cfg0.N) (s : Fin 8) (inb : ∀ a, (![s.val, 0, 0] : Fin 3 → ℕ) a + (![1, 1024, 704] : Fin 3 → ℕ) a ≤ S8x1024x704.size a)
    (k : Fin 1024) (j : Fin 704) (h : s.val * 704 + j.val < 5632) :
    shapeCast S1024x704 (shapeCast S1024x704 (View.ld (iblk m c 11 t) (Rect.unit ![s.val, 0, 0] ![1, 1024, 704] inb)) shapeCasts_S1x1024x704_S1024x704) shapeCasts_S1024x704_S1024x704 (ix2 k j)
      = aW m c (ix2 k ⟨s.val * 704 + j.val, h⟩) := by
  refine Eq.trans ?_ ((share (iblk m c 11 t) s inb k j).trans (blk11 m c t s k j h))
  rw [shapeCast_self]
  exact part _ k j

end Cert.NormAttn

end
-- ==== Proof.NormAttnOut.lean ====
/- What one grid point of the norm's gradient (the attention layer's) computes: its blocks, the assembled cotangent, the
   joined weights and its outputs. -/
module

public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.NormAttn
public import proofs.«01_k».proof.Proof.Cols
public import proofs.«01_k».proof.Proof.Strided
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormAttn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The eight stores that join the weights. -/
theorem fills_joined (t : Fin cfg0.N) : Cols.Fills (aW m c)
    [⟨Rect.unit ![0, 4928] ![1024, 704] inb_S1024x5632_S1024x704_0_4928, k0_pay12 (F := Ideal) (View.ld (iblk m c 11 t) (Rect.unit ![7, 0, 0] ![1, 1024, 704] inb_S8x1024x704_S1x1024x704_7_0_0))⟩,
      ⟨Rect.unit ![0, 4224] ![1024, 704] inb_S1024x5632_S1024x704_0_4224, k0_pay11 (F := Ideal) (View.ld (iblk m c 11 t) (Rect.unit ![6, 0, 0] ![1, 1024, 704] inb_S8x1024x704_S1x1024x704_6_0_0))⟩,
      ⟨Rect.unit ![0, 3520] ![1024, 704] inb_S1024x5632_S1024x704_0_3520, k0_pay10 (F := Ideal) (shapeCast S1024x704 (View.ld (iblk m c 11 t) (Rect.unit ![5, 0, 0] ![1, 1024, 704] inb_S8x1024x704_S1x1024x704_5_0_0)) shapeCasts_S1x1024x704_S1024x704)⟩,
      ⟨Rect.unit ![0, 2816] ![1024, 704] inb_S1024x5632_S1024x704_0_2816, shapeCast S1024x704 (shapeCast S1024x704 (View.ld (iblk m c 11 t) (Rect.unit ![4, 0, 0] ![1, 1024, 704] inb_S8x1024x704_S1x1024x704_4_0_0)) shapeCasts_S1x1024x704_S1024x704) shapeCasts_S1024x704_S1024x704⟩,
      ⟨Rect.unit ![0, 2112] ![1024, 704] inb_S1024x5632_S1024x704_0_2112, shapeCast S1024x704 (shapeCast S1024x704 (View.ld (iblk m c 11 t) (Rect.unit ![3, 0, 0] ![1, 1024, 704] inb_S8x1024x704_S1x1024x704_3_0_0)) shapeCasts_S1x1024x704_S1024x704) shapeCasts_S1024x704_S1024x704⟩,
      ⟨Rect.unit ![0, 1408] ![1024, 704] inb_S1024x5632_S1024x704_0_1408, shapeCast S1024x704 (shapeCast S1024x704 (View.ld (iblk m c 11 t) (Rect.unit ![2, 0, 0] ![1, 1024, 704] inb_S8x1024x704_S1x1024x704_2_0_0)) shapeCasts_S1x1024x704_S1024x704) shapeCasts_S1024x704_S1024x704⟩,
      ⟨Rect.unit ![0, 704] ![1024, 704] inb_S1024x5632_S1024x704_0_704, shapeCast S1024x704 (shapeCast S1024x704 (View.ld (iblk m c 11 t) (Rect.unit ![1, 0, 0] ![1, 1024, 704] inb_S8x1024x704_S1x1024x704_1_0_0)) shapeCasts_S1x1024x704_S1024x704) shapeCasts_S1024x704_S1024x704⟩,
      ⟨Rect.unit ![0, 0] ![1024, 704] inb_S1024x5632_S1024x704_0_0, shapeCast S1024x704 (shapeCast S1024x704 (View.ld (iblk m c 11 t) (Rect.unit ![0, 0, 0] ![1, 1024, 704] inb_S8x1024x704_S1x1024x704_0_0_0)) shapeCasts_S1x1024x704_S1024x704) shapeCasts_S1024x704_S1024x704⟩] 5632 := by
  refine Cols.Fills.cons _ (Cols.Fills.cons _ (Cols.Fills.cons _ (Cols.Fills.cons _ (Cols.Fills.cons _ (Cols.Fills.cons _ (Cols.Fills.cons _ (Cols.Fills.cons _ (Cols.Fills.nil _) ?_) ?_) ?_) ?_) ?_) ?_) ?_) ?_
  · exact fun x l hl => share_at m c t 0 (by decide) x l hl
  · exact fun x l hl => share_at m c t 1 (by decide) x l hl
  · exact fun x l hl => share_at m c t 2 (by decide) x l hl
  · exact fun x l hl => share_at m c t 3 (by decide) x l hl
  · exact fun x l hl => share_at m c t 4 (by decide) x l hl
  · exact fun x l hl => share_at m c t 5 (by decide) x l hl
  · exact fun x l hl => share_at m c t 6 (by decide) x l hl
  · exact fun x l hl => share_at m c t 7 (by decide) x l hl

theorem joined_A (t : Fin cfg0.N) (h : t.val % 8 = 0) : (outsAt0 m c t.val t.isLt).2.2 = aW m c := by
  rw [outsAt0_A m c t h h]
  dsimp only
  frame_open
  simp (disch := decide) only [↓ View.readCov_skip, ↓ View.readCov_cons_toLoadRect, ↓ View.readCov_fill]
  frame_out
  exact Cols.Fills.canon (fills_joined m c t)

/-- The joined weights stay from point to point. -/
theorem joined : ∀ (n : ℕ) (h : n < cfg0.N), (outsAt0 m c n h).2.2 = aW m c
  | 0, h => joined_A m c ⟨0, h⟩ rfl
  | n + 1, h => by
      have hn : n + 1 < 8 := lt_of_lt_of_eq h points
      have e := outsAt0_B m c ⟨n + 1, h⟩ (by show ¬ ((n + 1) % 8 = 0); omega) (by show ¬ ((n + 1) % 8 = 0); omega)
      dsimp only at e
      rw [e]
      frame_open
      exact joined n _

set_option maxHeartbeats 4000000 in
/-- What is left of the input's gradient and of the gain's, at the first point, where the gain's sum starts from zero. -/
theorem outs_A (t : Fin cfg0.N) (h : t.val % 8 = 0) :
    (outsAt0 m c t.val t.isLt).1 = k0_pay3 (k0_pay300 (rowsD m c t) (aW m c)) (iblk m c 12 t) (k0_pay301 (iblk m c 12 t)) (k0_pay302 (F := Ideal)) (iblk m c 13 t) (iblk m c 14 t)
      ∧ (outsAt0 m c t.val t.isLt).2.1 = k0_pay2 (k0_pay300 (rowsD m c t) (aW m c)) (iblk m c 12 t) (k0_pay301 (iblk m c 12 t)) (k0_pay302 (F := Ideal)) (k0_pay13 (F := Ideal)) := by
  rw [outsAt0_A m c t h h]
  dsimp only
  frame_open
  rw [Cols.Fills.read (G := rowsD m c t) ?rows]
  case rows =>
    refine Cols.Fills.cons _ (Cols.Fills.cons _ (Cols.Fills.cons _ (Cols.Fills.cons _ (Cols.Fills.cons _ (Cols.Fills.cons _ (Cols.Fills.cons _ (Cols.Fills.cons _ (Cols.Fills.cons _ (Cols.Fills.cons _ (Cols.Fills.cons _ (Cols.Fills.nil _) ?_) ?_) ?_) ?_) ?_) ?_) ?_) ?_) ?_) ?_) ?_
    · intro x l hl
      rw [View.readAt_eq_ld, Memref.IsWhole.read_unread, View.ld_unit_zero (by funext k; match k with | ⟨0, _⟩ => rfl | ⟨1, _⟩ => rfl)]
      refine Eq.trans ?_ (blk0 m c t x l hl)
      pointwise [k0_pay14]
    · intro x l hl
      refine (Strided.Slabs.join (d := 4) (n := 16) (G := slabD m c t 512 (by decide)) ?_ (by decide) rfl _ _ _ _ _ _ _ _ _ x l).trans (slab_row m c t 512 _ x l hl _ _)
      iterate 16 refine store4 m c t (by decide) (blk1 m c t) (Memref.IsWhole.read_unread _ _) ?_ (by decide) (by decide) rfl rfl
      exact Strided.Slabs.nil _ _ _
    · intro x l hl
      refine (Strided.Slabs.join (d := 16) (n := 64) (G := slabD m c t 1024 (by decide)) ?_ (by decide) rfl _ _ _ _ _ _ _ _ _ x l).trans (slab_row m c t 1024 _ x l hl _ _)
      iterate 64 refine store16 m c t (by decide) (blk2 m c t) (Memref.IsWhole.read_unread _ _) ?_ (by decide) (by decide) rfl rfl
      exact Strided.Slabs.nil _ _ _
    · intro x l hl
      rw [View.readAt_eq_ld, Memref.IsWhole.read_unread, View.ld_unit_zero (by funext k; match k with | ⟨0, _⟩ => rfl | ⟨1, _⟩ => rfl)]
      refine Eq.trans ?_ (blk3 m c t x l hl)
      pointwise [k0_pay111]
    · intro x l hl
      refine (Strided.Slabs.join (d := 4) (n := 16) (G := slabD m c t 2048 (by decide)) ?_ (by decide) rfl _ _ _ _ _ _ _ _ _ x l).trans (slab_row m c t 2048 _ x l hl _ _)
      iterate 16 refine store4 m c t (by decide) (blk4 m c t) (Memref.IsWhole.read_unread _ _) ?_ (by decide) (by decide) rfl rfl
      exact Strided.Slabs.nil _ _ _
    · intro x l hl
      refine (Strided.Slabs.join (d := 16) (n := 64) (G := slabD m c t 2560 (by decide)) ?_ (by decide) rfl _ _ _ _ _ _ _ _ _ x l).trans (slab_row m c t 2560 _ x l hl _ _)
      iterate 64 refine store16 m c t (by decide) (blk5 m c t) (Memref.IsWhole.read_unread _ _) ?_ (by decide) (by decide) rfl rfl
      exact Strided.Slabs.nil _ _ _
    · intro x l hl
      rw [View.readAt_eq_ld, Memref.IsWhole.read_unread, View.ld_unit_zero (by funext k; match k with | ⟨0, _⟩ => rfl | ⟨1, _⟩ => rfl)]
      refine Eq.trans ?_ (blk6 m c t x l hl)
      pointwise [k0_pay200]
    · intro x l hl
      refine (Strided.Slabs.join (d := 4) (n := 16) (G := slabD m c t 3584 (by decide)) ?_ (by decide) rfl _ _ _ _ _ _ _ _ _ x l).trans (slab_row m c t 3584 _ x l hl _ _)
      iterate 16 refine store4 m c t (by decide) (blk7 m c t) (Memref.IsWhole.read_unread _ _) ?_ (by decide) (by decide) rfl rfl
      exact Strided.Slabs.nil _ _ _
    · intro x l hl
      refine (Strided.Slabs.join (d := 16) (n := 64) (G := slabD m c t 4096 (by decide)) ?_ (by decide) rfl _ _ _ _ _ _ _ _ _ x l).trans (slab_row m c t 4096 _ x l hl _ _)
      iterate 64 refine store16 m c t (by decide) (blk8 m c t) (Memref.IsWhole.read_unread _ _) ?_ (by decide) (by decide) rfl rfl
      exact Strided.Slabs.nil _ _ _
    · intro x l hl
      rw [View.readAt_eq_ld, Memref.IsWhole.read_unread, View.ld_unit_zero (by funext k; match k with | ⟨0, _⟩ => rfl | ⟨1, _⟩ => rfl)]
      refine Eq.trans ?_ (blk9 m c t x l hl)
      pointwise [k0_pay298]
    · intro x l hl
      rw [View.readAt_eq_ld, Memref.IsWhole.read_unread, View.ld_unit_zero (by funext k; match k with | ⟨0, _⟩ => rfl | ⟨1, _⟩ => rfl)]
      refine Eq.trans ?_ (blk10 m c t x l hl)
      pointwise [k0_pay299]
  rw [Cols.Fills.read (G := aW m c) ?joined]
  case joined =>
    refine Cols.Fills.cons _ (Cols.Fills.cons _ (Cols.Fills.cons _ (Cols.Fills.cons _ (Cols.Fills.cons _ (Cols.Fills.cons _ (Cols.Fills.cons _ (Cols.Fills.cons _ (Cols.Fills.nil _) ?_) ?_) ?_) ?_) ?_) ?_) ?_) ?_
    · intro x l hl
      rw [View.readAt_eq_ld, Memref.IsWhole.read_unread]
      exact share_at m c t 0 (by decide) x l hl
    · intro x l hl
      rw [View.readAt_eq_ld, Memref.IsWhole.read_unread]
      exact share_at m c t 1 (by decide) x l hl
    · intro x l hl
      rw [View.readAt_eq_ld, Memref.IsWhole.read_unread]
      exact share_at m c t 2 (by decide) x l hl
    · intro x l hl
      rw [View.readAt_eq_ld, Memref.IsWhole.read_unread]
      exact share_at m c t 3 (by decide) x l hl
    · intro x l hl
      rw [View.readAt_eq_ld, Memref.IsWhole.read_unread]
      exact share_at m c t 4 (by decide) x l hl
    · intro x l hl
      rw [View.readAt_eq_ld, Memref.IsWhole.read_unread]
      exact share_at m c t 5 (by decide) x l hl
    · intro x l hl
      rw [View.readAt_eq_ld, Memref.IsWhole.read_unread]
      exact share_at m c t 6 (by decide) x l hl
    · intro x l hl
      rw [View.readAt_eq_ld, Memref.IsWhole.read_unread]
      exact share_at m c t 7 (by decide) x l hl
  simp (disch := decide) only [↓ View.readCov_skip, ↓ View.readCov_cons_toLoadRect, ↓ View.readCov_fill]
  frame_out
  exact ⟨trivial, trivial⟩

set_option maxHeartbeats 4000000 in
/-- What is left of the input's gradient and of the gain's, at a later point, where the gain's sum goes on from the point before. -/
theorem outs_B (t : Fin cfg0.N) (h : ¬ t.val % 8 = 0) (h' : t.val - 1 < cfg0.N) :
    (outsAt0 m c t.val t.isLt).1 = k0_pay3 (k0_pay300 (rowsD m c t) (aW m c)) (iblk m c 12 t) (k0_pay301 (iblk m c 12 t)) (k0_pay302 (F := Ideal)) (iblk m c 13 t) (iblk m c 14 t)
      ∧ (outsAt0 m c t.val t.isLt).2.1 = k0_pay2 (k0_pay300 (rowsD m c t) (aW m c)) (iblk m c 12 t) (k0_pay301 (iblk m c 12 t)) (k0_pay302 (F := Ideal)) (outsAt0 m c (t.val - 1) h').2.1 := by
  rw [outsAt0_B m c t h h]
  dsimp only
  frame_open
  rw [Cols.Fills.read (G := rowsD m c t) ?rows]
  case rows =>
    refine Cols.Fills.cons _ (Cols.Fills.cons _ (Cols.Fills.cons _ (Cols.Fills.cons _ (Cols.Fills.cons _ (Cols.Fills.cons _ (Cols.Fills.cons _ (Cols.Fills.cons _ (Cols.Fills.cons _ (Cols.Fills.cons _ (Cols.Fills.cons _ (Cols.Fills.nil _) ?_) ?_) ?_) ?_) ?_) ?_) ?_) ?_) ?_) ?_) ?_
    · intro x l hl
      rw [View.readAt_eq_ld, Memref.IsWhole.read_unread, View.ld_unit_zero (by funext k; match k with | ⟨0, _⟩ => rfl | ⟨1, _⟩ => rfl)]
      refine Eq.trans ?_ (blk0 m c t x l hl)
      pointwise [k0_pay14]
    · intro x l hl
      refine (Strided.Slabs.join (d := 4) (n := 16) (G := slabD m c t 512 (by decide)) ?_ (by decide) rfl _ _ _ _ _ _ _ _ _ x l).trans (slab_row m c t 512 _ x l hl _ _)
      iterate 16 refine store4 m c t (by decide) (blk1 m c t) (Memref.IsWhole.read_unread _ _) ?_ (by decide) (by decide) rfl rfl
      exact Strided.Slabs.nil _ _ _
    · intro x l hl
      refine (Strided.Slabs.join (d := 16) (n := 64) (G := slabD m c t 1024 (by decide)) ?_ (by decide) rfl _ _ _ _ _ _ _ _ _ x l).trans (slab_row m c t 1024 _ x l hl _ _)
      iterate 64 refine store16 m c t (by decide) (blk2 m c t) (Memref.IsWhole.read_unread _ _) ?_ (by decide) (by decide) rfl rfl
      exact Strided.Slabs.nil _ _ _
    · intro x l hl
      rw [View.readAt_eq_ld, Memref.IsWhole.read_unread, View.ld_unit_zero (by funext k; match k with | ⟨0, _⟩ => rfl | ⟨1, _⟩ => rfl)]
      refine Eq.trans ?_ (blk3 m c t x l hl)
      pointwise [k0_pay111]
    · intro x l hl
      refine (Strided.Slabs.join (d := 4) (n := 16) (G := slabD m c t 2048 (by decide)) ?_ (by decide) rfl _ _ _ _ _ _ _ _ _ x l).trans (slab_row m c t 2048 _ x l hl _ _)
      iterate 16 refine store4 m c t (by decide) (blk4 m c t) (Memref.IsWhole.read_unread _ _) ?_ (by decide) (by decide) rfl rfl
      exact Strided.Slabs.nil _ _ _
    · intro x l hl
      refine (Strided.Slabs.join (d := 16) (n := 64) (G := slabD m c t 2560 (by decide)) ?_ (by decide) rfl _ _ _ _ _ _ _ _ _ x l).trans (slab_row m c t 2560 _ x l hl _ _)
      iterate 64 refine store16 m c t (by decide) (blk5 m c t) (Memref.IsWhole.read_unread _ _) ?_ (by decide) (by decide) rfl rfl
      exact Strided.Slabs.nil _ _ _
    · intro x l hl
      rw [View.readAt_eq_ld, Memref.IsWhole.read_unread, View.ld_unit_zero (by funext k; match k with | ⟨0, _⟩ => rfl | ⟨1, _⟩ => rfl)]
      refine Eq.trans ?_ (blk6 m c t x l hl)
      pointwise [k0_pay200]
    · intro x l hl
      refine (Strided.Slabs.join (d := 4) (n := 16) (G := slabD m c t 3584 (by decide)) ?_ (by decide) rfl _ _ _ _ _ _ _ _ _ x l).trans (slab_row m c t 3584 _ x l hl _ _)
      iterate 16 refine store4 m c t (by decide) (blk7 m c t) (Memref.IsWhole.read_unread _ _) ?_ (by decide) (by decide) rfl rfl
      exact Strided.Slabs.nil _ _ _
    · intro x l hl
      refine (Strided.Slabs.join (d := 16) (n := 64) (G := slabD m c t 4096 (by decide)) ?_ (by decide) rfl _ _ _ _ _ _ _ _ _ x l).trans (slab_row m c t 4096 _ x l hl _ _)
      iterate 64 refine store16 m c t (by decide) (blk8 m c t) (Memref.IsWhole.read_unread _ _) ?_ (by decide) (by decide) rfl rfl
      exact Strided.Slabs.nil _ _ _
    · intro x l hl
      rw [View.readAt_eq_ld, Memref.IsWhole.read_unread, View.ld_unit_zero (by funext k; match k with | ⟨0, _⟩ => rfl | ⟨1, _⟩ => rfl)]
      refine Eq.trans ?_ (blk9 m c t x l hl)
      pointwise [k0_pay298]
    · intro x l hl
      rw [View.readAt_eq_ld, Memref.IsWhole.read_unread, View.ld_unit_zero (by funext k; match k with | ⟨0, _⟩ => rfl | ⟨1, _⟩ => rfl)]
      refine Eq.trans ?_ (blk10 m c t x l hl)
      pointwise [k0_pay299]
  simp (disch := decide) only [↓ View.readCov_skip, ↓ View.readCov_cons_toLoadRect, ↓ View.readCov_fill]
  frame_out
  rw [show View.read (Elt Ideal) (View.whole cc0_scratch2) _ = aW m c from ((Memref.isWhole_whole _).read_unread _).trans (joined m c _ _)]
  exact ⟨rfl, rfl⟩

theorem before (t : Fin cfg0.N) : t.val - 1 < cfg0.N := lt_of_le_of_lt (Nat.sub_le _ _) t.isLt

/-- What a grid point leaves of the input's gradient. -/
theorem out15 (t : Fin cfg0.N) : (outsAt0 m c t.val t.isLt).1 = k0_pay3 (k0_pay300 (rowsD m c t) (aW m c)) (iblk m c 12 t) (k0_pay301 (iblk m c 12 t)) (k0_pay302 (F := Ideal)) (iblk m c 13 t) (iblk m c 14 t) :=
  if h : t.val % 8 = 0 then (outs_A m c t h).1 else (outs_B m c t h (before t)).1

end Cert.NormAttn

end
-- ==== Proof.NormAttnForm.lean ====
/- The norm's gradient read entry by entry: what a grid point's arithmetic computes and what the reference's stages compute. -/
module

public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.NormAttn
public import proofs.«01_k».proof.Proof.Cols
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormAttn

open Cert.Kernel2Ideal Cert.Kernel2Ideal.Gen Idealize.ShloMosaic Idealize.ShloMosaic.TcCoe Idealize.SL.Sem

open Cert.NormGrad

/-- A block's cotangent of the normalised input: cotangent times weights. -/
theorem back_at (dp : Vec Ideal S256x5632 .bf16) (wj : Vec Ideal S1024x5632 .bf16) (x : Fin 256) (k : Fin 1024) :
    k0_pay300 dp wj (ix2 x k) = ∑ j : Fin 5632, dp (ix2 x j) * wj (ix2 k j) := by
  unfold k0_pay300
  pointwise

/-- A block of the input's gradient in the kernel's closed form. -/
theorem dh_at (dp : Vec Ideal S256x5632 .bf16) (wj : Vec Ideal S1024x5632 .bf16) (H : Vec Ideal S256x1024 .f32) (G : Vec Ideal S1x1024 .f32)
    (D : Vec Ideal S256x1024 .f32) (x : Fin 256) (k : Fin 1024) :
    k0_pay3 (k0_pay300 dp wj) H (k0_pay301 H) (k0_pay302 (F := Ideal)) G D (ix2 x k)
      = closedForm (fun k => H (ix2 x k)) (fun k => (∑ j : Fin 5632, dp (ix2 x j) * wj (ix2 k j)) * G (ix2 0 k)) (D (ix2 x k)) k := by
  unfold closedForm meanSq
  simp only [← back_at dp wj]
  unfold k0_pay3 k0_pay1 k0_pay301 k0_pay302
  generalize k0_pay300 dp wj = z
  pointwise

/-- What a block adds to the gain's gradient. -/
theorem gain_at (dp : Vec Ideal S256x5632 .bf16) (wj : Vec Ideal S1024x5632 .bf16) (H : Vec Ideal S256x1024 .f32) (A : Vec Ideal S1x1024 .f32) (k : Fin 1024) :
    k0_pay2 (k0_pay300 dp wj) H (k0_pay301 H) (k0_pay302 (F := Ideal)) A (ix2 0 k)
      = A (ix2 0 k) + ∑ x : Fin 256, (∑ j : Fin 5632, dp (ix2 x j) * wj (ix2 k j)) * (H (ix2 x k) * Ideal.rsqrt (meanSq fun k => H (ix2 x k))) := by
  unfold meanSq
  simp only [← back_at dp wj]
  unfold k0_pay2 k0_pay1 k0_pay301 k0_pay302
  generalize k0_pay300 dp wj = z
  pointwise

theorem zero_at (k : Fin 1024) : k0_pay13 (F := Ideal) (ix2 0 k) = 0 := by
  unfold k0_pay13
  pointwise

section Reference

open Cert.Reference2Ideal.Read

variable (h : FVec Ideal S2048x1024 .f32) (g : FVec Ideal S1x1024 .f32) (w : FVec Ideal S1024x5632 .f32) (r : FVec Ideal S2048x1024 .f32)
  (d : FVec Ideal S2048x5632 .f32)

/-- The reference's cotangent of the normalised input. -/
theorem ref_back (x : Fin 2048) (k : Fin 1024) : val_main_v16 (F := Ideal) w d (ix2 x k) = (∑ j : Fin 5632, d (ix2 x j) * w (ix2 k j) : EReal) := by
  unfold val_main_v16
  pointwise

/-- The reference's gradient of the input in the chain rule's form. -/
theorem ref_dh (x : Fin 2048) (k : Fin 1024) :
    val_main_v36 (F := Ideal) h g w r d (ix2 x k)
      = chainForm (fun k => h (ix2 x k)) (fun k => (∑ j : Fin 5632, d (ix2 x j) * w (ix2 k j) : EReal) * g (ix2 0 k)) (r (ix2 x k)) k := by
  unfold chainForm spread meanSq
  simp only [← ref_back w d]
  unfold val_main_v36 val_main_v35 val_main_v34 val_main_v33 val_main_v32 val_main_v31 val_main_v30 val_main_v29 val_main_v28 val_main_v27 val_main_v26 val_main_v25 val_main_v24 val_main_v23 val_main_v22 val_main_v21 val_main_v20
    val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  generalize val_main_v16 (F := Ideal) w d = z
  pointwise
  simp only [Fin.sum_univ_one]

/-- The reference's gradient of the gain. -/
theorem ref_gain (k : Fin 1024) :
    val_main_v19 (F := Ideal) h w d (ix2 0 k)
      = ∑ x : Fin 2048, (∑ j : Fin 5632, d (ix2 x j) * w (ix2 k j) : EReal) * (h (ix2 x k) * Ideal.rsqrt (meanSq fun k => h (ix2 x k))) := by
  unfold meanSq
  simp only [← ref_back w d]
  unfold val_main_v19 val_main_v18 val_main_v17 val_main_v12 val_main_v11 val_main_v7 val_main_v6 val_main_v5 val_main_v4 val_main_v3 val_main_v2 val_main_v1 val_main_v0 val_main_cst val_main_cst_0 val_main_cst_1 val_main_cst_3
  generalize val_main_v16 (F := Ideal) w d = z
  pointwise
  exact Finset.sum_congr rfl fun x _ => mul_comm _ _

end Reference

end Cert.NormAttn

end
-- ==== Proof.NormAttnResult.lean ====
/- The norm's gradient (the attention layer's): the arrays the kernel leaves are the reference's. -/
module

public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.NormAttnOut
public import proofs.«01_k».proof.Proof.NormAttnForm
public import proofs.«01_k».proof.Proof.Cols
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NormAttn

open Cert.Kernel2Ideal Cert.Kernel2Ideal.Gen Idealize.ShloMosaic Idealize.ShloMosaic.TcCoe Idealize.SL.Sem

variable (m : (ℓ : Loc nD τ sig) → Buf (Elt Ideal) ℓ) (c : Dev nD)

open Cert.NormGrad Cert.Reference2Ideal.Read

/-- A row of the layer's input. -/
abbrev hRow (x : Fin 2048) : Fin 1024 → EReal := fun k => aH m c (ix2 x k)

/-- The cotangent of the normalised input: the projection's cotangent times the weights. -/
abbrev back (x : Fin 2048) (k : Fin 1024) : EReal := ∑ j : Fin 5632, aD m c (ix2 x j) * aW m c (ix2 k j)

/-- What a position adds to the gain's gradient. -/
abbrev gainTerm (x : Fin 2048) (k : Fin 1024) : EReal := back m c x k * (aH m c (ix2 x k) * Ideal.rsqrt (meanSq (hRow m c x)))

/-- An entry of a point's block of the input's gradient, in the kernel's closed form. -/
theorem dh_block (t : Fin cfg0.N) (x : Fin 256) (k : Fin 1024) :
    (outsAt0 m c t.val t.isLt).1 (ix2 x k)
      = closedForm (hRow m c (row t x)) (fun k => back m c (row t x) k * aG m c (ix2 0 k)) (aR m c (ix2 (row t x) k)) k := by
  rw [out15]
  refine (dh_at _ _ _ _ _ _ _).trans ?_
  rw [blk14]
  refine congrArg₂ (fun H Y => closedForm H Y _ k) (funext fun l => blk12 m c t x l) (funext fun l => ?_)
  exact congrArg₂ (· * ·) rfl (blk13 m c t l)

/-- What a point adds to the gain's gradient. -/
theorem gain_step (t : Fin cfg0.N) (A : Vec Ideal S1x1024 .f32) (k : Fin 1024) :
    k0_pay2 (k0_pay300 (rowsD m c t) (aW m c)) (iblk m c 12 t) (k0_pay301 (iblk m c 12 t)) (k0_pay302 (F := Ideal)) A (ix2 0 k) = A (ix2 0 k) + ∑ x : Fin 256, gainTerm m c (row t x) k := by
  refine (gain_at _ _ _ _ _).trans (congrArg (A (ix2 0 k) + ·) (Finset.sum_congr rfl fun x _ => ?_))
  refine congrArg₂ (fun (a b : EReal) => back m c (row t x) k * (a * Ideal.rsqrt b)) (blk12 m c t x k) ?_
  exact congrArg meanSq (funext fun l => blk12 m c t x l)

/-- The gain's gradient after a point: the sum over the points so far. -/
theorem gain_sum (k : Fin 1024) : ∀ (n : ℕ) (h : n < cfg0.N),
    (outsAt0 m c n h).2.1 (ix2 0 k) = ∑ t ∈ (Finset.univ : Finset (Fin cfg0.N)).filter (fun t => t.val ≤ n), ∑ x : Fin 256, gainTerm m c (row t x) k
  | 0, h => by
      rw [(outs_A m c ⟨0, h⟩ rfl).2]
      refine (gain_step m c ⟨0, h⟩ _ k).trans ?_
      rw [zero_at, zero_add, show (Finset.univ : Finset (Fin cfg0.N)).filter (fun t => t.val ≤ 0) = {⟨0, h⟩} from by
        ext t
        rw [Finset.mem_filter, Finset.mem_singleton, Fin.ext_iff]
        simp]
      exact (Finset.sum_singleton _ _).symm
  | n + 1, h => by
      have hn : n + 1 < 8 := lt_of_lt_of_eq h points
      rw [(outs_B m c ⟨n + 1, h⟩ (by show ¬ ((n + 1) % 8 = 0); omega) (Nat.lt_of_succ_lt h)).2]
      refine (gain_step m c ⟨n + 1, h⟩ _ k).trans ?_
      have e := gain_sum k n (Nat.lt_of_succ_lt h)
      refine (congrArg (· + _) e).trans ?_
      rw [show (Finset.univ : Finset (Fin cfg0.N)).filter (fun t => t.val ≤ n + 1)
          = insert ⟨n + 1, h⟩ ((Finset.univ : Finset (Fin cfg0.N)).filter (fun t => t.val ≤ n)) from by
        ext t; simp [Fin.ext_iff]; omega]
      rw [Finset.sum_insert (by simp), add_comm]

/-- The positions, point by point. -/
theorem sum_rows (f : Fin 2048 → EReal) : ∑ t : Fin cfg0.N, ∑ x : Fin 256, f (row t x) = ∑ x : Fin 2048, f x := by
  rw [← Fintype.sum_prod_type' fun t x => f (row t x)]
  refine Fintype.sum_equiv (finProdFinEquiv.trans (finCongr (by decide))) _ _ fun p => ?_
  refine congrArg f (Fin.ext ?_)
  show p.1.val * 256 + p.2.val = p.2.val + 256 * p.1.val
  omega

/-- The last grid point. -/
abbrev last : Fin cfg0.N := ⟨7, by decide⟩

theorem flush16 : ∀ t : Fin cfg0.N, (cfg0.win 16).flush t = true ↔ t = last :=
  (by decide +kernel : ∀ t : Fin grid0.N, win0_16.flush t = true ↔ t = ⟨7, by decide⟩)

/-- The gain's gradient. -/
theorem result_gain : (dats m 0 c).arrAt 16 cfg0.N = val_main_v19 (F := Ideal) (aH m c) (aW m c) (aD m c) := by
  funext (i : S1x1024.Idx)
  rw [eq_ix2 i]
  have h0 : i 0 = (0 : Fin 1) := Subsingleton.elim (α := Fin 1) _ _
  rw [h0]
  generalize (i 1 : Fin 1024) = k
  have h1 := congrFun ((dats m 0 c).read_blk_arrAt_eq_flushed 16 (fun t t' ht ht' hn => absurd (((flush16 t).1 ht).trans ((flush16 t').1 ht').symm) hn)
    cfg0.N last last.isLt ((flush16 last).2 rfl)) (ix2 0 k)
  rw [Cert.Kernel2Ideal.Value.flushed16] at h1
  have h2 := (congrArg ((dats m 0 c).arrAt 16 cfg0.N) (emb16 last k)).symm.trans h1
  refine h2.trans ?_
  refine (gain_sum m c k 7 (by decide)).trans ?_
  rw [Finset.filter_true_of_mem fun t _ => by have := lt_of_lt_of_eq t.isLt points; omega]
  refine (sum_rows fun x => gainTerm m c x k).trans ?_
  exact (ref_gain _ _ _ _).symm

/-- A position's grid point and its row there. -/
abbrev pt (x : Fin 2048) : Fin cfg0.N := ⟨x.val / 256, by rw [points]; omega⟩
abbrev at' (x : Fin 2048) : Fin 256 := ⟨x.val % 256, by omega⟩

theorem row_pt (x : Fin 2048) : row (pt x) (at' x) = x := Fin.ext (by show x.val / 256 * 256 + x.val % 256 = x.val; omega)

theorem flush15 (t : Fin cfg0.N) : (cfg0.win 15).flush t = true := (by decide +kernel : ∀ t : Fin grid0.N, win0_15.flush t = true) t

/-- An entry of the input's gradient, in the kernel's closed form. -/
theorem dh_entry (x : Fin 2048) (k : Fin 1024) :
    (dats m 0 c).arrAt 15 cfg0.N (ix2 x k : S2048x1024.Idx)
      = closedForm (hRow m c x) (fun k => back m c x k * aG m c (ix2 0 k)) (aR m c (ix2 x k)) k := by
  have h1 := congrFun (Cert.Kernel2Ideal.Value.blocks15 m c (pt x) (flush15 _)) (ix2 (at' x) k)
  rw [Cert.Kernel2Ideal.Value.flushed15] at h1
  have h2 := (congrArg ((dats m 0 c).arrAt 15 cfg0.N) (emb15 (pt x) (at' x) k)).symm.trans (h1.trans (dh_block m c (pt x) (at' x) k))
  rwa [row_pt] at h2

/-- The input's gradient. -/
theorem result_dh : (dats m 0 c).arrAt 15 cfg0.N = val_main_v36 (F := Ideal) (aH m c) (aG m c) (aW m c) (aR m c) (aD m c) := by
  funext (i : S2048x1024.Idx)
  rw [eq_ix2 i]
  exact (dh_entry m c (i 0) (i 1)).trans ((closed_eq_chain _ _ _ _).trans (ref_dh _ _ _ _ _ _ _).symm)

end Cert.NormAttn

end
-- ==== Proof.InprojConv.lean ====
/- What one grid point of the convolution layer's input projection computes: its blocks, the joined weights and its six outputs. -/
module

public import proofs.«01_k».proof.Proof.Gen.Kernel6Ideal
public import proofs.«01_k».proof.Proof.Gen.Kernel6Ideal.Frame
public import proofs.«01_k».proof.Proof.Gen.Kernel6Ideal.Value
public import proofs.«01_k».proof.Proof.Cols
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InprojConv

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The arguments: the layer's input, the norm's gain, the weights. -/
abbrev aX : S2048x1024.Idx → EReal := m ((c : Thread nD τ).loc main_arg0)
abbrev aG : S1x1024.Idx → EReal := m ((c : Thread nD τ).loc main_arg1)
abbrev aW : S1024x4608.Idx → EReal := m ((c : Thread nD τ).loc main_arg2)

theorem points : cfg0.N = 8 := by decide

theorem row_lt (t : Fin cfg0.N) (x : Fin 256) : t.val * 256 + x.val < 2048 := by
  have h : t.val < 8 := lt_of_lt_of_eq t.isLt points
  omega

/-- The sequence's position at a grid point's row. -/
abbrev row (t : Fin cfg0.N) (x : Fin 256) : Fin 2048 := ⟨t.val * 256 + x.val, row_lt t x⟩

/-- Which block each window takes at a grid point. -/
theorem index0 : ∀ t : Fin cfg0.N, win0_0.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_1.index t = ![0, 0] ∧ win0_2.index t = ![0, 0, 0] :=
  (by decide +kernel : ∀ t : Fin grid0.N, win0_0.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_1.index t = ![0, 0] ∧ win0_2.index t = ![0, 0, 0])

theorem emb0 (t : Fin cfg0.N) (x : Fin 256) (l : Fin 1024) : (win0_0.rect t).emb (ix2 x l) = (ix2 (row t x) l : S2048x1024.Idx) := by
  funext a
  match a with
  | ⟨0, _⟩ => exact Fin.ext ((win0_0.rect_emb_val t (ix2 x l) 0).trans (by rw [(index0 t).1]; rfl))
  | ⟨1, _⟩ => exact Fin.ext ((win0_0.rect_emb_val t (ix2 x l) 1).trans (by rw [(index0 t).1]; simp))

theorem emb3 (t : Fin cfg0.N) (x : Fin 256) (l : Fin 1024) : (win0_3.rect t).emb (ix2 x l) = (ix2 (row t x) l : S2048x1024.Idx) := by
  funext a
  match a with
  | ⟨0, _⟩ => exact Fin.ext ((win0_3.rect_emb_val t (ix2 x l) 0).trans (by rw [(index0 t).2.1]; rfl))
  | ⟨1, _⟩ => exact Fin.ext ((win0_3.rect_emb_val t (ix2 x l) 1).trans (by rw [(index0 t).2.1]; simp))

theorem emb4 (t : Fin cfg0.N) (x : Fin 256) (l : Fin 1024) : (win0_4.rect t).emb (ix2 x l) = (ix2 (row t x) l : S2048x1024.Idx) := by
  funext a
  match a with
  | ⟨0, _⟩ => exact Fin.ext ((win0_4.rect_emb_val t (ix2 x l) 0).trans (by rw [(index0 t).2.2.1]; rfl))
  | ⟨1, _⟩ => exact Fin.ext ((win0_4.rect_emb_val t (ix2 x l) 1).trans (by rw [(index0 t).2.2.1]; simp))

theorem emb5 (t : Fin cfg0.N) (x : Fin 256) (l : Fin 1024) : (win0_5.rect t).emb (ix2 x l) = (ix2 (row t x) l : S2048x1024.Idx) := by
  funext a
  match a with
  | ⟨0, _⟩ => exact Fin.ext ((win0_5.rect_emb_val t (ix2 x l) 0).trans (by rw [(index0 t).2.2.2.1]; rfl))
  | ⟨1, _⟩ => exact Fin.ext ((win0_5.rect_emb_val t (ix2 x l) 1).trans (by rw [(index0 t).2.2.2.1]; simp))

theorem emb6 (t : Fin cfg0.N) (x : Fin 256) (l : Fin 1024) : (win0_6.rect t).emb (ix2 x l) = (ix2 (row t x) l : S2048x1024.Idx) := by
  funext a
  match a with
  | ⟨0, _⟩ => exact Fin.ext ((win0_6.rect_emb_val t (ix2 x l) 0).trans (by rw [(index0 t).2.2.2.2.1]; rfl))
  | ⟨1, _⟩ => exact Fin.ext ((win0_6.rect_emb_val t (ix2 x l) 1).trans (by rw [(index0 t).2.2.2.2.1]; simp))

theorem emb7 (t : Fin cfg0.N) (x : Fin 256) (l : Fin 256) : (win0_7.rect t).emb (ix2 x l) = (ix2 (row t x) l : S2048x256.Idx) := by
  funext a
  match a with
  | ⟨0, _⟩ => exact Fin.ext ((win0_7.rect_emb_val t (ix2 x l) 0).trans (by rw [(index0 t).2.2.2.2.2.1]; rfl))
  | ⟨1, _⟩ => exact Fin.ext ((win0_7.rect_emb_val t (ix2 x l) 1).trans (by rw [(index0 t).2.2.2.2.2.1]; simp))

theorem emb8 (t : Fin cfg0.N) (x : Fin 256) (l : Fin 1280) : (win0_8.rect t).emb (ix2 x l) = (ix2 (row t x) l : S2048x1280.Idx) := by
  funext a
  match a with
  | ⟨0, _⟩ => exact Fin.ext ((win0_8.rect_emb_val t (ix2 x l) 0).trans (by rw [(index0 t).2.2.2.2.2.2.1]; rfl))
  | ⟨1, _⟩ => exact Fin.ext ((win0_8.rect_emb_val t (ix2 x l) 1).trans (by rw [(index0 t).2.2.2.2.2.2.1]; simp))

theorem emb1 (t : Fin cfg0.N) (l : Fin 1024) : (win0_1.rect t).emb (ix2 0 l) = (ix2 0 l : S1x1024.Idx) := by
  funext a
  match a with
  | ⟨0, _⟩ => exact Fin.ext ((win0_1.rect_emb_val t (ix2 0 l) 0).trans (by rw [(index0 t).2.2.2.2.2.2.2.1]; simp))
  | ⟨1, _⟩ => exact Fin.ext ((win0_1.rect_emb_val t (ix2 0 l) 1).trans (by rw [(index0 t).2.2.2.2.2.2.2.1]; simp))

theorem emb2 (t : Fin cfg0.N) (s : Fin 8) (k : Fin 1024) (j : Fin 576) : (win0_2.rect t).emb (ix3 s k j) = (ix3 s k j : S8x1024x576.Idx) := by
  funext a
  match a with
  | ⟨0, _⟩ => exact Fin.ext ((win0_2.rect_emb_val t (ix3 s k j) 0).trans (by rw [(index0 t).2.2.2.2.2.2.2.2]; simp))
  | ⟨1, _⟩ => exact Fin.ext ((win0_2.rect_emb_val t (ix3 s k j) 1).trans (by rw [(index0 t).2.2.2.2.2.2.2.2]; simp))
  | ⟨2, _⟩ => exact Fin.ext ((win0_2.rect_emb_val t (ix3 s k j) 2).trans (by rw [(index0 t).2.2.2.2.2.2.2.2]; simp))

theorem V2 : V m c main_v2 = truncf (F := Ideal) .bf16 (transpose S8x1024x576 [1, 0, 2] (shapeCast S1024x8x576 (aW m c) shapeCasts_S1024x4608_S1024x8x576) transposes_S1024x8x576_S8x1024x576_1_0_2) bitsLt_bf16_f32 := by
  unfold_abbrev_sides
  after_reads_simp
  rfl

theorem blk0 (t : Fin cfg0.N) (x : Fin 256) (l : Fin 1024) : iblk m c 0 t (ix2 x l) = aX m c (ix2 (row t x) l) :=
  (congrArg (V m c main_arg0) (emb0 t x l)).trans (by rw [V_main_arg0])

theorem blk1 (t : Fin cfg0.N) (l : Fin 1024) : iblk m c 1 t (ix2 0 l) = aG m c (ix2 0 l) :=
  (congrArg (V m c main_arg1) (emb1 t l)).trans (by rw [V_main_arg1])

/-- The weights' block: the devices' shares of the columns. -/
theorem blk2 (t : Fin cfg0.N) (s : Fin 8) (k : Fin 1024) (j : Fin 576) (h : s.val * 576 + j.val < 4608) :
    iblk m c 2 t (ix3 s k j) = aW m c (ix2 k ⟨s.val * 576 + j.val, h⟩) := by
  refine (congrArg (V m c main_v2) (emb2 t s k j)).trans ?_
  rw [V2]
  pointwise

/-- A share with its leading axis dropped. -/
theorem part (Y : Vec Ideal S1x1024x576 .bf16) (k : Fin 1024) (j : Fin 576) :
    shapeCast S1024x576 Y shapeCasts_S1x1024x576_S1024x576 (ix2 k j) = Y (ix3 0 k j) := by
  pointwise

/-- One share of an array of shares. -/
theorem share (X : Vec Ideal S8x1024x576 .bf16) (s : Fin 8)
    (inb : ∀ a, (![s.val, 0, 0] : Fin 3 → ℕ) a + (![1, 1024, 576] : Fin 3 → ℕ) a ≤ S8x1024x576.size a) (k : Fin 1024) (j : Fin 576) :
    View.ld X (Rect.unit ![s.val, 0, 0] ![1, 1024, 576] inb) (ix3 0 k j) = X (ix3 s k j) := by
  refine congrArg X ?_
  funext a
  match a with
  | ⟨0, _⟩ => exact Fin.ext (by simp)
  | ⟨1, _⟩ => exact Fin.ext (by simp)
  | ⟨2, _⟩ => exact Fin.ext (by simp)

/-- The eight stores that join the weights. -/
theorem fills_joined (t : Fin cfg0.N) : Cols.Fills (aW m c)
    [⟨Rect.unit ![0, 4032] ![1024, 576] inb_S1024x4608_S1024x576_0_4032, k0_pay12 (F := Ideal) (View.ld (iblk m c 2 t) (Rect.unit ![7, 0, 0] ![1, 1024, 576] inb_S8x1024x576_S1x1024x576_7_0_0))⟩,
      ⟨Rect.unit ![0, 3456] ![1024, 576] inb_S1024x4608_S1024x576_0_3456, k0_pay11 (F := Ideal) (View.ld (iblk m c 2 t) (Rect.unit ![6, 0, 0] ![1, 1024, 576] inb_S8x1024x576_S1x1024x576_6_0_0))⟩,
      ⟨Rect.unit ![0, 2880] ![1024, 576] inb_S1024x4608_S1024x576_0_2880, k0_pay10 (F := Ideal) (k0_pay9 (F := Ideal) (View.ld (iblk m c 2 t) (Rect.unit ![5, 0, 0] ![1, 1024, 576] inb_S8x1024x576_S1x1024x576_5_0_0)))⟩,
      ⟨Rect.unit ![0, 2304] ![1024, 576] inb_S1024x4608_S1024x576_0_2304, k0_pay8 (F := Ideal) (View.ld (iblk m c 2 t) (Rect.unit ![4, 0, 0] ![1, 1024, 576] inb_S8x1024x576_S1x1024x576_4_0_0))⟩,
      ⟨Rect.unit ![0, 1728] ![1024, 576] inb_S1024x4608_S1024x576_0_1728, k0_pay7 (F := Ideal) (View.ld (iblk m c 2 t) (Rect.unit ![3, 0, 0] ![1, 1024, 576] inb_S8x1024x576_S1x1024x576_3_0_0))⟩,
      ⟨Rect.unit ![0, 1152] ![1024, 576] inb_S1024x4608_S1024x576_0_1152, k0_pay6 (F := Ideal) (View.ld (iblk m c 2 t) (Rect.unit ![2, 0, 0] ![1, 1024, 576] inb_S8x1024x576_S1x1024x576_2_0_0))⟩,
      ⟨Rect.unit ![0, 576] ![1024, 576] inb_S1024x4608_S1024x576_0_576, k0_pay5 (F := Ideal) (View.ld (iblk m c 2 t) (Rect.unit ![1, 0, 0] ![1, 1024, 576] inb_S8x1024x576_S1x1024x576_1_0_0))⟩,
      ⟨Rect.unit ![0, 0] ![1024, 576] inb_S1024x4608_S1024x576_0_0, k0_pay4 (F := Ideal) (View.ld (iblk m c 2 t) (Rect.unit ![0, 0, 0] ![1, 1024, 576] inb_S8x1024x576_S1x1024x576_0_0_0))⟩] 4608 := by
  refine Cols.Fills.cons _ (Cols.Fills.cons _ (Cols.Fills.cons _ (Cols.Fills.cons _ (Cols.Fills.cons _ (Cols.Fills.cons _ (Cols.Fills.cons _ (Cols.Fills.cons _ (Cols.Fills.nil _) ?_) ?_) ?_) ?_) ?_) ?_) ?_) ?_
  · intro x l hl; refine Eq.trans ?_ ((share (iblk m c 2 t) 0 (by decide) x l).trans (blk2 m c t 0 x l hl)); unfold k0_pay4; rw [shapeCast_self]; exact part _ x l
  · intro x l hl; refine Eq.trans ?_ ((share (iblk m c 2 t) 1 (by decide) x l).trans (blk2 m c t 1 x l hl)); unfold k0_pay5; rw [shapeCast_self]; exact part _ x l
  · intro x l hl; refine Eq.trans ?_ ((share (iblk m c 2 t) 2 (by decide) x l).trans (blk2 m c t 2 x l hl)); unfold k0_pay6; rw [shapeCast_self]; exact part _ x l
  · intro x l hl; refine Eq.trans ?_ ((share (iblk m c 2 t) 3 (by decide) x l).trans (blk2 m c t 3 x l hl)); unfold k0_pay7; rw [shapeCast_self]; exact part _ x l
  · intro x l hl; refine Eq.trans ?_ ((share (iblk m c 2 t) 4 (by decide) x l).trans (blk2 m c t 4 x l hl)); unfold k0_pay8; rw [shapeCast_self]; exact part _ x l
  · intro x l hl; refine Eq.trans ?_ ((share (iblk m c 2 t) 5 (by decide) x l).trans (blk2 m c t 5 x l hl)); unfold k0_pay10 k0_pay9; rw [shapeCast_self]; exact part _ x l
  · intro x l hl; refine Eq.trans ?_ ((share (iblk m c 2 t) 6 (by decide) x l).trans (blk2 m c t 6 x l hl)); unfold k0_pay11; rw [shapeCast_self]; exact part _ x l
  · intro x l hl; refine Eq.trans ?_ ((share (iblk m c 2 t) 7 (by decide) x l).trans (blk2 m c t 7 x l hl)); unfold k0_pay12; rw [shapeCast_self]; exact part _ x l

/-- A load of a band of the buffer after stores that fill it. -/
theorem band {a n : ℕ} {κ : Kind} {sg : RefSig} {sp : Space} {G : Shape.Idx ⟨2, ![a, n]⟩ → EReal}
    {L : List (View.Piece (Elt Ideal) ⟨2, ![a, n]⟩ .bf16)} (h : Cols.Fills G L n)
    (v : View sg κ sp ⟨2, ![a, n]⟩ .bf16) (r : Rect ⟨2, ![a, n]⟩) : v.readCov L r.toLoadRect = View.ld (Val := Elt Ideal) (e' := .bf16) G r := by
  refine (View.readCov_eq_canon_ld v L r fun y => h.2 y (y 1).isLt).trans ?_
  rw [h.canon]

/-- The joined weights after the first point. -/
theorem joined_A (t : Fin cfg0.N) (h : t.val % 8 = 0) : (outsAt0 m c t.val t.isLt).2.2.2.2.2.2 = aW m c := by
  rw [outsAt0_A m c t h]
  dsimp only
  frame_open
  simp (disch := decide) only [↓ View.readCov_skip, ↓ View.readCov_cons_toLoadRect, ↓ View.readCov_fill]
  frame_out
  exact Cols.Fills.canon (fills_joined m c t)

end Cert.InprojConv

end
-- ==== Proof.InprojConvOut.lean ====
/- What the grid points of the convolution layer's input projection leave, over the joined weights. -/
module

public import proofs.«01_k».proof.Proof.Gen.Kernel6Ideal
public import proofs.«01_k».proof.Proof.Gen.Kernel6Ideal.Frame
public import proofs.«01_k».proof.Proof.Gen.Kernel6Ideal.Value
public import proofs.«01_k».proof.Proof.InprojConv
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InprojConv

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The columns of the weights from 0. -/
abbrev from0 (W : Vec Ideal S1024x4608 .bf16) : Vec Ideal S1024x1024 .bf16 :=
  View.ld (Val := Elt Ideal) (e' := .bf16) W (Rect.unit (s := S1024x4608) ![0, 0] ![1024, 1024] inb_S1024x4608_S1024x1024_0_0)

/-- The columns of the weights from 1024. -/
abbrev from1024 (W : Vec Ideal S1024x4608 .bf16) : Vec Ideal S1024x1024 .bf16 :=
  View.ld (Val := Elt Ideal) (e' := .bf16) W (Rect.unit (s := S1024x4608) ![0, 1024] ![1024, 1024] inb_S1024x4608_S1024x1024_0_1024)

/-- The columns of the weights from 2048. -/
abbrev from2048 (W : Vec Ideal S1024x4608 .bf16) : Vec Ideal S1024x1024 .bf16 :=
  View.ld (Val := Elt Ideal) (e' := .bf16) W (Rect.unit (s := S1024x4608) ![0, 2048] ![1024, 1024] inb_S1024x4608_S1024x1024_0_2048)

/-- The columns of the weights from 3072. -/
abbrev from3072 (W : Vec Ideal S1024x4608 .bf16) : Vec Ideal S1024x256 .bf16 :=
  View.ld (Val := Elt Ideal) (e' := .bf16) W (Rect.unit (s := S1024x4608) ![0, 3072] ![1024, 256] inb_S1024x4608_S1024x256_0_3072)

/-- The columns of the weights from 3328. -/
abbrev from3328 (W : Vec Ideal S1024x4608 .bf16) : Vec Ideal S1024x1280 .bf16 :=
  View.ld (Val := Elt Ideal) (e' := .bf16) W (Rect.unit (s := S1024x4608) ![0, 3328] ![1024, 1280] inb_S1024x4608_S1024x1280_0_3328)

/-- The joined weights stay from point to point. -/
theorem joined : ∀ (n : ℕ) (h : n < cfg0.N), (outsAt0 m c n h).2.2.2.2.2.2 = aW m c
  | 0, h => joined_A m c ⟨0, h⟩ rfl
  | n + 1, h => by
      have hn : n + 1 < 8 := lt_of_lt_of_eq h points
      have e := outsAt0_B m c ⟨n + 1, h⟩ (by show ¬ ((n + 1) % 8 = 0); omega)
      dsimp only at e
      rw [e]
      frame_open
      exact joined n _

theorem out3_A (t : Fin cfg0.N) (h : t.val % 8 = 0) : (outsAt0 m c t.val t.isLt).1 = k0_pay14 (F := Ideal) (iblk m c 0 t) (iblk m c 1 t) := by
  rw [outsAt0_A m c t h]
  dsimp only
  frame_open
  simp (disch := decide) only [↓ View.readCov_skip, ↓ View.readCov_cons_toLoadRect, ↓ View.readCov_fill]
  frame_out

theorem out3_B (t : Fin cfg0.N) (h : ¬ t.val % 8 = 0) : (outsAt0 m c t.val t.isLt).1 = k0_pay14 (F := Ideal) (iblk m c 0 t) (iblk m c 1 t) := by
  rw [outsAt0_B m c t h]
  dsimp only
  frame_open
  simp (disch := decide) only [↓ View.readCov_skip, ↓ View.readCov_cons_toLoadRect, ↓ View.readCov_fill]
  frame_out

/-- What a grid point leaves: the normed rows. -/
theorem out3 (t : Fin cfg0.N) : (outsAt0 m c t.val t.isLt).1 = k0_pay14 (F := Ideal) (iblk m c 0 t) (iblk m c 1 t) :=
  if h : t.val % 8 = 0 then out3_A m c t h else out3_B m c t h

theorem out4_A (t : Fin cfg0.N) (h : t.val % 8 = 0) : (outsAt0 m c t.val t.isLt).2.1 = k0_pay15 (iblk m c 0 t) (iblk m c 1 t) (from0 (aW m c)) := by
  rw [outsAt0_A m c t h]
  dsimp only
  frame_open
  frame_out
  exact congrArg (fun B => k0_pay15 (iblk m c 0 t) (iblk m c 1 t) B) (band (fills_joined m c t) _ _)

theorem out4_B (t : Fin cfg0.N) (h : ¬ t.val % 8 = 0) : (outsAt0 m c t.val t.isLt).2.1 = k0_pay15 (iblk m c 0 t) (iblk m c 1 t) (from0 (aW m c)) := by
  rw [outsAt0_B m c t h]
  dsimp only
  frame_open
  simp (disch := decide) only [↓ View.readCov_skip, ↓ View.readCov_cons_toLoadRect, ↓ View.readCov_fill]
  frame_out
  rw [joined m c _ _]
  rw [show View.read (Elt Ideal) (View.whole cc0_scratch0) _ = aW m c from (Memref.isWhole_whole _).read_unread _]

/-- What a grid point leaves: the first part of the projection. -/
theorem out4 (t : Fin cfg0.N) : (outsAt0 m c t.val t.isLt).2.1 = k0_pay15 (iblk m c 0 t) (iblk m c 1 t) (from0 (aW m c)) :=
  if h : t.val % 8 = 0 then out4_A m c t h else out4_B m c t h

theorem out5_A (t : Fin cfg0.N) (h : t.val % 8 = 0) : (outsAt0 m c t.val t.isLt).2.2.1 = k0_pay16 (iblk m c 0 t) (iblk m c 1 t) (from1024 (aW m c)) := by
  rw [outsAt0_A m c t h]
  dsimp only
  frame_open
  frame_out
  exact congrArg (fun B => k0_pay16 (iblk m c 0 t) (iblk m c 1 t) B) (band (fills_joined m c t) _ _)

theorem out5_B (t : Fin cfg0.N) (h : ¬ t.val % 8 = 0) : (outsAt0 m c t.val t.isLt).2.2.1 = k0_pay16 (iblk m c 0 t) (iblk m c 1 t) (from1024 (aW m c)) := by
  rw [outsAt0_B m c t h]
  dsimp only
  frame_open
  simp (disch := decide) only [↓ View.readCov_skip, ↓ View.readCov_cons_toLoadRect, ↓ View.readCov_fill]
  frame_out
  rw [joined m c _ _]
  rw [show View.read (Elt Ideal) (View.whole cc0_scratch0) _ = aW m c from (Memref.isWhole_whole _).read_unread _]

/-- What a grid point leaves: the second part. -/
theorem out5 (t : Fin cfg0.N) : (outsAt0 m c t.val t.isLt).2.2.1 = k0_pay16 (iblk m c 0 t) (iblk m c 1 t) (from1024 (aW m c)) :=
  if h : t.val % 8 = 0 then out5_A m c t h else out5_B m c t h

theorem out6_A (t : Fin cfg0.N) (h : t.val % 8 = 0) : (outsAt0 m c t.val t.isLt).2.2.2.1 = k0_pay1 (k0_pay13 (iblk m c 0 t) (iblk m c 1 t)) (from2048 (aW m c)) := by
  rw [outsAt0_A m c t h]
  dsimp only
  frame_open
  frame_out
  exact congrArg (fun B => k0_pay1 (k0_pay13 (iblk m c 0 t) (iblk m c 1 t)) B) (band (fills_joined m c t) _ _)

theorem out6_B (t : Fin cfg0.N) (h : ¬ t.val % 8 = 0) : (outsAt0 m c t.val t.isLt).2.2.2.1 = k0_pay1 (k0_pay13 (iblk m c 0 t) (iblk m c 1 t)) (from2048 (aW m c)) := by
  rw [outsAt0_B m c t h]
  dsimp only
  frame_open
  simp (disch := decide) only [↓ View.readCov_skip, ↓ View.readCov_cons_toLoadRect, ↓ View.readCov_fill]
  frame_out
  rw [joined m c _ _]
  rw [show View.read (Elt Ideal) (View.whole cc0_scratch0) _ = aW m c from (Memref.isWhole_whole _).read_unread _]

/-- What a grid point leaves: the third part. -/
theorem out6 (t : Fin cfg0.N) : (outsAt0 m c t.val t.isLt).2.2.2.1 = k0_pay1 (k0_pay13 (iblk m c 0 t) (iblk m c 1 t)) (from2048 (aW m c)) :=
  if h : t.val % 8 = 0 then out6_A m c t h else out6_B m c t h

theorem out7_A (t : Fin cfg0.N) (h : t.val % 8 = 0) : (outsAt0 m c t.val t.isLt).2.2.2.2.1 = k0_pay2 (k0_pay13 (iblk m c 0 t) (iblk m c 1 t)) (from3072 (aW m c)) := by
  rw [outsAt0_A m c t h]
  dsimp only
  frame_open
  frame_out
  exact congrArg (fun B => k0_pay2 (k0_pay13 (iblk m c 0 t) (iblk m c 1 t)) B) (band (fills_joined m c t) _ _)

theorem out7_B (t : Fin cfg0.N) (h : ¬ t.val % 8 = 0) : (outsAt0 m c t.val t.isLt).2.2.2.2.1 = k0_pay2 (k0_pay13 (iblk m c 0 t) (iblk m c 1 t)) (from3072 (aW m c)) := by
  rw [outsAt0_B m c t h]
  dsimp only
  frame_open
  simp (disch := decide) only [↓ View.readCov_skip, ↓ View.readCov_cons_toLoadRect, ↓ View.readCov_fill]
  frame_out
  rw [joined m c _ _]
  rw [show View.read (Elt Ideal) (View.whole cc0_scratch0) _ = aW m c from (Memref.isWhole_whole _).read_unread _]

/-- What a grid point leaves: the queries of the memory. -/
theorem out7 (t : Fin cfg0.N) : (outsAt0 m c t.val t.isLt).2.2.2.2.1 = k0_pay2 (k0_pay13 (iblk m c 0 t) (iblk m c 1 t)) (from3072 (aW m c)) :=
  if h : t.val % 8 = 0 then out7_A m c t h else out7_B m c t h

theorem out8_A (t : Fin cfg0.N) (h : t.val % 8 = 0) : (outsAt0 m c t.val t.isLt).2.2.2.2.2.1 = k0_pay3 (k0_pay13 (iblk m c 0 t) (iblk m c 1 t)) (from3328 (aW m c)) := by
  rw [outsAt0_A m c t h]
  dsimp only
  frame_open
  frame_out
  exact congrArg (fun B => k0_pay3 (k0_pay13 (iblk m c 0 t) (iblk m c 1 t)) B) (band (fills_joined m c t) _ _)

theorem out8_B (t : Fin cfg0.N) (h : ¬ t.val % 8 = 0) : (outsAt0 m c t.val t.isLt).2.2.2.2.2.1 = k0_pay3 (k0_pay13 (iblk m c 0 t) (iblk m c 1 t)) (from3328 (aW m c)) := by
  rw [outsAt0_B m c t h]
  dsimp only
  frame_open
  simp (disch := decide) only [↓ View.readCov_skip, ↓ View.readCov_cons_toLoadRect, ↓ View.readCov_fill]
  frame_out
  rw [joined m c _ _]
  rw [show View.read (Elt Ideal) (View.whole cc0_scratch0) _ = aW m c from (Memref.isWhole_whole _).read_unread _]

/-- What a grid point leaves: the gate. -/
theorem out8 (t : Fin cfg0.N) : (outsAt0 m c t.val t.isLt).2.2.2.2.2.1 = k0_pay3 (k0_pay13 (iblk m c 0 t) (iblk m c 1 t)) (from3328 (aW m c)) :=
  if h : t.val % 8 = 0 then out8_A m c t h else out8_B m c t h

end Cert.InprojConv

end
-- ==== Proof.InprojConvResult.lean ====
/- The convolution layer's input projection: the six arrays the kernel leaves are the reference's. -/
module

public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.InprojConvOut
public import proofs.«01_k».proof.Proof.NormCore
public import Idealize.ShloMosaic.Lib.StableHlo.RunRead
public import Idealize.ShloMosaic.Lib.Claim
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InprojConv

open Cert.Kernel6Ideal Cert.Kernel6Ideal.Gen Idealize.ShloMosaic Idealize.ShloMosaic.TcCoe Idealize.SL.Sem

variable (m : (ℓ : Loc nD τ sig) → Buf (Elt Ideal) ℓ) (c : Dev nD)

open Cert.NormGrad Cert.Reference6Ideal.Read

/-- An entry of a normed row. -/
abbrev normed (H G : Fin 1024 → EReal) (k : Fin 1024) : EReal := H k * Ideal.rsqrt (meanSq H) * G k

/-- An entry of the point's normed rows. -/
theorem normed_at (H : Vec Ideal S256x1024 .f32) (G : Vec Ideal S1x1024 .f32) (x : Fin 256) (k : Fin 1024) :
    k0_pay13 H G (ix2 x k) = normed (fun k => H (ix2 x k)) (fun k => G (ix2 0 k)) k := by
  unfold normed meanSq
  unfold k0_pay13
  pointwise

/-- An entry of the reference's normed rows. -/
theorem ref_normed (h : FVec Ideal S2048x1024 .f32) (g : FVec Ideal S1x1024 .f32) (x : Fin 2048) (k : Fin 1024) :
    val_main_v11 (F := Ideal) h g (ix2 x k) = normed (fun k => h (ix2 x k)) (fun k => g (ix2 0 k)) k := by
  unfold normed meanSq
  unfold val_main_v11 val_main_v10 val_main_v9 val_main_v8 val_main_v7 val_main_v6 val_main_v5 val_main_v4 val_main_v3 val_main_v2 val_main_v1 val_main_v0 val_main_cst val_main_cst_0 val_main_cst_1
  pointwise

/-- A grid point's normed rows are the reference's at the point's positions. -/
theorem normed_block (t : Fin cfg0.N) (x : Fin 256) (k : Fin 1024) :
    k0_pay13 (iblk m c 0 t) (iblk m c 1 t) (ix2 x k) = val_main_v11 (F := Ideal) (aX m c) (aG m c) (ix2 (row t x) k) := by
  refine (normed_at _ _ _ _).trans (Eq.trans ?_ (ref_normed _ _ _ _).symm)
  exact congrArg₂ (fun H G => normed H G k) (funext fun l => blk0 m c t x l) (funext fun l => blk1 m c t l)

/-- A position's grid point and its row there. -/
abbrev pt (x : Fin 2048) : Fin cfg0.N := ⟨x.val / 256, by rw [points]; omega⟩
abbrev at' (x : Fin 2048) : Fin 256 := ⟨x.val % 256, by omega⟩

theorem row_pt (x : Fin 2048) : row (pt x) (at' x) = x := Fin.ext (by show x.val / 256 * 256 + x.val % 256 = x.val; omega)

theorem cols0 (W : Vec Ideal S1024x4608 .bf16) (k : Fin 1024) (l : Fin 1024) :
    from0 W (ix2 k l) = W (ix2 k ⟨0 + l.val, by omega⟩) := by
  refine congrArg W ?_
  funext a
  match a with
  | ⟨0, _⟩ => exact Fin.ext (by simp)
  | ⟨1, _⟩ => exact Fin.ext (by simp)

theorem cols1024 (W : Vec Ideal S1024x4608 .bf16) (k : Fin 1024) (l : Fin 1024) :
    from1024 W (ix2 k l) = W (ix2 k ⟨1024 + l.val, by omega⟩) := by
  refine congrArg W ?_
  funext a
  match a with
  | ⟨0, _⟩ => exact Fin.ext (by simp)
  | ⟨1, _⟩ => exact Fin.ext (by simp)

theorem cols2048 (W : Vec Ideal S1024x4608 .bf16) (k : Fin 1024) (l : Fin 1024) :
    from2048 W (ix2 k l) = W (ix2 k ⟨2048 + l.val, by omega⟩) := by
  refine congrArg W ?_
  funext a
  match a with
  | ⟨0, _⟩ => exact Fin.ext (by simp)
  | ⟨1, _⟩ => exact Fin.ext (by simp)

theorem cols3072 (W : Vec Ideal S1024x4608 .bf16) (k : Fin 1024) (l : Fin 256) :
    from3072 W (ix2 k l) = W (ix2 k ⟨3072 + l.val, by omega⟩) := by
  refine congrArg W ?_
  funext a
  match a with
  | ⟨0, _⟩ => exact Fin.ext (by simp)
  | ⟨1, _⟩ => exact Fin.ext (by simp)

theorem cols3328 (W : Vec Ideal S1024x4608 .bf16) (k : Fin 1024) (l : Fin 1280) :
    from3328 W (ix2 k l) = W (ix2 k ⟨3328 + l.val, by omega⟩) := by
  refine congrArg W ?_
  funext a
  match a with
  | ⟨0, _⟩ => exact Fin.ext (by simp)
  | ⟨1, _⟩ => exact Fin.ext (by simp)

theorem flush3 (t : Fin cfg0.N) : (cfg0.win 3).flush t = true := (by decide +kernel : ∀ t : Fin grid0.N, win0_3.flush t = true) t

/-- The normed rows, entry by entry. -/
theorem entry_hn (x : Fin 2048) (k : Fin 1024) :
    (dats m 0 c).arrAt 3 cfg0.N (ix2 x k : S2048x1024.Idx) = val_main_v18 (F := Ideal) (aX m c) (aG m c) (ix2 x k) := by
  have h1 := congrFun (Cert.Kernel6Ideal.Value.blocks3 m c (pt x) (flush3 _)) (ix2 (at' x) k)
  rw [Cert.Kernel6Ideal.Value.flushed3] at h1
  have h3 : (outsAt0 m c (pt x).val (pt x).isLt).1 (ix2 (at' x) k) = val_main_v11 (F := Ideal) (aX m c) (aG m c) (ix2 (row (pt x) (at' x)) k) := by
    rw [out3]
    unfold k0_pay14
    rw [shapeCast_self]
    exact normed_block m c (pt x) (at' x) k
  have h2 := (congrArg ((dats m 0 c).arrAt 3 cfg0.N) (emb3 (pt x) (at' x) k)).symm.trans (h1.trans h3)
  rw [row_pt] at h2
  refine h2.trans ?_
  unfold val_main_v18
  pointwise

/-- The normed rows. -/
theorem result_hn : (dats m 0 c).arrAt 3 cfg0.N = val_main_v18 (F := Ideal) (aX m c) (aG m c) := by
  funext (i : S2048x1024.Idx)
  rw [eq_ix2 i]
  exact entry_hn m c (i 0) (i 1)

theorem flush4 (t : Fin cfg0.N) : (cfg0.win 4).flush t = true := (by decide +kernel : ∀ t : Fin grid0.N, win0_4.flush t = true) t

/-- An entry of the product with the columns from 0. -/
theorem prod_b (H : Vec Ideal S256x1024 .f32) (G : Vec Ideal S1x1024 .f32) (B : Vec Ideal S1024x1024 .bf16) (x : Fin 256) (l : Fin 1024) :
    k0_pay15 H G B (ix2 x l) = ∑ k : Fin 1024, k0_pay13 H G (ix2 x k) * B (ix2 k l) := by
  unfold k0_pay15
  generalize k0_pay13 H G = n
  pointwise

/-- The reference's projection, its columns from 0. -/
theorem ref_b (h : FVec Ideal S2048x1024 .f32) (g : FVec Ideal S1x1024 .f32) (w : FVec Ideal S1024x4608 .f32) (x : Fin 2048) (l : Fin 1024) :
    val_main_v13 (F := Ideal) h g w (ix2 x l) = (∑ k : Fin 1024, val_main_v11 (F := Ideal) h g (ix2 x k) * w (ix2 k ⟨0 + l.val, by omega⟩) : EReal) := by
  unfold val_main_v13 val_main_v12
  generalize val_main_v11 (F := Ideal) h g = n
  pointwise

/-- The projection's columns from 0, entry by entry. -/
theorem entry_b (x : Fin 2048) (l : Fin 1024) :
    (dats m 0 c).arrAt 4 cfg0.N (ix2 x l : S2048x1024.Idx) = val_main_v13 (F := Ideal) (aX m c) (aG m c) (aW m c) (ix2 x l) := by
  have h1 := congrFun (Cert.Kernel6Ideal.Value.blocks4 m c (pt x) (flush4 _)) (ix2 (at' x) l)
  rw [Cert.Kernel6Ideal.Value.flushed4] at h1
  have h3 : (outsAt0 m c (pt x).val (pt x).isLt).2.1 (ix2 (at' x) l)
      = (∑ k : Fin 1024, val_main_v11 (F := Ideal) (aX m c) (aG m c) (ix2 (row (pt x) (at' x)) k) * aW m c (ix2 k ⟨0 + l.val, by omega⟩) : EReal) := by
    rw [out4]
    refine (prod_b _ _ _ _ _).trans (Finset.sum_congr rfl fun k _ => ?_)
    exact congrArg₂ (· * ·) (normed_block m c (pt x) (at' x) k) (cols0 (aW m c) k l)
  have h2 := (congrArg ((dats m 0 c).arrAt 4 cfg0.N) (emb4 (pt x) (at' x) l)).symm.trans (h1.trans h3)
  rw [row_pt] at h2
  exact h2.trans (ref_b _ _ _ _ _).symm

/-- The projection's columns from 0. -/
theorem result_b : (dats m 0 c).arrAt 4 cfg0.N = val_main_v13 (F := Ideal) (aX m c) (aG m c) (aW m c) := by
  funext (i : S2048x1024.Idx)
  rw [eq_ix2 i]
  exact entry_b m c (i 0) (i 1)

theorem flush5 (t : Fin cfg0.N) : (cfg0.win 5).flush t = true := (by decide +kernel : ∀ t : Fin grid0.N, win0_5.flush t = true) t

/-- An entry of the product with the columns from 1024. -/
theorem prod_c (H : Vec Ideal S256x1024 .f32) (G : Vec Ideal S1x1024 .f32) (B : Vec Ideal S1024x1024 .bf16) (x : Fin 256) (l : Fin 1024) :
    k0_pay16 H G B (ix2 x l) = ∑ k : Fin 1024, k0_pay13 H G (ix2 x k) * B (ix2 k l) := by
  unfold k0_pay16
  generalize k0_pay13 H G = n
  pointwise

/-- The reference's projection, its columns from 1024. -/
theorem ref_c (h : FVec Ideal S2048x1024 .f32) (g : FVec Ideal S1x1024 .f32) (w : FVec Ideal S1024x4608 .f32) (x : Fin 2048) (l : Fin 1024) :
    val_main_v14 (F := Ideal) h g w (ix2 x l) = (∑ k : Fin 1024, val_main_v11 (F := Ideal) h g (ix2 x k) * w (ix2 k ⟨1024 + l.val, by omega⟩) : EReal) := by
  unfold val_main_v14 val_main_v12
  generalize val_main_v11 (F := Ideal) h g = n
  pointwise

/-- The projection's columns from 1024, entry by entry. -/
theorem entry_c (x : Fin 2048) (l : Fin 1024) :
    (dats m 0 c).arrAt 5 cfg0.N (ix2 x l : S2048x1024.Idx) = val_main_v14 (F := Ideal) (aX m c) (aG m c) (aW m c) (ix2 x l) := by
  have h1 := congrFun (Cert.Kernel6Ideal.Value.blocks5 m c (pt x) (flush5 _)) (ix2 (at' x) l)
  rw [Cert.Kernel6Ideal.Value.flushed5] at h1
  have h3 : (outsAt0 m c (pt x).val (pt x).isLt).2.2.1 (ix2 (at' x) l)
      = (∑ k : Fin 1024, val_main_v11 (F := Ideal) (aX m c) (aG m c) (ix2 (row (pt x) (at' x)) k) * aW m c (ix2 k ⟨1024 + l.val, by omega⟩) : EReal) := by
    rw [out5]
    refine (prod_c _ _ _ _ _).trans (Finset.sum_congr rfl fun k _ => ?_)
    exact congrArg₂ (· * ·) (normed_block m c (pt x) (at' x) k) (cols1024 (aW m c) k l)
  have h2 := (congrArg ((dats m 0 c).arrAt 5 cfg0.N) (emb5 (pt x) (at' x) l)).symm.trans (h1.trans h3)
  rw [row_pt] at h2
  exact h2.trans (ref_c _ _ _ _ _).symm

/-- The projection's columns from 1024. -/
theorem result_c : (dats m 0 c).arrAt 5 cfg0.N = val_main_v14 (F := Ideal) (aX m c) (aG m c) (aW m c) := by
  funext (i : S2048x1024.Idx)
  rw [eq_ix2 i]
  exact entry_c m c (i 0) (i 1)

theorem flush6 (t : Fin cfg0.N) : (cfg0.win 6).flush t = true := (by decide +kernel : ∀ t : Fin grid0.N, win0_6.flush t = true) t

/-- An entry of the product with the columns from 2048. -/
theorem prod_u (n : FVec Ideal S256x1024 .bf16) (B : Vec Ideal S1024x1024 .bf16) (x : Fin 256) (l : Fin 1024) :
    k0_pay1 n B (ix2 x l) = ∑ k : Fin 1024, n (ix2 x k) * B (ix2 k l) := by
  unfold k0_pay1
  pointwise

/-- The reference's projection, its columns from 2048. -/
theorem ref_u (h : FVec Ideal S2048x1024 .f32) (g : FVec Ideal S1x1024 .f32) (w : FVec Ideal S1024x4608 .f32) (x : Fin 2048) (l : Fin 1024) :
    val_main_v15 (F := Ideal) h g w (ix2 x l) = (∑ k : Fin 1024, val_main_v11 (F := Ideal) h g (ix2 x k) * w (ix2 k ⟨2048 + l.val, by omega⟩) : EReal) := by
  unfold val_main_v15 val_main_v12
  generalize val_main_v11 (F := Ideal) h g = n
  pointwise

/-- The projection's columns from 2048, entry by entry. -/
theorem entry_u (x : Fin 2048) (l : Fin 1024) :
    (dats m 0 c).arrAt 6 cfg0.N (ix2 x l : S2048x1024.Idx) = val_main_v15 (F := Ideal) (aX m c) (aG m c) (aW m c) (ix2 x l) := by
  have h1 := congrFun (Cert.Kernel6Ideal.Value.blocks6 m c (pt x) (flush6 _)) (ix2 (at' x) l)
  rw [Cert.Kernel6Ideal.Value.flushed6] at h1
  have h3 : (outsAt0 m c (pt x).val (pt x).isLt).2.2.2.1 (ix2 (at' x) l)
      = (∑ k : Fin 1024, val_main_v11 (F := Ideal) (aX m c) (aG m c) (ix2 (row (pt x) (at' x)) k) * aW m c (ix2 k ⟨2048 + l.val, by omega⟩) : EReal) := by
    rw [out6]
    refine (prod_u _ _ _ _).trans (Finset.sum_congr rfl fun k _ => ?_)
    exact congrArg₂ (· * ·) (normed_block m c (pt x) (at' x) k) (cols2048 (aW m c) k l)
  have h2 := (congrArg ((dats m 0 c).arrAt 6 cfg0.N) (emb6 (pt x) (at' x) l)).symm.trans (h1.trans h3)
  rw [row_pt] at h2
  exact h2.trans (ref_u _ _ _ _ _).symm

/-- The projection's columns from 2048. -/
theorem result_u : (dats m 0 c).arrAt 6 cfg0.N = val_main_v15 (F := Ideal) (aX m c) (aG m c) (aW m c) := by
  funext (i : S2048x1024.Idx)
  rw [eq_ix2 i]
  exact entry_u m c (i 0) (i 1)

theorem flush7 (t : Fin cfg0.N) : (cfg0.win 7).flush t = true := (by decide +kernel : ∀ t : Fin grid0.N, win0_7.flush t = true) t

/-- An entry of the product with the columns from 3072. -/
theorem prod_q (n : FVec Ideal S256x1024 .bf16) (B : Vec Ideal S1024x256 .bf16) (x : Fin 256) (l : Fin 256) :
    k0_pay2 n B (ix2 x l) = ∑ k : Fin 1024, n (ix2 x k) * B (ix2 k l) := by
  unfold k0_pay2
  pointwise

/-- The reference's projection, its columns from 3072. -/
theorem ref_q (h : FVec Ideal S2048x1024 .f32) (g : FVec Ideal S1x1024 .f32) (w : FVec Ideal S1024x4608 .f32) (x : Fin 2048) (l : Fin 256) :
    val_main_v19 (F := Ideal) h g w (ix2 x l) = (∑ k : Fin 1024, val_main_v11 (F := Ideal) h g (ix2 x k) * w (ix2 k ⟨3072 + l.val, by omega⟩) : EReal) := by
  unfold val_main_v19 val_main_v16 val_main_v12
  generalize val_main_v11 (F := Ideal) h g = n
  pointwise

/-- The projection's columns from 3072, entry by entry. -/
theorem entry_q (x : Fin 2048) (l : Fin 256) :
    (dats m 0 c).arrAt 7 cfg0.N (ix2 x l : S2048x256.Idx) = val_main_v19 (F := Ideal) (aX m c) (aG m c) (aW m c) (ix2 x l) := by
  have h1 := congrFun (Cert.Kernel6Ideal.Value.blocks7 m c (pt x) (flush7 _)) (ix2 (at' x) l)
  rw [Cert.Kernel6Ideal.Value.flushed7] at h1
  have h3 : (outsAt0 m c (pt x).val (pt x).isLt).2.2.2.2.1 (ix2 (at' x) l)
      = (∑ k : Fin 1024, val_main_v11 (F := Ideal) (aX m c) (aG m c) (ix2 (row (pt x) (at' x)) k) * aW m c (ix2 k ⟨3072 + l.val, by omega⟩) : EReal) := by
    rw [out7]
    refine (prod_q _ _ _ _).trans (Finset.sum_congr rfl fun k _ => ?_)
    exact congrArg₂ (· * ·) (normed_block m c (pt x) (at' x) k) (cols3072 (aW m c) k l)
  have h2 := (congrArg ((dats m 0 c).arrAt 7 cfg0.N) (emb7 (pt x) (at' x) l)).symm.trans (h1.trans h3)
  rw [row_pt] at h2
  exact h2.trans (ref_q _ _ _ _ _).symm

/-- The projection's columns from 3072. -/
theorem result_q : (dats m 0 c).arrAt 7 cfg0.N = val_main_v19 (F := Ideal) (aX m c) (aG m c) (aW m c) := by
  funext (i : S2048x256.Idx)
  rw [eq_ix2 i]
  exact entry_q m c (i 0) (i 1)

theorem flush8 (t : Fin cfg0.N) : (cfg0.win 8).flush t = true := (by decide +kernel : ∀ t : Fin grid0.N, win0_8.flush t = true) t

/-- An entry of the product with the columns from 3328. -/
theorem prod_z (n : FVec Ideal S256x1024 .bf16) (B : Vec Ideal S1024x1280 .bf16) (x : Fin 256) (l : Fin 1280) :
    k0_pay3 n B (ix2 x l) = ∑ k : Fin 1024, n (ix2 x k) * B (ix2 k l) := by
  unfold k0_pay3
  pointwise

/-- The reference's projection, its columns from 3328. -/
theorem ref_z (h : FVec Ideal S2048x1024 .f32) (g : FVec Ideal S1x1024 .f32) (w : FVec Ideal S1024x4608 .f32) (x : Fin 2048) (l : Fin 1280) :
    val_main_v17 (F := Ideal) h g w (ix2 x l) = (∑ k : Fin 1024, val_main_v11 (F := Ideal) h g (ix2 x k) * w (ix2 k ⟨3328 + l.val, by omega⟩) : EReal) := by
  unfold val_main_v17 val_main_v12
  generalize val_main_v11 (F := Ideal) h g = n
  pointwise

/-- The projection's columns from 3328, entry by entry. -/
theorem entry_z (x : Fin 2048) (l : Fin 1280) :
    (dats m 0 c).arrAt 8 cfg0.N (ix2 x l : S2048x1280.Idx) = val_main_v17 (F := Ideal) (aX m c) (aG m c) (aW m c) (ix2 x l) := by
  have h1 := congrFun (Cert.Kernel6Ideal.Value.blocks8 m c (pt x) (flush8 _)) (ix2 (at' x) l)
  rw [Cert.Kernel6Ideal.Value.flushed8] at h1
  have h3 : (outsAt0 m c (pt x).val (pt x).isLt).2.2.2.2.2.1 (ix2 (at' x) l)
      = (∑ k : Fin 1024, val_main_v11 (F := Ideal) (aX m c) (aG m c) (ix2 (row (pt x) (at' x)) k) * aW m c (ix2 k ⟨3328 + l.val, by omega⟩) : EReal) := by
    rw [out8]
    refine (prod_z _ _ _ _).trans (Finset.sum_congr rfl fun k _ => ?_)
    exact congrArg₂ (· * ·) (normed_block m c (pt x) (at' x) k) (cols3328 (aW m c) k l)
  have h2 := (congrArg ((dats m 0 c).arrAt 8 cfg0.N) (emb8 (pt x) (at' x) l)).symm.trans (h1.trans h3)
  rw [row_pt] at h2
  exact h2.trans (ref_z _ _ _ _ _).symm

/-- The projection's columns from 3328. -/
theorem result_z : (dats m 0 c).arrAt 8 cfg0.N = val_main_v17 (F := Ideal) (aX m c) (aG m c) (aW m c) := by
  funext (i : S2048x1280.Idx)
  rw [eq_ix2 i]
  exact entry_z m c (i 0) (i 1)

end Cert.InprojConv

end
-- ==== Proof.WgradOut1.lean ====
module

public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.StableHlo.RunRead
public import Idealize.ShloMosaic.Lib.Claim
public import Idealize.ShloMosaic.Lib.Pointwise

@[expose] public section

set_option maxRecDepth 16384

noncomputable section

namespace Cert.WgradOut1

open Cert.Kernel7Ideal Cert.Kernel7Ideal.Gen Idealize.ShloMosaic Idealize.ShloMosaic.TcCoe Idealize.SL.Sem
open Cert.Reference7Ideal.Read

variable (m : (ℓ : Loc nD τ sig) → Buf (Elt Ideal) ℓ) (c : Dev nD)

/-- The arguments: the branch's output and the cotangent of the projection. -/
abbrev aY : S2048x1280.Idx → EReal := m ((c : Thread nD τ).loc main_arg0)
abbrev aD : S2048x1024.Idx → EReal := m ((c : Thread nD τ).loc main_arg2)

/-- What one grid point computes: four shares of the rows times the cotangent. -/
theorem block_apply (a : FVec Ideal S640x2048 .bf16) (b : FVec Ideal S2048x1024 .bf16) (s : Fin 4) (j : Fin 160) (l : Fin 1024) :
    k0_pay1 (F := Ideal) a b (ix3 s j l) = ∑ k : Fin 2048, a (ix2 ⟨s.val * 160 + j.val, by omega⟩ k) * b (ix2 k l) := by
  pointwise [k0_pay1]

/-- A grid point's output block is its product. -/
theorem out_eq (a : FVec Ideal S640x2048 .bf16) (b : FVec Ideal S2048x1024 .bf16) : out0_2 (F := Ideal) a b = k0_pay1 (F := Ideal) a b := by
  unfold out0_2
  rw [View.canon_unit_zero (by decide), View.ld_unit_zero (by decide), View.ld_unit_zero (by decide)]

/-- The transposed output the launch finds. -/
theorem V_y : V m c main_v1 = transpose S1280x2048 [1, 0] (aY m c) transposes_S2048x1280_S1280x2048_1_0 := by
  unfold_abbrev_sides
  after_reads_simp
  rfl

/-- The cotangent the launch finds. -/
theorem V_d : V m c main_v2 = aD m c := by
  unfold_abbrev_sides
  after_reads_simp
  rfl

theorem index0 : ∀ t : Fin cfg0.N, win0_0.index t = ![t.val, 0] ∧ win0_1.index t = ![0, 0] ∧ win0_2.index t = ![t.val, 0, 0] :=
  (by decide +kernel : ∀ t : Fin grid0.N, win0_0.index t = ![t.val, 0] ∧ win0_1.index t = ![0, 0] ∧ win0_2.index t = ![t.val, 0, 0])

theorem points : cfg0.N = 2 := by decide

/-- The transposed output's block at a grid point: the point's 640 rows. -/
theorem blk_y (t : Fin cfg0.N) (r : Fin 640) (k : Fin 2048) (h : t.val * 640 + r.val < 1280) :
    iblk m c 0 t (ix2 r k) = aY m c (ix2 k ⟨t.val * 640 + r.val, h⟩) := by
  have e : (win0_0.rect t).emb (ix2 r k) = (ix2 ⟨t.val * 640 + r.val, h⟩ k : S1280x2048.Idx) := by
    funext a
    match a with
    | ⟨0, _⟩ => exact Fin.ext ((win0_0.rect_emb_val t (ix2 r k) 0).trans (by rw [(index0 t).1]; rfl))
    | ⟨1, _⟩ => exact Fin.ext ((win0_0.rect_emb_val t (ix2 r k) 1).trans (by rw [(index0 t).1]; simp))
  refine (congrArg (V m c main_v1) e).trans ?_
  rw [V_y]
  pointwise

/-- The cotangent's block is the whole array. -/
theorem blk_d (t : Fin cfg0.N) (k : Fin 2048) (l : Fin 1024) :
    iblk m c 1 t (ix2 k l) = aD m c (ix2 k l) := by
  have e : (win0_1.rect t).emb (ix2 k l) = (ix2 k l : S2048x1024.Idx) := by
    funext a
    match a with
    | ⟨0, _⟩ => exact Fin.ext ((win0_1.rect_emb_val t (ix2 k l) 0).trans (by rw [(index0 t).2.1]; simp))
    | ⟨1, _⟩ => exact Fin.ext ((win0_1.rect_emb_val t (ix2 k l) 1).trans (by rw [(index0 t).2.1]; simp))
  exact (congrArg (V m c main_v2) e).trans (by rw [V_d])

/-- An entry of the reference's gradient. -/
theorem ref_apply (y : S2048x1280.Idx → EReal) (d : S2048x1024.Idx → EReal) (s : Fin 8) (j : Fin 160) (l : Fin 1024) :
    val_main_v4 (F := Ideal) y d (ix3 s j l)
      = ∑ k : Fin 2048, d (ix2 k l) * y (ix2 k ⟨s.val * 160 + j.val, by omega⟩) := by
  pointwise [val_main_v4, val_main_v3, val_main_v2, val_main_v1]

/-- The grid point that computes a share. -/
abbrev pt (s : Fin 8) : Fin cfg0.N := ⟨s.val / 4, by rw [points]; omega⟩

/-- The kernel's array is the reference's, entry by entry. -/
theorem result_apply (s : Fin 8) (j : Fin 160) (l : Fin 1024) :
    (dats m 0 c).arrAt 2 cfg0.N (ix3 s j l : S8x160x1024.Idx) = val_main_v4 (F := Ideal) (aY m c) (aD m c) (ix3 s j l) := by
  have hf : (cfg0.win 2).flush (pt s) = true := (by decide +kernel : ∀ t : Fin grid0.N, win0_2.flush t = true) (pt s)
  have h1 := congrFun (Cert.Kernel7Ideal.Value.blocks2 m c (pt s) hf) (ix3 ⟨s.val % 4, by omega⟩ j l)
  rw [Cert.Kernel7Ideal.Value.flushed2, out_eq] at h1
  have e : (win0_2.rect (pt s)).emb (ix3 ⟨s.val % 4, by omega⟩ j l) = (ix3 s j l : S8x160x1024.Idx) := by
    funext a
    match a with
    | ⟨0, _⟩ => exact Fin.ext ((win0_2.rect_emb_val (pt s) (ix3 ⟨s.val % 4, by omega⟩ j l) 0).trans (by
        rw [(index0 (pt s)).2.2]; show s.val / 4 * 4 + s.val % 4 = s.val; omega))
    | ⟨1, _⟩ => exact Fin.ext ((win0_2.rect_emb_val (pt s) (ix3 ⟨s.val % 4, by omega⟩ j l) 1).trans (by rw [(index0 (pt s)).2.2]; simp))
    | ⟨2, _⟩ => exact Fin.ext ((win0_2.rect_emb_val (pt s) (ix3 ⟨s.val % 4, by omega⟩ j l) 2).trans (by rw [(index0 (pt s)).2.2]; simp))
  have h2 := (congrArg ((dats m 0 c).arrAt 2 cfg0.N) e).symm.trans h1
  refine h2.trans ?_
  show k0_pay1 (F := Ideal) (iblk m c 0 (pt s)) (iblk m c 1 (pt s)) (ix3 ⟨s.val % 4, by omega⟩ j l) = _
  rw [block_apply, ref_apply]
  refine Finset.sum_congr rfl fun k _ => ?_
  rw [blk_y m c (pt s) ⟨s.val % 4 * 160 + j.val, by omega⟩ k (by show s.val / 4 * 640 + (s.val % 4 * 160 + j.val) < 1280; omega), blk_d]
  rw [show (⟨(pt s).val * 640 + (s.val % 4 * 160 + j.val), _⟩ : Fin 1280) = ⟨s.val * 160 + j.val, by omega⟩ from
    Fin.ext (by show s.val / 4 * 640 + (s.val % 4 * 160 + j.val) = s.val * 160 + j.val; omega)]
  exact mul_comm _ _

/-- The kernel's array is the reference's. -/
theorem result : (dats m 0 c).arrAt 2 cfg0.N = val_main_v4 (F := Ideal) (aY m c) (aD m c) := by
  funext (i : S8x160x1024.Idx)
  rw [eq_ix3 i]
  exact result_apply m c (i 0) (i 1) (i 2)

end Cert.WgradOut1

end
-- ==== Proof.WgradOut0.lean ====
module

public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.StableHlo.RunRead
public import Idealize.ShloMosaic.Lib.Claim
public import Idealize.ShloMosaic.Lib.Pointwise

@[expose] public section

set_option maxRecDepth 16384

noncomputable section

namespace Cert.WgradOut0

open Cert.Kernel8Ideal Cert.Kernel8Ideal.Gen Idealize.ShloMosaic Idealize.ShloMosaic.TcCoe Idealize.SL.Sem
open Cert.Reference8Ideal.Read

variable (m : (ℓ : Loc nD τ sig) → Buf (Elt Ideal) ℓ) (c : Dev nD)

/-- The arguments: the branch's output and the cotangent of the projection. -/
abbrev aY : S2048x768.Idx → EReal := m ((c : Thread nD τ).loc main_arg0)
abbrev aD : S2048x1024.Idx → EReal := m ((c : Thread nD τ).loc main_arg2)

/-- The entry a grid point computes for one of its four shares: a row of the transposed output times a column of the cotangent. -/
abbrev entry (a : FVec Ideal S768x2048 .bf16) (b : FVec Ideal S2048x512 .bf16) (i : S4x768x128.Idx) : EReal :=
  ∑ k : Fin 2048, a (ix2 (i 1) k) * b (ix2 k ⟨(i 0).val * 128 + (i 2).val, by have h0 : (i 0).val < 4 := (i 0).isLt; have h2 : (i 2).val < 128 := (i 2).isLt; omega⟩)

/-- The store of share 0. -/
theorem piece0 (a : FVec Ideal S768x2048 .bf16) (b : FVec Ideal S2048x512 .bf16) (x : S1x768x128.Idx) : k0_pay2 (F := Ideal) a b x = entry a b (r0_2.emb x) := by
  rw [eq_ix3 x, Subsingleton.elim (α := Fin 1) (x 0) 0]
  generalize (x 1 : Fin 768) = j
  generalize (x 2 : Fin 128) = l
  have hl : l.val < 128 := l.isLt
  rw [show r0_2.emb (ix3 0 j l : S1x768x128.Idx) = (ix3 0 j l : S4x768x128.Idx) from by
    funext d
    match d with
    | ⟨0, _⟩ => exact Fin.ext (by simp [r0_2])
    | ⟨1, _⟩ => exact Fin.ext (by simp [r0_2])
    | ⟨2, _⟩ => exact Fin.ext (by simp [r0_2])]
  show _ = ∑ k : Fin 2048, a (ix2 j k) * b (ix2 k ⟨0 + l.val, by omega⟩)
  unfold k0_pay2 k0_pay1
  pointwise

/-- The store of share 1. -/
theorem piece1 (a : FVec Ideal S768x2048 .bf16) (b : FVec Ideal S2048x512 .bf16) (x : S1x768x128.Idx) : k0_pay3 (F := Ideal) a b x = entry a b (r0_3.emb x) := by
  rw [eq_ix3 x, Subsingleton.elim (α := Fin 1) (x 0) 0]
  generalize (x 1 : Fin 768) = j
  generalize (x 2 : Fin 128) = l
  have hl : l.val < 128 := l.isLt
  rw [show r0_3.emb (ix3 0 j l : S1x768x128.Idx) = (ix3 1 j l : S4x768x128.Idx) from by
    funext d
    match d with
    | ⟨0, _⟩ => exact Fin.ext (by simp [r0_3])
    | ⟨1, _⟩ => exact Fin.ext (by simp [r0_3])
    | ⟨2, _⟩ => exact Fin.ext (by simp [r0_3])]
  show _ = ∑ k : Fin 2048, a (ix2 j k) * b (ix2 k ⟨128 + l.val, by omega⟩)
  unfold k0_pay3 k0_pay1
  pointwise

/-- The store of share 2. -/
theorem piece2 (a : FVec Ideal S768x2048 .bf16) (b : FVec Ideal S2048x512 .bf16) (x : S1x768x128.Idx) : k0_pay4 (F := Ideal) a b x = entry a b (r0_4.emb x) := by
  rw [eq_ix3 x, Subsingleton.elim (α := Fin 1) (x 0) 0]
  generalize (x 1 : Fin 768) = j
  generalize (x 2 : Fin 128) = l
  have hl : l.val < 128 := l.isLt
  rw [show r0_4.emb (ix3 0 j l : S1x768x128.Idx) = (ix3 2 j l : S4x768x128.Idx) from by
    funext d
    match d with
    | ⟨0, _⟩ => exact Fin.ext (by simp [r0_4])
    | ⟨1, _⟩ => exact Fin.ext (by simp [r0_4])
    | ⟨2, _⟩ => exact Fin.ext (by simp [r0_4])]
  show _ = ∑ k : Fin 2048, a (ix2 j k) * b (ix2 k ⟨256 + l.val, by omega⟩)
  unfold k0_pay4 k0_pay1
  pointwise

/-- The store of share 3. -/
theorem piece3 (a : FVec Ideal S768x2048 .bf16) (b : FVec Ideal S2048x512 .bf16) (x : S1x768x128.Idx) : k0_pay5 (F := Ideal) a b x = entry a b (r0_5.emb x) := by
  rw [eq_ix3 x, Subsingleton.elim (α := Fin 1) (x 0) 0]
  generalize (x 1 : Fin 768) = j
  generalize (x 2 : Fin 128) = l
  have hl : l.val < 128 := l.isLt
  rw [show r0_5.emb (ix3 0 j l : S1x768x128.Idx) = (ix3 3 j l : S4x768x128.Idx) from by
    funext d
    match d with
    | ⟨0, _⟩ => exact Fin.ext (by simp [r0_5])
    | ⟨1, _⟩ => exact Fin.ext (by simp [r0_5])
    | ⟨2, _⟩ => exact Fin.ext (by simp [r0_5])]
  show _ = ∑ k : Fin 2048, a (ix2 j k) * b (ix2 k ⟨384 + l.val, by omega⟩)
  unfold k0_pay5 k0_pay1
  pointwise

/-- A grid point's output block: its four stores fill it. -/
theorem out_apply (a : FVec Ideal S768x2048 .bf16) (b : FVec Ideal S2048x512 .bf16) (s : Fin 4) (j : Fin 768) (l : Fin 128) :
    out0_2 (F := Ideal) a b (ix3 s j l) = ∑ k : Fin 2048, a (ix2 j k) * b (ix2 k ⟨s.val * 128 + l.val, by omega⟩) := by
  unfold out0_2
  rw [View.ld_unit_zero (by decide), View.ld_unit_zero (by decide)]
  refine View.canon_apply_of_pieces (Val := Elt Ideal) (show S4x768x128.Idx → Elt Ideal .bf16 from entry a b) _ (fun p hp x => ?_) (ix3 s j l) (cover0_2 _ _ _ _ _)
  simp only [List.mem_cons, List.not_mem_nil, or_false] at hp
  rcases hp with rfl | rfl | rfl | rfl
  · exact piece3 a b x
  · exact piece2 a b x
  · exact piece1 a b x
  · exact piece0 a b x

/-- The transposed output the launch finds. -/
theorem V_y : V m c main_v1 = transpose S768x2048 [1, 0] (aY m c) transposes_S2048x768_S768x2048_1_0 := by
  unfold_abbrev_sides
  after_reads_simp
  rfl

/-- The cotangent the launch finds. -/
theorem V_d : V m c main_v2 = aD m c := by
  unfold_abbrev_sides
  after_reads_simp
  rfl

theorem index0 : ∀ t : Fin cfg0.N, win0_0.index t = ![0, 0] ∧ win0_1.index t = ![0, t.val] ∧ win0_2.index t = ![t.val, 0, 0] :=
  (by decide +kernel : ∀ t : Fin grid0.N, win0_0.index t = ![0, 0] ∧ win0_1.index t = ![0, t.val] ∧ win0_2.index t = ![t.val, 0, 0])

theorem points : cfg0.N = 2 := by decide

/-- The transposed output's block is the whole array. -/
theorem blk_y (t : Fin cfg0.N) (r : Fin 768) (k : Fin 2048) : iblk m c 0 t (ix2 r k) = aY m c (ix2 k r) := by
  have e : (win0_0.rect t).emb (ix2 r k) = (ix2 r k : S768x2048.Idx) := by
    funext a
    match a with
    | ⟨0, _⟩ => exact Fin.ext ((win0_0.rect_emb_val t (ix2 r k) 0).trans (by rw [(index0 t).1]; simp))
    | ⟨1, _⟩ => exact Fin.ext ((win0_0.rect_emb_val t (ix2 r k) 1).trans (by rw [(index0 t).1]; simp))
  refine (congrArg (V m c main_v1) e).trans ?_
  rw [V_y]
  pointwise

/-- The cotangent's block at a grid point: the point's 512 columns. -/
theorem blk_d (t : Fin cfg0.N) (k : Fin 2048) (l : Fin 512) (h : t.val * 512 + l.val < 1024) :
    iblk m c 1 t (ix2 k l) = aD m c (ix2 k ⟨t.val * 512 + l.val, h⟩) := by
  have e : (win0_1.rect t).emb (ix2 k l) = (ix2 k ⟨t.val * 512 + l.val, h⟩ : S2048x1024.Idx) := by
    funext a
    match a with
    | ⟨0, _⟩ => exact Fin.ext ((win0_1.rect_emb_val t (ix2 k l) 0).trans (by rw [(index0 t).2.1]; simp))
    | ⟨1, _⟩ => exact Fin.ext ((win0_1.rect_emb_val t (ix2 k l) 1).trans (by rw [(index0 t).2.1]; rfl))
  exact (congrArg (V m c main_v2) e).trans (by rw [V_d])

/-- An entry of the reference's gradient. -/
theorem ref_apply (y : S2048x768.Idx → EReal) (d : S2048x1024.Idx → EReal) (s : Fin 8) (j : Fin 768) (l : Fin 128) :
    val_main_v5 (F := Ideal) y d (ix3 s j l)
      = ∑ k : Fin 2048, d (ix2 k ⟨s.val * 128 + l.val, by omega⟩) * y (ix2 k j) := by
  pointwise [val_main_v5, val_main_v4, val_main_v3, val_main_v2, val_main_v1]

/-- The grid point that computes a share. -/
abbrev pt (s : Fin 8) : Fin cfg0.N := ⟨s.val / 4, by rw [points]; omega⟩

/-- The kernel's array is the reference's, entry by entry. -/
theorem result_apply (s : Fin 8) (j : Fin 768) (l : Fin 128) :
    (dats m 0 c).arrAt 2 cfg0.N (ix3 s j l : S8x768x128.Idx) = val_main_v5 (F := Ideal) (aY m c) (aD m c) (ix3 s j l) := by
  have hf : (cfg0.win 2).flush (pt s) = true := (by decide +kernel : ∀ t : Fin grid0.N, win0_2.flush t = true) (pt s)
  have h1 := congrFun (Cert.Kernel8Ideal.Value.blocks2 m c (pt s) hf) (ix3 ⟨s.val % 4, by omega⟩ j l)
  rw [Cert.Kernel8Ideal.Value.flushed2] at h1
  have e : (win0_2.rect (pt s)).emb (ix3 ⟨s.val % 4, by omega⟩ j l) = (ix3 s j l : S8x768x128.Idx) := by
    funext a
    match a with
    | ⟨0, _⟩ => exact Fin.ext ((win0_2.rect_emb_val (pt s) (ix3 ⟨s.val % 4, by omega⟩ j l) 0).trans (by
        rw [(index0 (pt s)).2.2]; show s.val / 4 * 4 + s.val % 4 = s.val; omega))
    | ⟨1, _⟩ => exact Fin.ext ((win0_2.rect_emb_val (pt s) (ix3 ⟨s.val % 4, by omega⟩ j l) 1).trans (by rw [(index0 (pt s)).2.2]; simp))
    | ⟨2, _⟩ => exact Fin.ext ((win0_2.rect_emb_val (pt s) (ix3 ⟨s.val % 4, by omega⟩ j l) 2).trans (by rw [(index0 (pt s)).2.2]; simp))
  have h2 := (congrArg ((dats m 0 c).arrAt 2 cfg0.N) e).symm.trans h1
  refine h2.trans ?_
  show out0_2 (F := Ideal) (iblk m c 0 (pt s)) (iblk m c 1 (pt s)) (ix3 ⟨s.val % 4, by omega⟩ j l) = _
  rw [out_apply, ref_apply]
  refine Finset.sum_congr rfl fun k _ => ?_
  rw [blk_d m c (pt s) k ⟨s.val % 4 * 128 + l.val, by omega⟩ (by show s.val / 4 * 512 + (s.val % 4 * 128 + l.val) < 1024; omega), blk_y]
  rw [show (⟨(pt s).val * 512 + (s.val % 4 * 128 + l.val), _⟩ : Fin 1024) = ⟨s.val * 128 + l.val, by omega⟩ from
    Fin.ext (by show s.val / 4 * 512 + (s.val % 4 * 128 + l.val) = s.val * 128 + l.val; omega)]
  exact mul_comm _ _

/-- The kernel's array is the reference's. -/
theorem result : (dats m 0 c).arrAt 2 cfg0.N = val_main_v5 (F := Ideal) (aY m c) (aD m c) := by
  funext (i : S8x768x128.Idx)
  rw [eq_ix3 i]
  exact result_apply m c (i 0) (i 1) (i 2)

end Cert.WgradOut0

end
-- ==== Proof.lean ====
/- The certificate: the kernel and its reading over the reals run and leave their arguments as they were, the named
   constant is the printed one's reading, and over the reals the kernel's three gradients are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Results
public import proofs.«01_k».proof.Proof.Gen.Kernel4
public import proofs.«01_k».proof.Proof.Gen.Kernel4.Frame
public import proofs.«01_k».proof.Proof.Gen.Kernel2
public import proofs.«01_k».proof.Proof.Gen.Kernel2.Frame
public import proofs.«01_k».proof.Proof.Gen.Kernel6
public import proofs.«01_k».proof.Proof.Gen.Kernel6.Frame
public import proofs.«01_k».proof.Proof.WgradIn0
public import proofs.«01_k».proof.Proof.WgradIn1
public import proofs.«01_k».proof.Proof.NormConvResult
public import proofs.«01_k».proof.Proof.NormAttnResult
public import proofs.«01_k».proof.Proof.InprojConvResult
public import proofs.«01_k».proof.Proof.WgradOut1
public import proofs.«01_k».proof.Proof.WgradOut0
public import Idealize.ShloMosaic.Adequacy
public import Idealize.ShloMosaic.Init

@[expose] public section

set_option maxRecDepth 16384

noncomputable section

namespace Cert.Proof

open Idealize.ShloMosaic Idealize.SL.Sem Cert.AttnBwd

/-- Each device's buffers named by the precondition hold reals. -/
theorem args_of_pre (hf : Cert.Pre_finite.Facts) (m : (ℓ : Loc Cert.KernelIdeal.nD Cert.KernelIdeal.τ Cert.KernelIdeal.sig) → Buf (Elt Ideal) ℓ)
    (h : Cert.Pre_KernelIdeal_finite m) (c : Dev Cert.KernelIdeal.nD) : ArgsReal m c :=
  args_real _ _ _ _ _ _ hf (h c)

/-- The reference runs and leaves its arguments as they were; it has no semaphore. -/
theorem frame_ref : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

section
variable (m' : (ℓ : Loc Cert.ReferenceIdeal.nD Cert.ReferenceIdeal.τ Cert.ReferenceIdeal.sig) → Buf (Elt Ideal) ℓ) (c : Dev Cert.ReferenceIdeal.nD)

/-- The reference's queries' gradient of a device's arguments. -/
abbrev refQ : FVec Ideal Cert.ReferenceIdeal.S128x8192 .bf16 :=
  Cert.ReferenceIdeal.Read.val_main_v165 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
/-- The reference's keys' gradient of a device's arguments. -/
abbrev refK : FVec Ideal Cert.ReferenceIdeal.S128x8192 .bf16 :=
  Cert.ReferenceIdeal.Read.val_main_v167 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
/-- The reference's values' gradient of a device's arguments. -/
abbrev refV : FVec Ideal Cert.ReferenceIdeal.S128x8192 .bf16 :=
  Cert.ReferenceIdeal.Read.val_main_v169 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
end

/-- The reference's run, its results as the stages of its arguments. -/
theorem run_ref (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r =>
      ∀ c : Dev Cert.ReferenceIdeal.nD,
        r.2.mem ((c.tc : Thread Cert.ReferenceIdeal.nD Cert.ReferenceIdeal.τ).loc Cert.ReferenceIdeal.main_v165) = refQ m' c
        ∧ r.2.mem ((c.tc : Thread Cert.ReferenceIdeal.nD Cert.ReferenceIdeal.τ).loc Cert.ReferenceIdeal.main_v167) = refK m' c
        ∧ r.2.mem ((c.tc : Thread Cert.ReferenceIdeal.nD Cert.ReferenceIdeal.τ).loc Cert.ReferenceIdeal.main_v169) = refV m' c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5) :=
  (θ_run Cert.ReferenceIdeal.defs _ _).mono (fun r h c =>
    ⟨(h c).1.trans (Cert.ReferenceIdeal.Read.val_main_v165_eq (StableHlo.launchContents m' c)),
      (h c).2.1.trans (Cert.ReferenceIdeal.Read.val_main_v167_eq (StableHlo.launchContents m' c)),
      (h c).2.2.1.trans (Cert.ReferenceIdeal.Read.val_main_v169_eq (StableHlo.launchContents m' c)), (h c).2.2.2⟩)
    (Cert.ReferenceIdeal.Value.run (F := Ideal) m' g')

/-- Over the reals the kernel's gradients are the reference's. -/
theorem gradients (hf : Cert.Pre_finite.Facts) : Cert.algebraic_KernelIdeal_ReferenceIdeal_pre_finite (hKernelIdeal := Cert.KernelIdeal.Gen.facts)
    (hReferenceIdeal := Cert.ReferenceIdeal.Gen.facts) (hPre_finite := hf) := by
  intro m g m' g' hpre hag
  have hq : ∀ c, (Cert.KernelIdeal.Gen.dats m 0 c).arrAt 9 Cert.KernelIdeal.cfg0.N = refQ m' c := fun c => by
    obtain ⟨e0, e1, e2, e3, e4, e5⟩ := hag c
    rw [refQ, e0, e1, e2, e3, e4, e5]
    exact result_q m c (args_of_pre hf m hpre c)
  have hk : ∀ c, (Cert.KernelIdeal.Gen.dats m 0 c).arrAt 10 Cert.KernelIdeal.cfg0.N = refK m' c := fun c => by
    obtain ⟨e0, e1, e2, e3, e4, e5⟩ := hag c
    rw [refK, e0, e1, e2, e3, e4, e5]
    exact result_k m c (args_of_pre hf m hpre c)
  have hv : ∀ c, (Cert.KernelIdeal.Gen.dats m 0 c).arrAt 11 Cert.KernelIdeal.cfg0.N = refV m' c := fun c => by
    obtain ⟨e0, e1, e2, e3, e4, e5⟩ := hag c
    rw [refV, e0, e1, e3, e4]
    exact result_v m c (args_of_pre hf m hpre c)
  exact ⟨fun c => refQ m' c, fun c => refK m' c, fun c => refV m' c,
    (θ_run Cert.KernelIdeal.defs _ _).mono (fun r h c => ⟨(h c).1.trans (hq c), (h c).2.1.trans (hk c), (h c).2.2.1.trans (hv c), (h c).2.2.2⟩)
      (Cert.KernelIdeal.Value.run_blocks m g), run_ref m' g'⟩

/-- The reference of the gradient of the attention layer's input projection runs and leaves its arguments as they were. -/
theorem frame_ref3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- Over the reals the kernel's weight gradient of the attention layer's input projection is the reference's. -/
theorem projection3 : Cert.algebraic_Kernel3Ideal_Reference3Ideal (hKernel3Ideal := Cert.Kernel3Ideal.Gen.facts)
    (hReference3Ideal := Cert.Reference3Ideal.Gen.facts) := by
  intro m g m' g' _ hag
  refine ⟨fun c => (Cert.Kernel3Ideal.Gen.dats m 0 c).arrAt 2 Cert.Kernel3Ideal.cfg0.N, Cert.Kernel3Ideal.Value.run_blocks m g,
    (θ_run Cert.Reference3Ideal.defs _ _).mono (fun r h c => ⟨(h c).1.trans ?_, (h c).2⟩) (Cert.Reference3Ideal.Value.run (F := Ideal) m' g')⟩
  refine (Cert.Reference3Ideal.Read.val_main_v17_eq (F := Ideal) _ _ _).trans ?_
  obtain ⟨e0, e1, _, e3⟩ := hag c
  refine Eq.trans ?_ (Cert.WgradIn0.result m c).symm
  rw [e0, e1, e3]

/-- The reference of the gradient of the convolution layer's input projection runs and leaves its arguments as they were. -/
theorem frame_ref5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- Over the reals the kernel's weight gradient of the convolution layer's input projection is the reference's. -/
theorem projection5 : Cert.algebraic_Kernel5Ideal_Reference5Ideal (hKernel5Ideal := Cert.Kernel5Ideal.Gen.facts)
    (hReference5Ideal := Cert.Reference5Ideal.Gen.facts) := by
  intro m g m' g' _ hag
  refine ⟨fun c => (Cert.Kernel5Ideal.Gen.dats m 0 c).arrAt 2 Cert.Kernel5Ideal.cfg0.N, Cert.Kernel5Ideal.Value.run_blocks m g,
    (θ_run Cert.Reference5Ideal.defs _ _).mono (fun r h c => ⟨(h c).1.trans ?_, (h c).2⟩) (Cert.Reference5Ideal.Value.run (F := Ideal) m' g')⟩
  refine (Cert.Reference5Ideal.Read.val_main_v17_eq (F := Ideal) _ _ _).trans ?_
  obtain ⟨e0, e1, _, e3⟩ := hag c
  refine Eq.trans ?_ (Cert.WgradIn1.result m c).symm
  rw [e0, e1, e3]

/-- The reference of the gradient of the convolution layer's norm runs and leaves its arguments as they were. -/
theorem frame_ref4 : Cert.quiescent_Reference4Ideal (hReference4Ideal := Cert.Reference4Ideal.Gen.facts) := fun m g _ =>
  (θ_run Cert.Reference4Ideal.defs _ _).mono (fun r h => ⟨fun c => (h c).2.2.2.2, sem_eq_zero_of_no_sems (by decide) r.2⟩)
    (Cert.Reference4Ideal.Value.run (F := Ideal) m g)

/-- Over the reals the kernel's gradients of the convolution layer's input and of its norm's gain, the second copy and the
    transpose are the reference's. -/
theorem projection4 : Cert.algebraic_Kernel4Ideal_Reference4Ideal (hKernel4Ideal := Cert.Kernel4Ideal.Gen.facts)
    (hReference4Ideal := Cert.Reference4Ideal.Gen.facts) := by
  intro m g m' g' _ hag
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N,
    fun c => (Cert.Kernel4Ideal.Gen.dats m 0 c).arrAt 11 Cert.Kernel4Ideal.cfg0.N, fun c => (Cert.Kernel4Ideal.Gen.dats m 0 c).arrAt 12 Cert.Kernel4Ideal.cfg0.N,
    Cert.Kernel4Ideal.Value.run_blocks m g,
    (θ_run Cert.Reference4Ideal.defs _ _).mono (fun r h c => ⟨(h c).1.trans ?_, (h c).2.1.trans ?_, (h c).2.2.1.trans ?_, (h c).2.2.2.1.trans ?_, (h c).2.2.2.2⟩)
      (Cert.Reference4Ideal.Value.run (F := Ideal) m' g')⟩
  all_goals obtain ⟨e0, e1, e2, e3, e4⟩ := hag c
  · refine (Cert.Reference4Ideal.Read.val_main_v36_eq (F := Ideal) m' c).trans (Eq.trans ?_ (Cert.NormConv.result_dh m c).symm)
    rw [e0, e1, e2, e3, e4]
  · refine (Cert.Reference4Ideal.Read.val_main_v19_eq (F := Ideal) _ _ _).trans (Eq.trans ?_ (Cert.NormConv.result_gain m c).symm)
    rw [e0, e2, e4]
  · refine (Cert.Reference4Ideal.Read.val_main_v37_eq (F := Ideal) m' c).trans (Eq.trans ?_ (Cert.NormConv.result_dh2 m c).symm)
    rw [e0, e1, e2, e3, e4]
  · refine (Cert.Reference4Ideal.Read.val_main_v39_eq (F := Ideal) _).trans (Eq.trans ?_ (Cert.NormConv.result_turn m c).symm)
    rw [e4]

/-- The reference of the gradient of the attention layer's norm runs and leaves its arguments as they were. -/
theorem frame_ref2 : Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run (F := Ideal) m g)

/-- Over the reals the kernel's gradients of the attention layer's input and of its norm's gain are the reference's. -/
theorem projection2 : Cert.algebraic_Kernel2Ideal_Reference2Ideal (hKernel2Ideal := Cert.Kernel2Ideal.Gen.facts)
    (hReference2Ideal := Cert.Reference2Ideal.Gen.facts) := by
  intro m g m' g' _ hag
  refine ⟨fun c => (Cert.Kernel2Ideal.Gen.dats m 0 c).arrAt 15 Cert.Kernel2Ideal.cfg0.N, fun c => (Cert.Kernel2Ideal.Gen.dats m 0 c).arrAt 16 Cert.Kernel2Ideal.cfg0.N,
    Cert.Kernel2Ideal.Value.run_blocks m g,
    (θ_run Cert.Reference2Ideal.defs _ _).mono (fun r h c => ⟨(h c).1.trans ?_, (h c).2.1.trans ?_, (h c).2.2⟩)
      (Cert.Reference2Ideal.Value.run (F := Ideal) m' g')⟩
  all_goals obtain ⟨e0, e1, e2, e3, e4⟩ := hag c
  · refine (Cert.Reference2Ideal.Read.val_main_v36_eq (F := Ideal) m' c).trans (Eq.trans ?_ (Cert.NormAttn.result_dh m c).symm)
    rw [e0, e1, e2, e3, e4]
  · refine (Cert.Reference2Ideal.Read.val_main_v19_eq (F := Ideal) _ _ _).trans (Eq.trans ?_ (Cert.NormAttn.result_gain m c).symm)
    rw [e0, e2, e4]

/-- The reference of the convolution layer's norm and input projection runs and leaves its arguments as they were. -/
theorem frame_ref6 : Cert.quiescent_Reference6Ideal (hReference6Ideal := Cert.Reference6Ideal.Gen.facts) := fun m g _ =>
  (θ_run Cert.Reference6Ideal.defs _ _).mono (fun r h => ⟨fun c => (h c).2.2.2.2.2.2, sem_eq_zero_of_no_sems (by decide) r.2⟩)
    (Cert.Reference6Ideal.Value.run (F := Ideal) m g)

/-- Over the reals the kernel's normed rows and its five parts of the projection are the reference's. -/
theorem projection6 : Cert.algebraic_Kernel6Ideal_Reference6Ideal (hKernel6Ideal := Cert.Kernel6Ideal.Gen.facts)
    (hReference6Ideal := Cert.Reference6Ideal.Gen.facts) := by
  intro m g m' g' _ hag
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    Cert.Kernel6Ideal.Value.run_blocks m g,
    (θ_run Cert.Reference6Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference6Ideal.Value.run (F := Ideal) m' g')⟩
  all_goals obtain ⟨e0, e1, e2⟩ := hag c
  · refine (Cert.Reference6Ideal.Read.val_main_v18_eq (F := Ideal) _ _).trans (Eq.trans ?_ (Cert.InprojConv.result_hn m c).symm)
    rw [e0, e1]
  · refine (Cert.Reference6Ideal.Read.val_main_v13_eq (F := Ideal) _ _ _).trans (Eq.trans ?_ (Cert.InprojConv.result_b m c).symm)
    rw [e0, e1, e2]
  · refine (Cert.Reference6Ideal.Read.val_main_v14_eq (F := Ideal) _ _ _).trans (Eq.trans ?_ (Cert.InprojConv.result_c m c).symm)
    rw [e0, e1, e2]
  · refine (Cert.Reference6Ideal.Read.val_main_v15_eq (F := Ideal) _ _ _).trans (Eq.trans ?_ (Cert.InprojConv.result_u m c).symm)
    rw [e0, e1, e2]
  · refine (Cert.Reference6Ideal.Read.val_main_v19_eq (F := Ideal) _ _ _).trans (Eq.trans ?_ (Cert.InprojConv.result_q m c).symm)
    rw [e0, e1, e2]
  · refine (Cert.Reference6Ideal.Read.val_main_v17_eq (F := Ideal) _ _ _).trans (Eq.trans ?_ (Cert.InprojConv.result_z m c).symm)
    rw [e0, e1, e2]

/-- The reference of the gradient of the convolution layer's output projection runs and leaves its arguments as they were. -/
theorem frame_ref7 : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

/-- Over the reals the kernel's weight gradient of the convolution layer's output projection is the reference's. -/
theorem projection7 : Cert.algebraic_Kernel7Ideal_Reference7Ideal (hKernel7Ideal := Cert.Kernel7Ideal.Gen.facts)
    (hReference7Ideal := Cert.Reference7Ideal.Gen.facts) := by
  intro m g m' g' _ hag
  refine ⟨fun c => (Cert.Kernel7Ideal.Gen.dats m 0 c).arrAt 2 Cert.Kernel7Ideal.cfg0.N, Cert.Kernel7Ideal.Value.run_blocks m g,
    (θ_run Cert.Reference7Ideal.defs _ _).mono (fun r h c => ⟨(h c).1.trans ?_, (h c).2⟩) (Cert.Reference7Ideal.Value.run (F := Ideal) m' g')⟩
  refine (Cert.Reference7Ideal.Read.val_main_v4_eq (F := Ideal) _ _).trans ?_
  obtain ⟨e0, _, e2⟩ := hag c
  refine Eq.trans ?_ (Cert.WgradOut1.result m c).symm
  rw [e0, e2]

/-- The reference of the gradient of the attention layer's output projection runs and leaves its arguments as they were. -/
theorem frame_ref8 : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

/-- Over the reals the kernel's weight gradient of the attention layer's output projection is the reference's. -/
theorem projection8 : Cert.algebraic_Kernel8Ideal_Reference8Ideal (hKernel8Ideal := Cert.Kernel8Ideal.Gen.facts)
    (hReference8Ideal := Cert.Reference8Ideal.Gen.facts) := by
  intro m g m' g' _ hag
  refine ⟨fun c => (Cert.Kernel8Ideal.Gen.dats m 0 c).arrAt 2 Cert.Kernel8Ideal.cfg0.N, Cert.Kernel8Ideal.Value.run_blocks m g,
    (θ_run Cert.Reference8Ideal.defs _ _).mono (fun r h c => ⟨(h c).1.trans ?_, (h c).2⟩) (Cert.Reference8Ideal.Value.run (F := Ideal) m' g')⟩
  refine (Cert.Reference8Ideal.Read.val_main_v5_eq (F := Ideal) _ _).trans ?_
  obtain ⟨e0, _, e2⟩ := hag c
  refine Eq.trans ?_ (Cert.WgradOut0.result m c).symm
  rw [e0, e2]

/-- Every claim of the certificate holds. -/
theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts, Cert.Kernel5.Gen.facts, Cert.Kernel5Ideal.Gen.facts, Cert.Reference5Ideal.Gen.facts, Cert.Kernel4.Gen.facts, Cert.Kernel4Ideal.Gen.facts, Cert.Reference4Ideal.Gen.facts, Cert.Kernel2.Gen.facts, Cert.Kernel2Ideal.Gen.facts, Cert.Reference2Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, pre_facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel3.Gen.frame m ρ, fun m ρ _ => Cert.Kernel3Ideal.Gen.frame m ρ, frame_ref3,
  fun m ρ _ => Cert.Kernel5.Gen.frame m ρ, fun m ρ _ => Cert.Kernel5Ideal.Gen.frame m ρ, frame_ref5,
  fun m ρ _ => Cert.Kernel4.Gen.frame m ρ, fun m ρ _ => Cert.Kernel4Ideal.Gen.frame m ρ, frame_ref4,
  fun m ρ _ => Cert.Kernel2.Gen.frame m ρ, fun m ρ _ => Cert.Kernel2Ideal.Gen.frame m ρ, frame_ref2,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  IdealRules.named_const.statement Cert.KernelIdeal.κ "mask" .f32 0xF149F2CA#32 ⊥ rfl, gradients pre_facts, trivial, projection3, trivial, projection5, trivial, projection4, trivial, projection2, trivial, projection6, trivial, projection7, trivial, projection8⟩

end Cert.Proof

end
